-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_finite [hPre_attn_finite : Cert.Pre_attn_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_finite [hPre_attn_finite : Cert.Pre_attn_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXRefIdeal (m : (ℓ : Loc Cert.NormXRefIdeal.nD Cert.NormXRefIdeal.τ Cert.NormXRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_DwFfnOutRefIdeal (m : (ℓ : Loc Cert.DwFfnOutRefIdeal.nD Cert.DwFfnOutRefIdeal.τ Cert.DwFfnOutRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_finite [hAttnFwdIdeal : Cert.AttnFwdIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_finite [hAttnFwdRefIdeal : Cert.AttnFwdRefIdeal.Facts] [hPre_attn_finite : Cert.Pre_attn_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ r.2.sem = fun _ => 0)

def quiescent_NormXRefIdeal [hNormXRefIdeal : Cert.NormXRefIdeal.Facts] : Prop :=
  ∀ (m : (ℓ : Loc Cert.NormXRefIdeal.nD Cert.NormXRefIdeal.τ Cert.NormXRefIdeal.sig) → Buf (Elt Ideal) ℓ) (g : Dev Cert.NormXRefIdeal.nD → PrngReg), Pre_NormXRefIdeal m →
    θ_run (Cert.NormXRefIdeal.defs (F := Ideal)) (onTc (τ := Cert.NormXRefIdeal.τ) (Cert.NormXRefIdeal.main (F := Ideal))) ⟨m, fun _ => 0, g⟩ (fun r => (∀ c : Dev Cert.NormXRefIdeal.nD,
      r.2.mem ((c.tc : Thread Cert.NormXRefIdeal.nD Cert.NormXRefIdeal.τ).loc Cert.NormXRefIdeal.main_arg0) = m ((c.tc : Thread Cert.NormXRefIdeal.nD Cert.NormXRefIdeal.τ).loc Cert.NormXRefIdeal.main_arg0)
      ∧ r.2.mem ((c.tc : Thread Cert.NormXRefIdeal.nD Cert.NormXRefIdeal.τ).loc Cert.NormXRefIdeal.main_arg1) = m ((c.tc : Thread Cert.NormXRefIdeal.nD Cert.NormXRefIdeal.τ).loc Cert.NormXRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_DwFfnOutRefIdeal [hDwFfnOutRefIdeal : Cert.DwFfnOutRefIdeal.Facts] : Prop :=
  ∀ (m : (ℓ : Loc Cert.DwFfnOutRefIdeal.nD Cert.DwFfnOutRefIdeal.τ Cert.DwFfnOutRefIdeal.sig) → Buf (Elt Ideal) ℓ) (g : Dev Cert.DwFfnOutRefIdeal.nD → PrngReg), Pre_DwFfnOutRefIdeal m →
    θ_run (Cert.DwFfnOutRefIdeal.defs (F := Ideal)) (onTc (τ := Cert.DwFfnOutRefIdeal.τ) (Cert.DwFfnOutRefIdeal.main (F := Ideal))) ⟨m, fun _ => 0, g⟩ (fun r => (∀ c : Dev Cert.DwFfnOutRefIdeal.nD,
      r.2.mem ((c.tc : Thread Cert.DwFfnOutRefIdeal.nD Cert.DwFfnOutRefIdeal.τ).loc Cert.DwFfnOutRefIdeal.main_arg0) = m ((c.tc : Thread Cert.DwFfnOutRefIdeal.nD Cert.DwFfnOutRefIdeal.τ).loc Cert.DwFfnOutRefIdeal.main_arg0)
      ∧ r.2.mem ((c.tc : Thread Cert.DwFfnOutRefIdeal.nD Cert.DwFfnOutRefIdeal.τ).loc Cert.DwFfnOutRefIdeal.main_arg1) = m ((c.tc : Thread Cert.DwFfnOutRefIdeal.nD Cert.DwFfnOutRefIdeal.τ).loc Cert.DwFfnOutRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Gate_GateIdeal : Prop :=
  IdealRules.named_const.Statement Cert.GateIdeal.κ "gelu_cubic" .bf16 0x3D37#16 ((12003091 / 268435456 : ℝ) : EReal)
  ∧ IdealRules.named_const.Statement Cert.GateIdeal.κ "sqrt_2_over_pi" .bf16 0x3F4C#16 ((6693141 / 8388608 : ℝ) : EReal)
  ∧ IdealRules.named_const.Statement Cert.GateIdeal.κ "gelu_cubic_3" .bf16 0x3E09#16 ((36009273 / 268435456 : ℝ) : EReal)

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v11_0)) (v1 : (c : Dev Cert.GateIdeal.nD) → Buf (Elt Ideal) ((c.tc : Thread Cert.GateIdeal.nD Cert.GateIdeal.τ).loc Cert.GateIdeal.main_v11_1)) (v2 : (c : Dev Cert.GateIdeal.nD) → Buf (Elt Ideal) ((c.tc : Thread Cert.GateIdeal.nD Cert.GateIdeal.τ).loc Cert.GateIdeal.main_v11_2)) (v3 : (c : Dev Cert.GateIdeal.nD) → Buf (Elt Ideal) ((c.tc : Thread Cert.GateIdeal.nD Cert.GateIdeal.τ).loc Cert.GateIdeal.main_v11_3)) (v4 : (c : Dev Cert.GateIdeal.nD) → Buf (Elt Ideal) ((c.tc : Thread Cert.GateIdeal.nD Cert.GateIdeal.τ).loc Cert.GateIdeal.main_v11_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11_0) = v0 c
          ∧ r.2.mem ((c.tc : Thread Cert.GateIdeal.nD Cert.GateIdeal.τ).loc Cert.GateIdeal.main_v11_1) = v1 c
          ∧ r.2.mem ((c.tc : Thread Cert.GateIdeal.nD Cert.GateIdeal.τ).loc Cert.GateIdeal.main_v11_2) = v2 c
          ∧ r.2.mem ((c.tc : Thread Cert.GateIdeal.nD Cert.GateIdeal.τ).loc Cert.GateIdeal.main_v11_3) = v3 c
          ∧ r.2.mem ((c.tc : Thread Cert.GateIdeal.nD Cert.GateIdeal.τ).loc Cert.GateIdeal.main_v11_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v79) = v0 c
          ∧ r.2.mem ((c.tc : Thread Cert.GateRefIdeal.nD Cert.GateRefIdeal.τ).loc Cert.GateRefIdeal.main_v80) = v1 c
          ∧ r.2.mem ((c.tc : Thread Cert.GateRefIdeal.nD Cert.GateRefIdeal.τ).loc Cert.GateRefIdeal.main_v81) = v2 c
          ∧ r.2.mem ((c.tc : Thread Cert.GateRefIdeal.nD Cert.GateRefIdeal.τ).loc Cert.GateRefIdeal.main_v82) = v3 c
          ∧ r.2.mem ((c.tc : Thread Cert.GateRefIdeal.nD Cert.GateRefIdeal.τ).loc Cert.GateRefIdeal.main_v83) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v7_0)) (v1 : (c : Dev Cert.ConvIdeal.nD) → Buf (Elt Ideal) ((c.tc : Thread Cert.ConvIdeal.nD Cert.ConvIdeal.τ).loc Cert.ConvIdeal.main_v7_1)) (v2 : (c : Dev Cert.ConvIdeal.nD) → Buf (Elt Ideal) ((c.tc : Thread Cert.ConvIdeal.nD Cert.ConvIdeal.τ).loc Cert.ConvIdeal.main_v7_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v7_0) = v0 c
          ∧ r.2.mem ((c.tc : Thread Cert.ConvIdeal.nD Cert.ConvIdeal.τ).loc Cert.ConvIdeal.main_v7_1) = v1 c
          ∧ r.2.mem ((c.tc : Thread Cert.ConvIdeal.nD Cert.ConvIdeal.τ).loc Cert.ConvIdeal.main_v7_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v92) = v0 c
          ∧ r.2.mem ((c.tc : Thread Cert.ConvRefIdeal.nD Cert.ConvRefIdeal.τ).loc Cert.ConvRefIdeal.main_v86) = v1 c
          ∧ r.2.mem ((c.tc : Thread Cert.ConvRefIdeal.nD Cert.ConvRefIdeal.τ).loc Cert.ConvRefIdeal.main_v93) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v5_0)) (v1 : (c : Dev Cert.FfnInIdeal.nD) → Buf (Elt Ideal) ((c.tc : Thread Cert.FfnInIdeal.nD Cert.FfnInIdeal.τ).loc Cert.FfnInIdeal.main_v5_1)) (v2 : (c : Dev Cert.FfnInIdeal.nD) → Buf (Elt Ideal) ((c.tc : Thread Cert.FfnInIdeal.nD Cert.FfnInIdeal.τ).loc Cert.FfnInIdeal.main_v5_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v5_0) = v0 c
          ∧ r.2.mem ((c.tc : Thread Cert.FfnInIdeal.nD Cert.FfnInIdeal.τ).loc Cert.FfnInIdeal.main_v5_1) = v1 c
          ∧ r.2.mem ((c.tc : Thread Cert.FfnInIdeal.nD Cert.FfnInIdeal.τ).loc Cert.FfnInIdeal.main_v5_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v41) = v0 c
          ∧ r.2.mem ((c.tc : Thread Cert.FfnInRefIdeal.nD Cert.FfnInRefIdeal.τ).loc Cert.FfnInRefIdeal.main_v42) = v1 c
          ∧ r.2.mem ((c.tc : Thread Cert.FfnInRefIdeal.nD Cert.FfnInRefIdeal.τ).loc Cert.FfnInRefIdeal.main_v43) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)) (v4 : (c : Dev Cert.LossIdeal.nD) → Buf (Elt Ideal) ((c.tc : Thread Cert.LossIdeal.nD Cert.LossIdeal.τ).loc Cert.LossIdeal.main_v3_4)) (v5 : (c : Dev Cert.LossIdeal.nD) → Buf (Elt Ideal) ((c.tc : Thread Cert.LossIdeal.nD Cert.LossIdeal.τ).loc Cert.LossIdeal.main_v3_5)) (v6 : (c : Dev Cert.LossIdeal.nD) → Buf (Elt Ideal) ((c.tc : Thread Cert.LossIdeal.nD Cert.LossIdeal.τ).loc Cert.LossIdeal.main_v3_6)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_v3_4) = v4 c
          ∧ r.2.mem ((c.tc : Thread Cert.LossIdeal.nD Cert.LossIdeal.τ).loc Cert.LossIdeal.main_v3_5) = v5 c
          ∧ r.2.mem ((c.tc : Thread Cert.LossIdeal.nD Cert.LossIdeal.τ).loc Cert.LossIdeal.main_v3_6) = v6 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v61) = v0 c
          ∧ r.2.mem ((c.tc : Thread Cert.LossRefIdeal.nD Cert.LossRefIdeal.τ).loc Cert.LossRefIdeal.main_v56) = v1 c
          ∧ r.2.mem ((c.tc : Thread Cert.LossRefIdeal.nD Cert.LossRefIdeal.τ).loc Cert.LossRefIdeal.main_v62) = v2 c
          ∧ r.2.mem ((c.tc : Thread Cert.LossRefIdeal.nD Cert.LossRefIdeal.τ).loc Cert.LossRefIdeal.main_v63) = v3 c
          ∧ r.2.mem ((c.tc : Thread Cert.LossRefIdeal.nD Cert.LossRefIdeal.τ).loc Cert.LossRefIdeal.main_v64) = v4 c
          ∧ r.2.mem ((c.tc : Thread Cert.LossRefIdeal.nD Cert.LossRefIdeal.τ).loc Cert.LossRefIdeal.main_v65) = v5 c
          ∧ r.2.mem ((c.tc : Thread Cert.LossRefIdeal.nD Cert.LossRefIdeal.τ).loc Cert.LossRefIdeal.main_v66) = v6 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)) (v2 : (c : Dev Cert.InProjIdeal.nD) → Buf (Elt Ideal) ((c.tc : Thread Cert.InProjIdeal.nD Cert.InProjIdeal.τ).loc Cert.InProjIdeal.main_v9_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_v9_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v45) = v0 c
          ∧ r.2.mem ((c.tc : Thread Cert.InProjRefIdeal.nD Cert.InProjRefIdeal.τ).loc Cert.InProjRefIdeal.main_v46) = v1 c
          ∧ r.2.mem ((c.tc : Thread Cert.InProjRefIdeal.nD Cert.InProjRefIdeal.τ).loc Cert.InProjRefIdeal.main_v47) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9))

def preserves_AttnFwd_AttnFwdIdeal : Prop :=
  IdealRules.named_const.Statement Cert.AttnFwdIdeal.κ "mask" .f32 0xF149F2CA#32 ⊥

def algebraic_AttnFwdIdeal_AttnFwdRefIdeal_pre_attn_finite [hAttnFwdIdeal : Cert.AttnFwdIdeal.Facts] [hAttnFwdRefIdeal : Cert.AttnFwdRefIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v6_0)) (v1 : (c : Dev Cert.AttnFwdIdeal.nD) → Buf (Elt Ideal) ((c.tc : Thread Cert.AttnFwdIdeal.nD Cert.AttnFwdIdeal.τ).loc Cert.AttnFwdIdeal.main_v6_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v6_0) = v0 c
          ∧ r.2.mem ((c.tc : Thread Cert.AttnFwdIdeal.nD Cert.AttnFwdIdeal.τ).loc Cert.AttnFwdIdeal.main_v6_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v113) = v0 c
          ∧ r.2.mem ((c.tc : Thread Cert.AttnFwdRefIdeal.nD Cert.AttnFwdRefIdeal.τ).loc Cert.AttnFwdRefIdeal.main_v114) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_NormX_NormXIdeal : Prop :=
  True

def algebraic_NormXIdeal_NormXRefIdeal [hNormXIdeal : Cert.NormXIdeal.Facts] [hNormXRefIdeal : Cert.NormXRefIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXRefIdeal.nD Cert.NormXRefIdeal.τ Cert.NormXRefIdeal.sig) → Buf (Elt Ideal) ℓ) (g' : Dev Cert.NormXRefIdeal.nD → PrngReg), Pre_NormXIdeal m →
    (∀ c : Dev Cert.NormXIdeal.nD,
      m' ((c.tc : Thread Cert.NormXRefIdeal.nD Cert.NormXRefIdeal.τ).loc Cert.NormXRefIdeal.main_arg0) = m ((c.tc : Thread Cert.NormXIdeal.nD Cert.NormXIdeal.τ).loc Cert.NormXIdeal.main_arg0)
      ∧ m' ((c.tc : Thread Cert.NormXRefIdeal.nD Cert.NormXRefIdeal.τ).loc Cert.NormXRefIdeal.main_arg1) = m ((c.tc : Thread Cert.NormXIdeal.nD Cert.NormXIdeal.τ).loc Cert.NormXIdeal.main_arg1)) →
    ∃ (v0 : (c : Dev Cert.NormXIdeal.nD) → Buf (Elt Ideal) ((c.tc : Thread Cert.NormXIdeal.nD Cert.NormXIdeal.τ).loc Cert.NormXIdeal.main_v1)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v1) = v0 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ θ_run (Cert.NormXRefIdeal.defs (F := Ideal)) (onTc (τ := Cert.NormXRefIdeal.τ) (Cert.NormXRefIdeal.main (F := Ideal))) ⟨m', fun _ => 0, g'⟩ (fun r => ∀ c : Dev Cert.NormXRefIdeal.nD,
          r.2.mem ((c.tc : Thread Cert.NormXRefIdeal.nD Cert.NormXRefIdeal.τ).loc Cert.NormXRefIdeal.main_v13) = v0 c
          ∧ r.2.mem ((c.tc : Thread Cert.NormXRefIdeal.nD Cert.NormXRefIdeal.τ).loc Cert.NormXRefIdeal.main_arg0) = m' ((c.tc : Thread Cert.NormXRefIdeal.nD Cert.NormXRefIdeal.τ).loc Cert.NormXRefIdeal.main_arg0)
          ∧ r.2.mem ((c.tc : Thread Cert.NormXRefIdeal.nD Cert.NormXRefIdeal.τ).loc Cert.NormXRefIdeal.main_arg1) = m' ((c.tc : Thread Cert.NormXRefIdeal.nD Cert.NormXRefIdeal.τ).loc Cert.NormXRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v6)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v6) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v38) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_MergeFwd_MergeFwdIdeal : Prop :=
  IdealRules.named_const.Statement Cert.MergeFwdIdeal.κ "gelu_cubic" .bf16 0x3D37#16 ((12003091 / 268435456 : ℝ) : EReal)
  ∧ IdealRules.named_const.Statement Cert.MergeFwdIdeal.κ "sqrt_2_over_pi" .bf16 0x3F4C#16 ((6693141 / 8388608 : ℝ) : EReal)

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v10_0)) (v1 : (c : Dev Cert.MergeFwdIdeal.nD) → Buf (Elt Ideal) ((c.tc : Thread Cert.MergeFwdIdeal.nD Cert.MergeFwdIdeal.τ).loc Cert.MergeFwdIdeal.main_v10_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v10_0) = v0 c
          ∧ r.2.mem ((c.tc : Thread Cert.MergeFwdIdeal.nD Cert.MergeFwdIdeal.τ).loc Cert.MergeFwdIdeal.main_v10_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v38) = v0 c
          ∧ r.2.mem ((c.tc : Thread Cert.MergeFwdRefIdeal.nD Cert.MergeFwdRefIdeal.τ).loc Cert.MergeFwdRefIdeal.main_v40) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)) →
    ∃ (v0 : (c : Dev Cert.NormFfnIdeal.nD) → Buf (Elt Ideal) ((c.tc : Thread Cert.NormFfnIdeal.nD Cert.NormFfnIdeal.τ).loc Cert.NormFfnIdeal.main_v3_0)) (v1 : (c : Dev Cert.NormFfnIdeal.nD) → Buf (Elt Ideal) ((c.tc : Thread Cert.NormFfnIdeal.nD Cert.NormFfnIdeal.τ).loc Cert.NormFfnIdeal.main_v3_1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v3_0) = v0 c
          ∧ r.2.mem ((c.tc : Thread Cert.NormFfnIdeal.nD Cert.NormFfnIdeal.τ).loc Cert.NormFfnIdeal.main_v3_1) = v1 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v13) = v0 c
          ∧ r.2.mem ((c.tc : Thread Cert.NormFfnRefIdeal.nD Cert.NormFfnRefIdeal.τ).loc Cert.NormFfnRefIdeal.main_v15) = v1 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)) →
    ∃ (v0 : (c : Dev Cert.InProjFwdIdeal.nD) → Buf (Elt Ideal) ((c.tc : Thread Cert.InProjFwdIdeal.nD Cert.InProjFwdIdeal.τ).loc Cert.InProjFwdIdeal.main_v3)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v3) = v0 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v8) = v0 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1))

def preserves_DwFfnOut_DwFfnOutIdeal : Prop :=
  True

def algebraic_DwFfnOutIdeal_DwFfnOutRefIdeal [hDwFfnOutIdeal : Cert.DwFfnOutIdeal.Facts] [hDwFfnOutRefIdeal : Cert.DwFfnOutRefIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.DwFfnOutRefIdeal.nD Cert.DwFfnOutRefIdeal.τ Cert.DwFfnOutRefIdeal.sig) → Buf (Elt Ideal) ℓ) (g' : Dev Cert.DwFfnOutRefIdeal.nD → PrngReg), Pre_DwFfnOutIdeal m →
    (∀ c : Dev Cert.DwFfnOutIdeal.nD,
      m' ((c.tc : Thread Cert.DwFfnOutRefIdeal.nD Cert.DwFfnOutRefIdeal.τ).loc Cert.DwFfnOutRefIdeal.main_arg0) = m ((c.tc : Thread Cert.DwFfnOutIdeal.nD Cert.DwFfnOutIdeal.τ).loc Cert.DwFfnOutIdeal.main_arg0)
      ∧ m' ((c.tc : Thread Cert.DwFfnOutRefIdeal.nD Cert.DwFfnOutRefIdeal.τ).loc Cert.DwFfnOutRefIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v2)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v2) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.DwFfnOutRefIdeal.defs (F := Ideal)) (onTc (τ := Cert.DwFfnOutRefIdeal.τ) (Cert.DwFfnOutRefIdeal.main (F := Ideal))) ⟨m', fun _ => 0, g'⟩ (fun r => ∀ c : Dev Cert.DwFfnOutRefIdeal.nD,
          r.2.mem ((c.tc : Thread Cert.DwFfnOutRefIdeal.nD Cert.DwFfnOutRefIdeal.τ).loc Cert.DwFfnOutRefIdeal.main_v4) = v0 c
          ∧ r.2.mem ((c.tc : Thread Cert.DwFfnOutRefIdeal.nD Cert.DwFfnOutRefIdeal.τ).loc Cert.DwFfnOutRefIdeal.main_arg0) = m' ((c.tc : Thread Cert.DwFfnOutRefIdeal.nD Cert.DwFfnOutRefIdeal.τ).loc Cert.DwFfnOutRefIdeal.main_arg0)
          ∧ r.2.mem ((c.tc : Thread Cert.DwFfnOutRefIdeal.nD Cert.DwFfnOutRefIdeal.τ).loc Cert.DwFfnOutRefIdeal.main_arg1) = m' ((c.tc : Thread Cert.DwFfnOutRefIdeal.nD Cert.DwFfnOutRefIdeal.τ).loc Cert.DwFfnOutRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v1_0)) (v1 : (c : Dev Cert.AdamwIdeal.nD) → Buf (Elt Ideal) ((c.tc : Thread Cert.AdamwIdeal.nD Cert.AdamwIdeal.τ).loc Cert.AdamwIdeal.main_v1_1)) (v2 : (c : Dev Cert.AdamwIdeal.nD) → Buf (Elt Ideal) ((c.tc : Thread Cert.AdamwIdeal.nD Cert.AdamwIdeal.τ).loc Cert.AdamwIdeal.main_v1_2)) (v3 : (c : Dev Cert.AdamwIdeal.nD) → Buf (Elt Ideal) ((c.tc : Thread Cert.AdamwIdeal.nD Cert.AdamwIdeal.τ).loc Cert.AdamwIdeal.main_v1_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v1_0) = v0 c
          ∧ r.2.mem ((c.tc : Thread Cert.AdamwIdeal.nD Cert.AdamwIdeal.τ).loc Cert.AdamwIdeal.main_v1_1) = v1 c
          ∧ r.2.mem ((c.tc : Thread Cert.AdamwIdeal.nD Cert.AdamwIdeal.τ).loc Cert.AdamwIdeal.main_v1_2) = v2 c
          ∧ r.2.mem ((c.tc : Thread Cert.AdamwIdeal.nD Cert.AdamwIdeal.τ).loc Cert.AdamwIdeal.main_v1_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hFfnIn : Cert.FfnIn.Facts) (hFfnInIdeal : Cert.FfnInIdeal.Facts) (hFfnInRefIdeal : Cert.FfnInRefIdeal.Facts) (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hAttnFwd : Cert.AttnFwd.Facts) (hAttnFwdIdeal : Cert.AttnFwdIdeal.Facts) (hAttnFwdRefIdeal : Cert.AttnFwdRefIdeal.Facts) (hNormX : Cert.NormX.Facts) (hNormXIdeal : Cert.NormXIdeal.Facts) (hNormXRefIdeal : Cert.NormXRefIdeal.Facts) (hConvFwd : Cert.ConvFwd.Facts) (hConvFwdIdeal : Cert.ConvFwdIdeal.Facts) (hConvFwdRefIdeal : Cert.ConvFwdRefIdeal.Facts) (hMergeFwd : Cert.MergeFwd.Facts) (hMergeFwdIdeal : Cert.MergeFwdIdeal.Facts) (hMergeFwdRefIdeal : Cert.MergeFwdRefIdeal.Facts) (hNormFfn : Cert.NormFfn.Facts) (hNormFfnIdeal : Cert.NormFfnIdeal.Facts) (hNormFfnRefIdeal : Cert.NormFfnRefIdeal.Facts) (hInProjFwd : Cert.InProjFwd.Facts) (hInProjFwdIdeal : Cert.InProjFwdIdeal.Facts) (hInProjFwdRefIdeal : Cert.InProjFwdRefIdeal.Facts) (hDwFfnOut : Cert.DwFfnOut.Facts) (hDwFfnOutIdeal : Cert.DwFfnOutIdeal.Facts) (hDwFfnOutRefIdeal : Cert.DwFfnOutRefIdeal.Facts) (hAdamw : Cert.Adamw.Facts) (hAdamwIdeal : Cert.AdamwIdeal.Facts) (hAdamwRefIdeal : Cert.AdamwRefIdeal.Facts) (hSumSmall : Cert.SumSmall.Facts) (hSumSmallIdeal : Cert.SumSmallIdeal.Facts) (hSumSmallRefIdeal : Cert.SumSmallRefIdeal.Facts) (hPre_gate_finite : Cert.Pre_gate_finite.Facts) (hPre_ffn_in_finite : Cert.Pre_ffn_in_finite.Facts) (hPre_loss_finite : Cert.Pre_loss_finite.Facts) (hPre_in_proj_finite : Cert.Pre_in_proj_finite.Facts) (hPre_attn_finite : Cert.Pre_attn_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Conv (hConv := hConv)
    ∧ quiescent_ConvIdeal (hConvIdeal := hConvIdeal)
    ∧ quiescent_ConvRefIdeal (hConvRefIdeal := hConvRefIdeal)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_AttnFwd (hAttnFwd := hAttnFwd)
    ∧ quiescent_AttnFwdIdeal (hAttnFwdIdeal := hAttnFwdIdeal)
    ∧ quiescent_AttnFwdIdeal_pre_attn_finite (hAttnFwdIdeal := hAttnFwdIdeal) (hPre_attn_finite := hPre_attn_finite)
    ∧ quiescent_AttnFwdRefIdeal (hAttnFwdRefIdeal := hAttnFwdRefIdeal)
    ∧ quiescent_AttnFwdRefIdeal_pre_attn_finite (hAttnFwdRefIdeal := hAttnFwdRefIdeal) (hPre_attn_finite := hPre_attn_finite)
    ∧ quiescent_NormX (hNormX := hNormX)
    ∧ quiescent_NormXIdeal (hNormXIdeal := hNormXIdeal)
    ∧ quiescent_NormXRefIdeal (hNormXRefIdeal := hNormXRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_DwFfnOut (hDwFfnOut := hDwFfnOut)
    ∧ quiescent_DwFfnOutIdeal (hDwFfnOutIdeal := hDwFfnOutIdeal)
    ∧ quiescent_DwFfnOutRefIdeal (hDwFfnOutRefIdeal := hDwFfnOutRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Conv_ConvIdeal
    ∧ algebraic_ConvIdeal_ConvRefIdeal (hConvIdeal := hConvIdeal) (hConvRefIdeal := hConvRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_AttnFwd_AttnFwdIdeal
    ∧ algebraic_AttnFwdIdeal_AttnFwdRefIdeal_pre_attn_finite (hAttnFwdIdeal := hAttnFwdIdeal) (hAttnFwdRefIdeal := hAttnFwdRefIdeal) (hPre_attn_finite := hPre_attn_finite)
    ∧ preserves_NormX_NormXIdeal
    ∧ algebraic_NormXIdeal_NormXRefIdeal (hNormXIdeal := hNormXIdeal) (hNormXRefIdeal := hNormXRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormFfn_NormFfnIdeal
    ∧ algebraic_NormFfnIdeal_NormFfnRefIdeal (hNormFfnIdeal := hNormFfnIdeal) (hNormFfnRefIdeal := hNormFfnRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_DwFfnOut_DwFfnOutIdeal
    ∧ algebraic_DwFfnOutIdeal_DwFfnOutRefIdeal (hDwFfnOutIdeal := hDwFfnOutIdeal) (hDwFfnOutRefIdeal := hDwFfnOutRefIdeal)
    ∧ preserves_Adamw_AdamwIdeal
    ∧ algebraic_AdamwIdeal_AdamwRefIdeal (hAdamwIdeal := hAdamwIdeal) (hAdamwRefIdeal := hAdamwRefIdeal)
    ∧ preserves_SumSmall_SumSmallIdeal
    ∧ algebraic_SumSmallIdeal_SumSmallRefIdeal (hSumSmallIdeal := hSumSmallIdeal) (hSumSmallRefIdeal := hSumSmallRefIdeal)
-- ==== Pre_attn_finite.lean ====
abbrev S8192x5632 : Shape := ⟨2, ![8192, 5632]⟩
abbrev S16 : Shape := ⟨1, ![16]⟩
abbrev S8192x1536 : Shape := ⟨2, ![8192, 1536]⟩
abbrev S_ : Shape := ⟨0, ![]⟩

class Facts : Prop where
  slices_S8192x5632_S8192x1536_0_2048 : S8192x5632.Slices ![0, 2048] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8192x5632 .f32) (main_arg1 : FVec F S16 .f32) : IVec S_ 1 :=
  let main_v0 : FVec F S8192x1536 .f32 := (extractStridedSlice S8192x1536 ![0, 2048] · slices_S8192x5632_S8192x1536_0_2048) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Pre_ffn_in_finite.lean ====
abbrev S8192x2816 : Shape := ⟨2, ![8192, 2816]⟩
abbrev S8192x1024 : Shape := ⟨2, ![8192, 1024]⟩
abbrev S1024 : Shape := ⟨1, ![1024]⟩
abbrev S1024x5632 : Shape := ⟨2, ![1024, 5632]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_arg5 : FVec F S1024x5632 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg5
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  main_v23

def fn {F : FTy → Type} [FloatOps F] (main_arg0 : FVec F S8192x2816 .f32) (main_arg1 : FVec F S8192x2816 .f32) (main_arg2 : FVec F S8192x1024 .f32) (main_arg3 : FVec F S8192x1024 .f32) (main_arg4 : FVec F S1024 .f32) (main_arg5 : FVec F S1024x5632 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_gate_finite.lean ====
abbrev S8192x1024 : Shape := ⟨2, ![8192, 1024]⟩
abbrev S1024x1024 : Shape := ⟨2, ![1024, 1024]⟩
abbrev S8192x5632 : Shape := ⟨2, ![8192, 5632]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S8192x5632_S8192x1024_0_1024 : S8192x5632.Slices ![0, 1024] S8192x1024

variable [Facts]

def fn_part1 {F : FTy → Type} [FloatOps F] (main_arg4 : FVec F S8192x5632 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := (extractStridedSlice S8192x1024 ![0, 1024] · slices_S8192x5632_S8192x1024_0_1024) main_arg4
  let main_v20 : FVec F S8192x1024 .f32 := Host.absf main_v19
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : IVec S_ 1 := andi main_v18 main_v23
  main_v24

def fn {F : FTy → Type} [FloatOps F] (main_arg0 : FVec F S8192x1024 .f32) (main_arg1 : FVec F S1024x1024 .f32) (main_arg2 : FVec F S8192x1024 .f32) (main_arg3 : FVec F S8192x1024 .f32) (main_arg4 : FVec F S8192x5632 .f32) (main_arg5 : FVec F S8192x1024 .f32) (main_arg6 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_in_proj_finite.lean ====
abbrev S8192x1024 : Shape := ⟨2, ![8192, 1024]⟩
abbrev S8192x256 : Shape := ⟨2, ![8192, 256]⟩
abbrev S8192x2048 : Shape := ⟨2, ![8192, 2048]⟩
abbrev S1024 : Shape := ⟨1, ![1024]⟩
abbrev S1024x5632 : Shape := ⟨2, ![1024, 5632]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn_part2 {F : FTy → Type} [FloatOps F] (main_arg8 : FVec F S1024 .f32) (main_arg9 : FVec F S1024x5632 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x5632 .f32 := Host.absf main_arg9
  let main_cst_14 : FVec F S_ .f32 := constant S_ .f32 0x7F800000#32
  let main_v40 : FVec F S1024x5632 .f32 := broadcastInDim S1024x5632 ![] bcast_S_S1024x5632 main_cst_14
  let main_v41 : IVec S1024x5632 1 := cmpf .olt main_v39 main_v40
  let main_c_15 : IVec S_ 1 := constantI S_ 1 1#1
  let main_v42 : IVec S_ 1 := (fun x v => Host.reduce IntOp.andi x v reducesTo_S1024x5632_S_d0_1 h_S_) main_v41 main_c_15
  let main_v43 : IVec S_ 1 := andi main_v38 main_v42
  main_v43

def fn_part1 {F : FTy → Type} [FloatOps F] (main_arg4 : FVec F S8192x256 .f32) (main_arg5 : FVec F S8192x2048 .f32) (main_arg7 : FVec F S8192x1024 .f32) (main_arg8 : FVec F S1024 .f32) (main_arg9 : FVec F S1024x5632 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192x1024 .f32 := Host.absf main_arg7
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg8 main_arg9 main_v33

def fn {F : FTy → Type} [FloatOps F] (main_arg0 : FVec F S8192x1024 .f32) (main_arg1 : FVec F S8192x1024 .f32) (main_arg2 : FVec F S8192x1024 .f32) (main_arg3 : FVec F S8192x256 .f32) (main_arg4 : FVec F S8192x256 .f32) (main_arg5 : FVec F S8192x2048 .f32) (main_arg6 : FVec F S8192x1024 .f32) (main_arg7 : FVec F S8192x1024 .f32) (main_arg8 : FVec F S1024 .f32) (main_arg9 : FVec F S1024x5632 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg7 main_arg8 main_arg9 main_v13 main_v16
-- ==== Pre_loss_finite.lean ====
abbrev S8192x5632 : Shape := ⟨2, ![8192, 5632]⟩
abbrev S8192x1024 : Shape := ⟨2, ![8192, 1024]⟩
abbrev S2816x1024 : Shape := ⟨2, ![2816, 1024]⟩
abbrev S1024 : Shape := ⟨1, ![1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x5632 .f32) (main_arg1 : FVec F S8192x1024 .f32) (main_arg2 : FVec F S2816x1024 .f32) (main_arg3 : FVec F S1024 .f32) (main_arg4 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Gate.lean ====
abbrev S8192x1024 : Shape := ⟨2, ![8192, 1024]⟩
abbrev S1024x1024 : Shape := ⟨2, ![1024, 1024]⟩
abbrev S8192x5632 : Shape := ⟨2, ![8192, 5632]⟩
abbrev S2048 : Shape := ⟨1, ![2048]⟩
abbrev S8192x3072 : Shape := ⟨2, ![8192, 3072]⟩
abbrev S8192x2048 : Shape := ⟨2, ![8192, 2048]⟩
abbrev S8192x512 : Shape := ⟨2, ![8192, 512]⟩
abbrev S1x2048 : Shape := ⟨2, ![1, 2048]⟩
abbrev S1024x2048 : Shape := ⟨2, ![1024, 2048]⟩
abbrev S1x1024 : Shape := ⟨2, ![1, 1024]⟩

abbrev nBuf : Space → Nat
  | .hbm => 23
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S2048, .f32⟩
  | .hbm, ⟨7, _⟩ => ⟨S8192x3072, .f32⟩
  | .hbm, ⟨8, _⟩ => ⟨S8192x2048, .f32⟩
  | .hbm, ⟨9, _⟩ => ⟨S8192x512, .f32⟩
  | .hbm, ⟨10, _⟩ => ⟨S8192x5632, .f32⟩
  | .hbm, ⟨11, _⟩ => ⟨S8192x5632, .bf16⟩
  | .hbm, ⟨12, _⟩ => ⟨S8192x1024, .bf16⟩
  | .hbm, ⟨13, _⟩ => ⟨S1024x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1x2048, .f32⟩
  | .hbm, ⟨18, _⟩ => ⟨S8192x1024, .bf16⟩
  | .hbm, ⟨19, _⟩ => ⟨S8192x1024, .bf16⟩
  | .hbm, ⟨20, _⟩ => ⟨S8192x2048, .bf16⟩
  | .hbm, ⟨21, _⟩ => ⟨S8192x1024, .bf16⟩
  | .hbm, ⟨22, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x2048, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== GateIdeal.lean ====
variable {F : FTy → Type} [FloatOps F] [Named F]
def κ : String → Option EReal := fun
  | "gelu_cubic" => some ((12003091 / 268435456 : ℝ) : EReal)
  | "gelu_cubic_3" => some ((36009273 / 268435456 : ℝ) : EReal)
  | "sqrt_2_over_pi" => some ((6693141 / 8388608 : ℝ) : EReal)
  | _ => none
-- ==== GateRefIdeal.lean ====
abbrev S8192x1024 : Shape := ⟨2, ![8192, 1024]⟩
abbrev S1024x1024 : Shape := ⟨2, ![1024, 1024]⟩
abbrev S8192x5632 : Shape := ⟨2, ![8192, 5632]⟩
abbrev S2048 : Shape := ⟨1, ![2048]⟩
abbrev S8192x256 : Shape := ⟨2, ![8192, 256]⟩
abbrev S8192x2048 : Shape := ⟨2, ![8192, 2048]⟩
abbrev S_ : Shape := ⟨0, ![]⟩
abbrev S1x2048 : Shape := ⟨2, ![1, 2048]⟩
abbrev S8192x2x1024 : Shape := ⟨3, ![8192, 2, 1024]⟩
abbrev S8192x1x1024 : Shape := ⟨3, ![8192, 1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x5632, .f32⟩
  | .hbm, ⟨5, _⟩ => ⟨S8192x1024, .f32⟩
  | .hbm, ⟨6, _⟩ => ⟨S2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x256, .f32⟩
  | .hbm, ⟨11, _⟩ => ⟨S8192x256, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2x1024, .f32⟩
  | .hbm, ⟨59, _⟩ => ⟨S8192x1x1024, .f32⟩
  | .hbm, ⟨60, _⟩ => ⟨S8192x1024, .f32⟩
  | .hbm, ⟨61, _⟩ => ⟨S8192x1024, .f32⟩
  | .hbm, ⟨62, _⟩ => ⟨S8192x1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1x1024, .f32⟩
  | .hbm, ⟨71, _⟩ => ⟨S_, .f32⟩
  | .hbm, ⟨72, _⟩ => ⟨S8192x2x1024, .f32⟩
  | .hbm, ⟨73, _⟩ => ⟨S8192x1024, .f32⟩
  | .hbm, ⟨74, _⟩ => ⟨S8192x1024, .f32⟩
  | .hbm, ⟨75, _⟩ => ⟨S8192x1x1024, .f32⟩
  | .hbm, ⟨76, _⟩ => ⟨S_, .f32⟩
  | .hbm, ⟨77, _⟩ => ⟨S8192x2x1024, .f32⟩
  | .hbm, ⟨78, _⟩ => ⟨S8192x2x1024, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S_, .f32⟩
  | .hbm, ⟨85, _⟩ => ⟨S2048, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .bf16⟩
  | .hbm, ⟨104, _⟩ => ⟨S8192x1024, .bf16⟩
  | .hbm, ⟨105, _⟩ => ⟨S8192x2048, .bf16⟩
  | .hbm, ⟨106, _⟩ => ⟨S8192x1024, .bf16⟩
  | .hbm, ⟨107, _⟩ => ⟨S1x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Conv.lean ====
abbrev S8192x1024 : Shape := ⟨2, ![8192, 1024]⟩
abbrev S8192x5632 : Shape := ⟨2, ![8192, 5632]⟩
abbrev S4x1024 : Shape := ⟨2, ![4, 1024]⟩
abbrev S8192x3072 : Shape := ⟨2, ![8192, 3072]⟩
abbrev S8192x2048 : Shape := ⟨2, ![8192, 2048]⟩
abbrev S8192x512 : Shape := ⟨2, ![8192, 512]⟩
abbrev S1x1024 : Shape := ⟨2, ![1, 1024]⟩
abbrev S1024x1024 : Shape := ⟨2, ![1024, 1024]⟩
abbrev S16x1024 : Shape := ⟨2, ![16, 1024]⟩
abbrev S1056x1024 : Shape := ⟨2, ![1056, 1024]⟩
abbrev S1024 : Shape := ⟨1, ![1024]⟩

abbrev nBuf : Space → Nat
  | .hbm => 14
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5632, .f32⟩
  | .hbm, ⟨3, _⟩ => ⟨S4x1024, .f32⟩
  | .hbm, ⟨4, _⟩ => ⟨S8192x3072, .f32⟩
  | .hbm, ⟨5, _⟩ => ⟨S8192x2048, .f32⟩
  | .hbm, ⟨6, _⟩ => ⟨S8192x512, .f32⟩
  | .hbm, ⟨7, _⟩ => ⟨S8192x5632, .f32⟩
  | .hbm, ⟨8, _⟩ => ⟨S8192x5632, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S4x1024, .f32⟩
  | .hbm, ⟨13, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .bf16⟩
  | .local _ .vmem, ⟨13, _⟩ => ⟨S1024x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S4x1024, .f32⟩
  | .local _ .vmem, ⟨19, _⟩ => ⟨S1024x1024, .bf16⟩
  | .local _ .vmem, ⟨20, _⟩ => ⟨S1024x1024, .bf16⟩
  | .local _ .vmem, ⟨21, _⟩ => ⟨S4x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvRefIdeal.lean ====
abbrev S8192x1024 : Shape := ⟨2, ![8192, 1024]⟩
abbrev S8192x5632 : Shape := ⟨2, ![8192, 5632]⟩
abbrev S4x1024 : Shape := ⟨2, ![4, 1024]⟩
abbrev S8192x256 : Shape := ⟨2, ![8192, 256]⟩
abbrev S8192x2048 : Shape := ⟨2, ![8192, 2048]⟩
abbrev S_ : Shape := ⟨0, ![]⟩
abbrev S1024 : Shape := ⟨1, ![1024]⟩
abbrev S2x1024 : Shape := ⟨2, ![2, 1024]⟩
abbrev S1x1024 : Shape := ⟨2, ![1, 1024]⟩
abbrev S8195x1024 : Shape := ⟨2, ![8195, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x5632, .f32⟩
  | .hbm, ⟨3, _⟩ => ⟨S4x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x256, .f32⟩
  | .hbm, ⟨8, _⟩ => ⟨S8192x256, .f32⟩
  | .hbm, ⟨9, _⟩ => ⟨S8192x2048, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S2x1024, .f32⟩
  | .hbm, ⟨14, _⟩ => ⟨S_, .f32⟩
  | .hbm, ⟨15, _⟩ => ⟨S1x1024, .f32⟩
  | .hbm, ⟨16, _⟩ => ⟨S8195x1024, .f32⟩
  | .hbm, ⟨17, _⟩ => ⟨S_, .f32⟩
  | .hbm, ⟨18, _⟩ => ⟨S2x1024, .f32⟩
  | .hbm, ⟨19, _⟩ => ⟨S_, .f32⟩
  | .hbm, ⟨20, _⟩ => ⟨S1x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S4x1024, .f32⟩
  | .hbm, ⟨69, _⟩ => ⟨S_, .f32⟩
  | .hbm, ⟨70, _⟩ => ⟨S8195x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S4x1024, .f32⟩
  | .hbm, ⟨82, _⟩ => ⟨S4x1024, .f32⟩
  | .hbm, ⟨83, _⟩ => ⟨S_, .f32⟩
  | .hbm, ⟨84, _⟩ => ⟨S8195x1024, .f32⟩
  | .hbm, ⟨85, _⟩ => ⟨S8195x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S4x1024, .f32⟩
  | .hbm, ⟨97, _⟩ => ⟨S4x1024, .f32⟩
  | .hbm, ⟨98, _⟩ => ⟨S_, .f32⟩
  | .hbm, ⟨99, _⟩ => ⟨S8195x1024, .f32⟩
  | .hbm, ⟨100, _⟩ => ⟨S8195x1024, .f32⟩
  | .hbm, ⟨101, _⟩ => ⟨S8192x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S1024, .f32⟩
  | .hbm, ⟨109, _⟩ => ⟨S1x1024, .f32⟩
  | .hbm, ⟨110, _⟩ => ⟨S_, .f32⟩
  | .hbm, ⟨111, _⟩ => ⟨S4x1024, .f32⟩
  | .hbm, ⟨112, _⟩ => ⟨S4x1024, .f32⟩
  | .hbm, ⟨113, _⟩ => ⟨S_, .f32⟩
  | .hbm, ⟨114, _⟩ => ⟨S8195x1024, .f32⟩
  | .hbm, ⟨115, _⟩ => ⟨S8195x1024, .f32⟩
  | .hbm, ⟨116, _⟩ => ⟨S2x1024, .f32⟩
  | .hbm, ⟨117, _⟩ => ⟨S8192x1024, .f32⟩
  | .hbm, ⟨118, _⟩ => ⟨S1x1024, .f32⟩
  | .hbm, ⟨119, _⟩ => ⟨S8192x1024, .bf16⟩
  | .hbm, ⟨120, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_15 : Ref sig .tc := ⟨.hbm, 92, rfl⟩
abbrev main_v72 : Ref sig .tc := ⟨.hbm, 93, rfl⟩
abbrev main_v73 : Ref sig .tc := ⟨.hbm, 94, rfl⟩
abbrev main_cst_16 : Ref sig .tc := ⟨.hbm, 95, rfl⟩
abbrev main_v74 : Ref sig .tc := ⟨.hbm, 96, rfl⟩
abbrev main_v75 : Ref sig .tc := ⟨.hbm, 97, rfl⟩
abbrev main_cst_17 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_18 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_19 : Ref sig .tc := ⟨.hbm, 107, rfl⟩
abbrev main_v83 : Ref sig .tc := ⟨.hbm, 108, rfl⟩
abbrev main_v84 : Ref sig .tc := ⟨.hbm, 109, rfl⟩
abbrev main_cst_20 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]
-- ==== FfnIn.lean ====
abbrev S8192x2816 : Shape := ⟨2, ![8192, 2816]⟩
abbrev S8192x1024 : Shape := ⟨2, ![8192, 1024]⟩
abbrev S1024 : Shape := ⟨1, ![1024]⟩
abbrev S1024x5632 : Shape := ⟨2, ![1024, 5632]⟩
abbrev S5632x1024 : Shape := ⟨2, ![5632, 1024]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x5632, .f32⟩
  | .hbm, ⟨6, _⟩ => ⟨S8192x2816, .bf16⟩
  | .hbm, ⟨7, _⟩ => ⟨S8192x2816, .bf16⟩
  | .hbm, ⟨8, _⟩ => ⟨S5632x1024, .f32⟩
  | .hbm, ⟨9, _⟩ => ⟨S5632x1024, .bf16⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnInRefIdeal.lean ====
abbrev S8192x2816 : Shape := ⟨2, ![8192, 2816]⟩
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024x5632, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Loss.lean ====
abbrev S8192x5632 : Shape := ⟨2, ![8192, 5632]⟩
abbrev S8192x1024 : Shape := ⟨2, ![8192, 1024]⟩
abbrev S2816x1024 : Shape := ⟨2, ![2816, 1024]⟩
abbrev S1024 : Shape := ⟨1, ![1024]⟩
abbrev S1x1024 : Shape := ⟨2, ![1, 1024]⟩
abbrev S8192x2816 : Shape := ⟨2, ![8192, 2816]⟩
abbrev S1x128 : Shape := ⟨2, ![1, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 15
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x5632, .bf16⟩
  | .hbm, ⟨6, _⟩ => ⟨S2816x1024, .bf16⟩
  | .hbm, ⟨7, _⟩ => ⟨S1x1024, .f32⟩
  | .hbm, ⟨8, _⟩ => ⟨S8192x2816, .bf16⟩
  | .hbm, ⟨9, _⟩ => ⟨S8192x1024, .f32⟩
  | .hbm, ⟨10, _⟩ => ⟨S8192x1024, .bf16⟩
  | .hbm, ⟨11, _⟩ => ⟨S1x128, .f32⟩
  | .hbm, ⟨12, _⟩ => ⟨S1x1024, .f32⟩
  | .hbm, ⟨13, _⟩ => ⟨S8192x2816, .bf16⟩
  | .hbm, ⟨14, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LossRefIdeal.lean ====
abbrev S8192x5632 : Shape := ⟨2, ![8192, 5632]⟩
abbrev S8192x1024 : Shape := ⟨2, ![8192, 1024]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x2816, .f32⟩
  | .hbm, ⟨92, _⟩ => ⟨S8192x2816, .f32⟩
  | .hbm, ⟨93, _⟩ => ⟨S8192x2816, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x2816, .bf16⟩
  | .hbm, ⟨99, _⟩ => ⟨S8192x1024, .bf16⟩
  | .hbm, ⟨100, _⟩ => ⟨S1x128, .f32⟩
  | .hbm, ⟨101, _⟩ => ⟨S1x1024, .f32⟩
  | .hbm, ⟨102, _⟩ => ⟨S8192x2816, .bf16⟩
  | .hbm, ⟨103, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_cst_9 : Ref sig .tc := ⟨.hbm, 58, rfl⟩
abbrev main_v31 : Ref sig .tc := ⟨.hbm, 59, rfl⟩
abbrev main_v32 : Ref sig .tc := ⟨.hbm, 60, rfl⟩
abbrev main_cst_10 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_11 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_12 : Ref sig .tc := ⟨.hbm, 72, rfl⟩
abbrev main_v42 : Ref sig .tc := ⟨.hbm, 73, rfl⟩
abbrev main_v43 : Ref sig .tc := ⟨.hbm, 74, rfl⟩
abbrev main_cst_13 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_14 : Ref sig .tc := ⟨.hbm, 81, rfl⟩
abbrev main_v49 : Ref sig .tc := ⟨.hbm, 82, rfl⟩
abbrev main_v50 : Ref sig .tc := ⟨.hbm, 83, rfl⟩
abbrev main_cst_15 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== InProj.lean ====
abbrev S8192x1024 : Shape := ⟨2, ![8192, 1024]⟩
abbrev S8192x256 : Shape := ⟨2, ![8192, 256]⟩
abbrev S8192x2048 : Shape := ⟨2, ![8192, 2048]⟩
abbrev S1024 : Shape := ⟨1, ![1024]⟩
abbrev S1024x5632 : Shape := ⟨2, ![1024, 5632]⟩
abbrev S8192x512 : Shape := ⟨2, ![8192, 512]⟩
abbrev S5632x1024 : Shape := ⟨2, ![5632, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩

abbrev nBuf : Space → Nat
  | .hbm => 22
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024x5632, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x2048, .bf16⟩
  | .hbm, ⟨14, _⟩ => ⟨S8192x512, .f32⟩
  | .hbm, ⟨15, _⟩ => ⟨S8192x512, .bf16⟩
  | .hbm, ⟨16, _⟩ => ⟨S5632x1024, .f32⟩
  | .hbm, ⟨17, _⟩ => ⟨S5632x1024, .bf16⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_11 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_12 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_13 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_14 (i : grid0.Coords) : Fin 2 → Nat :=
  let arg0 : BitVec 32 := BitVec.ofNat 32 (i 0).val
  let c9_i32 : BitVec 32 := 9#32
  let c0_i32 : BitVec 32 := 0#32
  let c0_i32_0 : BitVec 32 := 0#32
  ![c9_i32.toNat, c0_i32.toNat]

def cc0_transform_15 (i : grid0.Coords) : Fin 2 → Nat :=
  let arg0 : BitVec 32 := BitVec.ofNat 32 (i 0).val
  let c10_i32 : BitVec 32 := 10#32
  let c0_i32 : BitVec 32 := 0#32
  let c0_i32_0 : BitVec 32 := 0#32
  ![c10_i32.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== InProjRefIdeal.lean ====
abbrev S8192x1024 : Shape := ⟨2, ![8192, 1024]⟩
abbrev S8192x256 : Shape := ⟨2, ![8192, 256]⟩
abbrev S8192x2048 : Shape := ⟨2, ![8192, 2048]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024x5632, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x256, .f32⟩
  | .hbm, ⟨35, _⟩ => ⟨S8192x256, .f32⟩
  | .hbm, ⟨36, _⟩ => ⟨S8192x2048, .f32⟩
  | .hbm, ⟨37, _⟩ => ⟨S8192x5632, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== AttnFwd.lean ====
abbrev S8192x5632 : Shape := ⟨2, ![8192, 5632]⟩
abbrev S16 : Shape := ⟨1, ![16]⟩
abbrev S8192x3072 : Shape := ⟨2, ![8192, 3072]⟩
abbrev S8192x2048 : Shape := ⟨2, ![8192, 2048]⟩
abbrev S8192x512 : Shape := ⟨2, ![8192, 512]⟩
abbrev S1x16 : Shape := ⟨2, ![1, 16]⟩
abbrev S8192x1024 : Shape := ⟨2, ![8192, 1024]⟩
abbrev S64x8x512 : Shape := ⟨3, ![64, 8, 512]⟩
abbrev S512x1024 : Shape := ⟨2, ![512, 1024]⟩
abbrev S128x256 : Shape := ⟨2, ![128, 256]⟩
abbrev S512x256 : Shape := ⟨2, ![512, 256]⟩
abbrev S4x8x512 : Shape := ⟨3, ![4, 8, 512]⟩
abbrev S3x4x384x512 : Shape := ⟨4, ![3, 4, 384, 512]⟩
abbrev S384x128 : Shape := ⟨2, ![384, 128]⟩
abbrev S384x512 : Shape := ⟨2, ![384, 512]⟩
abbrev S1x1x384x512 : Shape := ⟨4, ![1, 1, 384, 512]⟩
abbrev S384x256 : Shape := ⟨2, ![384, 256]⟩
abbrev S128x128 : Shape := ⟨2, ![128, 128]⟩
abbrev S512x128 : Shape := ⟨2, ![512, 128]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S1x1x512 : Shape := ⟨3, ![1, 1, 512]⟩
abbrev S128x512 : Shape := ⟨2, ![128, 512]⟩
abbrev S64x128 : Shape := ⟨2, ![64, 128]⟩
abbrev S128x1024 : Shape := ⟨2, ![128, 1024]⟩

abbrev nBuf : Space → Nat
  | .hbm => 10
  | .vmem => 19
  | .smem => 1
  | _ => 0

abbrev bufTy : (tb : Table) → Fin (tcTables nBuf tb) → BufTy
  | .hbm, ⟨0, _⟩ => ⟨S8192x5632, .f32⟩
  | .hbm, ⟨1, _⟩ => ⟨S16, .f32⟩
  | .hbm, ⟨2, _⟩ => ⟨S8192x3072, .f32⟩
  | .hbm, ⟨3, _⟩ => ⟨S8192x2048, .f32⟩
  | .hbm, ⟨4, _⟩ => ⟨S8192x512, .f32⟩
  | .hbm, ⟨5, _⟩ => ⟨S8192x5632, .f32⟩
  | .hbm, ⟨6, _⟩ => ⟨S8192x5632, .bf16⟩
  | .hbm, ⟨7, _⟩ => ⟨S1x16, .f32⟩
  | .hbm, ⟨8, _⟩ => ⟨S8192x1024, .bf16⟩
  | .hbm, ⟨9, _⟩ => ⟨S64x8x512, .f32⟩
  | .local _ .vmem, ⟨0, _⟩ => ⟨S512x1024, .bf16⟩
  | .local _ .vmem, ⟨1, _⟩ => ⟨S512x1024, .bf16⟩
  | .local _ .vmem, ⟨2, _⟩ => ⟨S128x256, .bf16⟩
  | .local _ .vmem, ⟨3, _⟩ => ⟨S128x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S512x256, .bf16⟩
  | .local _ .vmem, ⟨11, _⟩ => ⟨S512x256, .bf16⟩
  | .local _ .vmem, ⟨12, _⟩ => ⟨S128x256, .bf16⟩
  | .local _ .vmem, ⟨13, _⟩ => ⟨S128x256, .bf16⟩
  | .local _ .vmem, ⟨14, _⟩ => ⟨S512x1024, .bf16⟩
  | .local _ .vmem, ⟨15, _⟩ => ⟨S512x1024, .bf16⟩
  | .local _ .vmem, ⟨16, _⟩ => ⟨S4x8x512, .f32⟩
  | .local _ .vmem, ⟨17, _⟩ => ⟨S4x8x512, .f32⟩
  | .local _ .vmem, ⟨18, _⟩ => ⟨S3x4x384x512, .f32⟩
  | .local _ .smem, ⟨0, _⟩ => ⟨S1x16, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def k0_off1 (i : grid0.Coords) (c0_i32_21 : BitVec 32) : Fin 4 → Nat :=
  let c4_i32 : BitVec 32 := 4#32
  let arg0 : BitVec 32 := BitVec.ofNat 32 (i 0).val
  let v27 : BitVec 32 := Scalar.muli c4_i32 arg0
  let v28 : BitVec 32 := Scalar.addi v27 c0_i32_21
  let c0_i32_22 : BitVec 32 := 0#32
  let v29 : BitVec 1 := Scalar.cmpi .eq v28 c0_i32_22
  let c0_i32_23 : BitVec 32 := 0#32
  let c63_i32 : BitVec 32 := 63#32
  let v30 : BitVec 1 := Scalar.cmpi .eq v28 c63_i32
  let c2_i32 : BitVec 32 := 2#32
  let c1_i32 : BitVec 32 := 1#32
  let v31 : BitVec 32 := Scalar.select v30 c2_i32 c1_i32
  let v32 : BitVec 32 := Scalar.select v29 c0_i32_23 v31
  let v75 : Index := Scalar.indexCast v32
  let c0_37 : Index := 0#32
  let c0_38 : Index := 0#32
  let c0_39 : Index := 0#32
  ![v75.toNat, 0, 0, 0]
def k0_off2 (i : grid0.Coords) (c0_i32_21 : BitVec 32) : Fin 4 → Nat :=
  let c4_i32 : BitVec 32 := 4#32
  let arg0 : BitVec 32 := BitVec.ofNat 32 (i 0).val
  let v27 : BitVec 32 := Scalar.muli c4_i32 arg0
  let v28 : BitVec 32 := Scalar.addi v27 c0_i32_21
  let c0_i32_22 : BitVec 32 := 0#32
  let v29 : BitVec 1 := Scalar.cmpi .eq v28 c0_i32_22
  let c0_i32_23 : BitVec 32 := 0#32
  let c63_i32 : BitVec 32 := 63#32
  let v30 : BitVec 1 := Scalar.cmpi .eq v28 c63_i32
  let c2_i32 : BitVec 32 := 2#32
  let c1_i32 : BitVec 32 := 1#32
  let v31 : BitVec 32 := Scalar.select v30 c2_i32 c1_i32
  let v32 : BitVec 32 := Scalar.select v29 c0_i32_23 v31
  let v138 : Index := Scalar.indexCast v32
  let c1_64 : Index := 1#32
  let c0_65 : Index := 0#32
  let c0_66 : Index := 0#32
  ![v138.toNat, 1, 0, 0]
def k0_off3 (i : grid0.Coords) (c0_i32_21 : BitVec 32) : Fin 4 → Nat :=
  let c4_i32 : BitVec 32 := 4#32
  let arg0 : BitVec 32 := BitVec.ofNat 32 (i 0).val
  let v27 : BitVec 32 := Scalar.muli c4_i32 arg0
  let v28 : BitVec 32 := Scalar.addi v27 c0_i32_21
  let c0_i32_22 : BitVec 32 := 0#32
  let v29 : BitVec 1 := Scalar.cmpi .eq v28 c0_i32_22
  let c0_i32_23 : BitVec 32 := 0#32
  let c63_i32 : BitVec 32 := 63#32
  let v30 : BitVec 1 := Scalar.cmpi .eq v28 c63_i32
  let c2_i32 : BitVec 32 := 2#32
  let c1_i32 : BitVec 32 := 1#32
  let v31 : BitVec 32 := Scalar.select v30 c2_i32 c1_i32
  let v32 : BitVec 32 := Scalar.select v29 c0_i32_23 v31
  let v201 : Index := Scalar.indexCast v32
  let c2_90 : Index := 2#32
  let c0_91 : Index := 0#32
  let c0_92 : Index := 0#32
  ![v201.toNat, 2, 0, 0]
def k0_off4 (i : grid0.Coords) (c0_i32_21 : BitVec 32) : Fin 4 → Nat :=
  let c4_i32 : BitVec 32 := 4#32
  let arg0 : BitVec 32 := BitVec.ofNat 32 (i 0).val
  let v27 : BitVec 32 := Scalar.muli c4_i32 arg0
  let v28 : BitVec 32 := Scalar.addi v27 c0_i32_21
  let c0_i32_22 : BitVec 32 := 0#32
  let v29 : BitVec 1 := Scalar.cmpi .eq v28 c0_i32_22
  let c0_i32_23 : BitVec 32 := 0#32
  let c63_i32 : BitVec 32 := 63#32
  let v30 : BitVec 1 := Scalar.cmpi .eq v28 c63_i32
  let c2_i32 : BitVec 32 := 2#32
  let c1_i32 : BitVec 32 := 1#32
  let v31 : BitVec 32 := Scalar.select v30 c2_i32 c1_i32
  let v32 : BitVec 32 := Scalar.select v29 c0_i32_23 v31
  let v264 : Index := Scalar.indexCast v32
  let c3_115 : Index := 3#32
  let c0_116 : Index := 0#32
  let c0_117 : Index := 0#32
  ![v264.toNat, 3, 0, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c20_i32 : BitVec 32 := 20#32
  let c0_i32 : BitVec 32 := 0#32
  ![v2.toNat, c20_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c21_i32 : BitVec 32 := 21#32
  let c0_i32_0 : BitVec 32 := 0#32
  ![v2.toNat, c21_i32.toNat]

def cc0_transform_5 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c21_i32 : BitVec 32 := 21#32
  let c0_i32 : BitVec 32 := 0#32
  ![v2.toNat, c21_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S8192x5632 : Shape := ⟨2, ![8192, 5632]⟩
abbrev S16 : Shape := ⟨1, ![16]⟩
abbrev S8192x1024 : Shape := ⟨2, ![8192, 1024]⟩
abbrev S8192x256 : Shape := ⟨2, ![8192, 256]⟩
abbrev S8192x2048 : Shape := ⟨2, ![8192, 2048]⟩
abbrev S8192x16x64 : Shape := ⟨3, ![8192, 16, 64]⟩
abbrev S8192x4x64 : Shape := ⟨3, ![8192, 4, 64]⟩
abbrev S_ : Shape := ⟨0, ![]⟩
abbrev S64x128x4x4x64 : Shape := ⟨5, ![64, 128, 4, 4, 64]⟩
abbrev S128x4x64 : Shape := ⟨3, ![128, 4, 64]⟩
abbrev S8448x4x64 : Shape := ⟨3, ![8448, 4, 64]⟩
abbrev S66x128x4x64 : Shape := ⟨4, ![66, 128, 4, 64]⟩
abbrev S64x128x4x64 : Shape := ⟨4, ![64, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1 : Shape := ⟨1, ![1]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S64x1x1x128x384 : Shape := ⟨5, ![64, 1, 1, 128, 384]⟩
abbrev S1x4x4x128x384 : Shape := ⟨5, ![1, 4, 4, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S64x4x512 : Shape := ⟨3, ![64, 4, 512]⟩
abbrev S64x8x512 : Shape := ⟨3, ![64, 8, 512]⟩

abbrev nBuf : Space → Nat
  | .hbm => 149
  | .vmem => 0
  | .smem => 0
  | _ => 0

abbrev hbmTy0_0 (i : Nat) : BufTy := match i % 128 with
  | 0 => ⟨S8192x5632, .f32⟩
  | 1 => ⟨S16, .f32⟩
  | 2 => ⟨S8192x1024, .f32⟩
  | 3 => ⟨S8192x1024, .f32⟩
  | 4 => ⟨S8192x1024, .f32⟩
  | 5 => ⟨S8192x256, .f32⟩
  | 6 => ⟨S8192x256, .f32⟩
  | 7 => ⟨S8192x2048, .f32⟩
  | 8 => ⟨S8192x16x64, .f32⟩
  | 9 => ⟨S8192x4x64, .f32⟩
  | 10 => ⟨S8192x4x64, .f32⟩
  | 11 => ⟨S_, .f32⟩
  | 12 => ⟨S8192x16x64, .f32⟩
  | 13 => ⟨S8192x16x64, .f32⟩
  | 14 => ⟨S64x128x4x4x64, .f32⟩
  | 15 => ⟨S_, .f32⟩
  | 16 => ⟨S128x4x64, .f32⟩
  | 17 => ⟨S8448x4x64, .f32⟩
  | 18 => ⟨S66x128x4x64, .f32⟩
  | 19 => ⟨S64x128x4x64, .f32⟩
  | 20 => ⟨S64x128x4x64, .f32⟩
  | 21 => ⟨S64x128x4x64, .f32⟩
  | 22 => ⟨S64x384x4x64, .f32⟩
  | 23 => ⟨S_, .f32⟩
  | 24 => ⟨S128x4x64, .f32⟩
  | 25 => ⟨S8448x4x64, .f32⟩
  | 26 => ⟨S66x128x4x64, .f32⟩
  | 27 => ⟨S64x128x4x64, .f32⟩
  | 28 => ⟨S64x128x4x64, .f32⟩
  | 29 => ⟨S64x128x4x64, .f32⟩
  | 30 => ⟨S64x384x4x64, .f32⟩
  | 31 => ⟨S64x4x384x128x4, .f32⟩
  | 32 => ⟨S64x4x4x128x384, .f32⟩
  | 33 => ⟨S128, .i32⟩
  | 34 => ⟨S384, .i32⟩
  | 35 => ⟨S128x1, .i32⟩
  | 36 => ⟨S_, .i32⟩
  | 37 => ⟨S128x1, .i32⟩
  | 38 => ⟨S128x1, .i32⟩
  | 39 => ⟨S1x384, .i32⟩
  | 40 => ⟨S128x384, .i32⟩
  | 41 => ⟨S128x384, .i32⟩
  | 42 => ⟨S128x384, .i32⟩
  | 43 => ⟨S64, .i32⟩
  | 44 => ⟨S64x1, .i32⟩
  | 45 => ⟨S_, .i32⟩
  | 46 => ⟨S64x1, .i32⟩
  | 47 => ⟨S64x1, .i32⟩
  | 48 => ⟨S_, .i32⟩
  | 49 => ⟨S64x1, .i32⟩
  | 50 => ⟨S64x1, .i32⟩
  | 51 => ⟨S1x384, .i32⟩
  | 52 => ⟨S64x384, .i32⟩
  | 53 => ⟨S64x384, .i32⟩
  | 54 => ⟨S64x384, .i32⟩
  | 55 => ⟨S128x384, .i32⟩
  | 56 => ⟨S_, .i32⟩
  | 57 => ⟨S128x384, .i32⟩
  | 58 => ⟨S128x384, .i1⟩
  | 59 => ⟨S1x128x384, .i1⟩
  | 60 => ⟨S_, .i32⟩
  | 61 => ⟨S64x384, .i32⟩
  | 62 => ⟨S64x384, .i1⟩
  | 63 => ⟨S_, .i32⟩
  | 64 => ⟨S64x384, .i32⟩
  | 65 => ⟨S64x384, .i1⟩
  | 66 => ⟨S64x384, .i1⟩
  | 67 => ⟨S64x1x384, .i1⟩
  | 68 => ⟨S64x128x384, .i1⟩
  | 69 => ⟨S64x128x384, .i1⟩
  | 70 => ⟨S64x128x384, .i1⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | 86 => ⟨S1, .f32⟩
  | 87 => ⟨S_, .f32⟩
  | 88 => ⟨S1, .f32⟩
  | 89 => ⟨S_, .f32⟩
  | 90 => ⟨S1, .f32⟩
  | 91 => ⟨S_, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S_, .f32⟩
  | 100 => ⟨S1, .f32⟩
  | 101 => ⟨S_, .f32⟩
  | 102 => ⟨S1, .f32⟩
  | 103 => ⟨S16, .f32⟩
  | 104 => ⟨S4x4x1x1, .f32⟩
  | 105 => ⟨S4x4x1x1, .f32⟩
  | 106 => ⟨S128x384, .i32⟩
  | 107 => ⟨S128x384, .f32⟩
  | 108 => ⟨S1x1x128x384, .f32⟩
  | 109 => ⟨S4x4x128x384, .f32⟩
  | 110 => ⟨S4x4x128x384, .f32⟩
  | 111 => ⟨S4x4x128x384, .f32⟩
  | 112 => ⟨S64x1x1x128x384, .i1⟩
  | 113 => ⟨S1x4x4x128x384, .f32⟩
  | 114 => ⟨S64x4x4x128x384, .f32⟩
  | 115 => ⟨S64x4x4x128x384, .f32⟩
  | 116 => ⟨S_, .f32⟩
  | 117 => ⟨S_, .f32⟩
  | 118 => ⟨S64x4x4x128x384, .i1⟩
  | 119 => ⟨S64x4x4x128x384, .f32⟩
  | 120 => ⟨S64x4x4x128x384, .f32⟩
  | 121 => ⟨S1x4x4x1x1, .f32⟩
  | 122 => ⟨S_, .f32⟩
  | 123 => ⟨S64x4x4x128, .f32⟩
  | 124 => ⟨S64x4x4x128x1, .f32⟩
  | 125 => ⟨S64x4x4x128x1, .f32⟩
  | 126 => ⟨S64x4x4x128x1, .f32⟩
  | 127 => ⟨S64x4x4x128x384, .f32⟩
  | _ => ⟨S8192x5632, .f32⟩

abbrev hbmTy0_1 (i : Nat) : BufTy := match i % 128 with
  | 0 => ⟨S64x4x4x128x384, .f32⟩
  | 1 => ⟨S64x4x4x128x384, .f32⟩
  | 2 => ⟨S_, .f32⟩
  | 3 => ⟨S64x4x4x128, .f32⟩
  | 4 => ⟨S64x4x4x128x1, .f32⟩
  | 5 => ⟨S64x4x4x128x1, .f32⟩
  | 6 => ⟨S64x4x4x128x1, .f32⟩
  | 7 => ⟨S64x4x4x128x1, .f32⟩
  | 8 => ⟨S64x4x4x128x1, .f32⟩
  | 9 => ⟨S64x4x4x128x384, .f32⟩
  | 10 => ⟨S64x4x4x128x384, .f32⟩
  | 11 => ⟨S64x4x64x4x128, .f32⟩
  | 12 => ⟨S64x128x4x4x64, .f32⟩
  | 13 => ⟨S8192x1024, .f32⟩
  | 14 => ⟨S_, .f32⟩
  | 15 => ⟨S64x4x4x128x1, .f32⟩
  | 16 => ⟨S64x4x4x128x1, .f32⟩
  | 17 => ⟨S64x4x512, .f32⟩
  | 18 => ⟨S64x4x512, .f32⟩
  | 19 => ⟨S8192x1024, .bf16⟩
  | 20 => ⟨S64x8x512, .f32⟩
  | _ => ⟨S8192x5632, .f32⟩

abbrev hbmTy (i : Nat) : BufTy := match i / 128 with
  | 0 => hbmTy0_0 i
  | 1 => hbmTy0_1 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_2 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c_5 : Ref sig .tc := ⟨.hbm, 60, rfl⟩
abbrev main_v51 : Ref sig .tc := ⟨.hbm, 61, rfl⟩
abbrev main_v52 : Ref sig .tc := ⟨.hbm, 62, rfl⟩
abbrev main_c_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_cst_8 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_cst_16 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_cst_18 : Ref sig .tc := ⟨.hbm, 93, rfl⟩
abbrev main_v71 : Ref sig .tc := ⟨.hbm, 94, rfl⟩
abbrev main_cst_19 : Ref sig .tc := ⟨.hbm, 95, rfl⟩
abbrev main_v72 : Ref sig .tc := ⟨.hbm, 96, rfl⟩
abbrev main_cst_20 : Ref sig .tc := ⟨.hbm, 97, rfl⟩
abbrev main_v73 : Ref sig .tc := ⟨.hbm, 98, rfl⟩
abbrev main_cst_21 : Ref sig .tc := ⟨.hbm, 99, rfl⟩
abbrev main_v74 : Ref sig .tc := ⟨.hbm, 100, rfl⟩
abbrev main_cst_22 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_23 : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_v89 : Ref sig .tc := ⟨.hbm, 120, rfl⟩
abbrev main_v90 : Ref sig .tc := ⟨.hbm, 121, rfl⟩
abbrev main_cst_24 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_25 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_26 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== NormX.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormXRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S8192x5632 : Shape := ⟨2, ![8192, 5632]⟩
abbrev S4x1024 : Shape := ⟨2, ![4, 1024]⟩
abbrev S1024 : Shape := ⟨1, ![1024]⟩
abbrev S8192x3072 : Shape := ⟨2, ![8192, 3072]⟩
abbrev S8192x2048 : Shape := ⟨2, ![8192, 2048]⟩
abbrev S8192x512 : Shape := ⟨2, ![8192, 512]⟩
abbrev S1x1024 : Shape := ⟨2, ![1, 1024]⟩
abbrev S8192x1024 : Shape := ⟨2, ![8192, 1024]⟩
abbrev S1024x1024 : Shape := ⟨2, ![1024, 1024]⟩
abbrev S16x1024 : Shape := ⟨2, ![16, 1024]⟩
abbrev S1056x1024 : Shape := ⟨2, ![1056, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S4x1024, .f32⟩
  | .hbm, ⟨2, _⟩ => ⟨S1024, .f32⟩
  | .hbm, ⟨3, _⟩ => ⟨S8192x3072, .f32⟩
  | .hbm, ⟨4, _⟩ => ⟨S8192x2048, .f32⟩
  | .hbm, ⟨5, _⟩ => ⟨S8192x512, .f32⟩
  | .hbm, ⟨6, _⟩ => ⟨S8192x5632, .f32⟩
  | .hbm, ⟨7, _⟩ => ⟨S8192x5632, .bf16⟩
  | .hbm, ⟨8, _⟩ => ⟨S1x1024, .f32⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S8192x5632 : Shape := ⟨2, ![8192, 5632]⟩
abbrev S4x1024 : Shape := ⟨2, ![4, 1024]⟩
abbrev S1024 : Shape := ⟨1, ![1024]⟩
abbrev S8192x1024 : Shape := ⟨2, ![8192, 1024]⟩
abbrev S8192x256 : Shape := ⟨2, ![8192, 256]⟩
abbrev S8192x2048 : Shape := ⟨2, ![8192, 2048]⟩
abbrev S_ : Shape := ⟨0, ![]⟩
abbrev S2x1024 : Shape := ⟨2, ![2, 1024]⟩
abbrev S1x1024 : Shape := ⟨2, ![1, 1024]⟩
abbrev S8195x1024 : Shape := ⟨2, ![8195, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S4x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S8192x2048, .f32⟩
  | .hbm, ⟨9, _⟩ => ⟨S_, .f32⟩
  | .hbm, ⟨10, _⟩ => ⟨S2x1024, .f32⟩
  | .hbm, ⟨11, _⟩ => ⟨S_, .f32⟩
  | .hbm, ⟨12, _⟩ => ⟨S1x1024, .f32⟩
  | .hbm, ⟨13, _⟩ => ⟨S8195x1024, .f32⟩
  | .hbm, ⟨14, _⟩ => ⟨S8192x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== MergeFwd.lean ====
abbrev S8192x1024 : Shape := ⟨2, ![8192, 1024]⟩
abbrev S8192x5632 : Shape := ⟨2, ![8192, 5632]⟩
abbrev S2048 : Shape := ⟨1, ![2048]⟩
abbrev S1024x1024 : Shape := ⟨2, ![1024, 1024]⟩
abbrev S8192x3072 : Shape := ⟨2, ![8192, 3072]⟩
abbrev S8192x2048 : Shape := ⟨2, ![8192, 2048]⟩
abbrev S8192x512 : Shape := ⟨2, ![8192, 512]⟩
abbrev S1x2048 : Shape := ⟨2, ![1, 2048]⟩
abbrev S1x1024 : Shape := ⟨2, ![1, 1024]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5632, .f32⟩
  | .hbm, ⟨4, _⟩ => ⟨S8192x1024, .f32⟩
  | .hbm, ⟨5, _⟩ => ⟨S2048, .f32⟩
  | .hbm, ⟨6, _⟩ => ⟨S1024x1024, .f32⟩
  | .hbm, ⟨7, _⟩ => ⟨S8192x3072, .f32⟩
  | .hbm, ⟨8, _⟩ => ⟨S8192x2048, .f32⟩
  | .hbm, ⟨9, _⟩ => ⟨S8192x512, .f32⟩
  | .hbm, ⟨10, _⟩ => ⟨S8192x5632, .f32⟩
  | .hbm, ⟨11, _⟩ => ⟨S8192x5632, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S1x2048, .f32⟩
  | .hbm, ⟨16, _⟩ => ⟨S1024x1024, .bf16⟩
  | .hbm, ⟨17, _⟩ => ⟨S8192x1024, .bf16⟩
  | .hbm, ⟨18, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x2048, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFwdIdeal.lean ====
variable {F : FTy → Type} [FloatOps F] [Named F]
def κ : String → Option EReal := fun
  | "gelu_cubic" => some ((12003091 / 268435456 : ℝ) : EReal)
  | "sqrt_2_over_pi" => some ((6693141 / 8388608 : ℝ) : EReal)
  | _ => none
-- ==== MergeFwdRefIdeal.lean ====
abbrev S8192x1024 : Shape := ⟨2, ![8192, 1024]⟩
abbrev S8192x5632 : Shape := ⟨2, ![8192, 5632]⟩
abbrev S2048 : Shape := ⟨1, ![2048]⟩
abbrev S1024x1024 : Shape := ⟨2, ![1024, 1024]⟩
abbrev S8192x256 : Shape := ⟨2, ![8192, 256]⟩
abbrev S8192x2048 : Shape := ⟨2, ![8192, 2048]⟩
abbrev S_ : Shape := ⟨0, ![]⟩
abbrev S1x2048 : Shape := ⟨2, ![1, 2048]⟩
abbrev S8192x2x1024 : Shape := ⟨3, ![8192, 2, 1024]⟩
abbrev S8192x1x1024 : Shape := ⟨3, ![8192, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x5632, .f32⟩
  | .hbm, ⟨4, _⟩ => ⟨S8192x1024, .f32⟩
  | .hbm, ⟨5, _⟩ => ⟨S2048, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x256, .f32⟩
  | .hbm, ⟨11, _⟩ => ⟨S8192x256, .f32⟩
  | .hbm, ⟨12, _⟩ => ⟨S8192x2048, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2x1024, .f32⟩
  | .hbm, ⟨44, _⟩ => ⟨S8192x1x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== NormFfn.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S8192x5632 : Shape := ⟨2, ![8192, 5632]⟩
abbrev S1024x1024 : Shape := ⟨2, ![1024, 1024]⟩
abbrev S2816x1024 : Shape := ⟨2, ![2816, 1024]⟩
abbrev S1024x2816 : Shape := ⟨2, ![1024, 2816]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S5632x1024, .bf16⟩
  | .hbm, ⟨6, _⟩ => ⟨S8192x1024, .bf16⟩
  | .hbm, ⟨7, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormFfnRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5632, .f32⟩
  | .hbm, ⟨21, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InProjFwd.lean ====
abbrev S8192x1024 : Shape := ⟨2, ![8192, 1024]⟩
abbrev S1024x5632 : Shape := ⟨2, ![1024, 5632]⟩
abbrev S5632x1024 : Shape := ⟨2, ![5632, 1024]⟩
abbrev S8192x5632 : Shape := ⟨2, ![8192, 5632]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S5632x1024, .f32⟩
  | .hbm, ⟨4, _⟩ => ⟨S5632x1024, .bf16⟩
  | .hbm, ⟨5, _⟩ => ⟨S8192x5632, .bf16⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x512, .bf16⟩
  | .local _ .vmem, ⟨5, _⟩ => ⟨S4096x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c10_i32 : BitVec 32 := 10#32
  let v1 : BitVec 1 := Scalar.cmpi .slt arg1 c10_i32
  let c1_i32 : BitVec 32 := 1#32
  let v2 : BitVec 32 := Scalar.addi arg1 c1_i32
  let c6_i32_0 : BitVec 32 := 6#32
  let v3 : BitVec 32 := Scalar.select v1 v2 c6_i32_0
  let v4 : BitVec 32 := Scalar.select v0 arg1 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjFwdRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x256 : Shape := ⟨2, ![8192, 256]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S8192x2048, .f32⟩
  | .hbm, ⟨9, _⟩ => ⟨S8192x5632, .f32⟩
  | .hbm, ⟨10, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== DwFfnOut.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnOutRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adamw.lean ====
abbrev S8x352x1024 : Shape := ⟨3, ![8, 352, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .bf16⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S_, .f32⟩
  | .hbm, ⟨5, _⟩ => ⟨S352x1024, .f32⟩
  | .hbm, ⟨6, _⟩ => ⟨S1x352x1024, .f32⟩
  | .hbm, ⟨7, _⟩ => ⟨S_, .f32⟩
  | .hbm, ⟨8, _⟩ => ⟨S1x352x1024, .f32⟩
  | .hbm, ⟨9, _⟩ => ⟨S1x352x1024, .f32⟩
  | .hbm, ⟨10, _⟩ => ⟨S_, .f32⟩
  | .hbm, ⟨11, _⟩ => ⟨S1x352x1024, .f32⟩
  | .hbm, ⟨12, _⟩ => ⟨S1x352x1024, .f32⟩
  | .hbm, ⟨13, _⟩ => ⟨S1x352x1024, .f32⟩
  | .hbm, ⟨14, _⟩ => ⟨S_, .f32⟩
  | .hbm, ⟨15, _⟩ => ⟨S1x352x1024, .f32⟩
  | .hbm, ⟨16, _⟩ => ⟨S1x352x1024, .f32⟩
  | .hbm, ⟨17, _⟩ => ⟨S1x352x1024, .f32⟩
  | .hbm, ⟨18, _⟩ => ⟨S_, .f32⟩
  | .hbm, ⟨19, _⟩ => ⟨S1x352x1024, .f32⟩
  | .hbm, ⟨20, _⟩ => ⟨S1x352x1024, .f32⟩
  | .hbm, ⟨21, _⟩ => ⟨S1x352x1024, .f32⟩
  | .hbm, ⟨22, _⟩ => ⟨S_, .f32⟩
  | .hbm, ⟨23, _⟩ => ⟨S1x352x1024, .f32⟩
  | .hbm, ⟨24, _⟩ => ⟨S1x352x1024, .f32⟩
  | .hbm, ⟨25, _⟩ => ⟨S_, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S_, .f32⟩
  | .hbm, ⟨30, _⟩ => ⟨S1x352x1024, .f32⟩
  | .hbm, ⟨31, _⟩ => ⟨S1x352x1024, .f32⟩
  | .hbm, ⟨32, _⟩ => ⟨S1x352x1024, .f32⟩
  | .hbm, ⟨33, _⟩ => ⟨S_, .f32⟩
  | .hbm, ⟨34, _⟩ => ⟨S1x352x1024, .f32⟩
  | .hbm, ⟨35, _⟩ => ⟨S1x352x1024, .f32⟩
  | .hbm, ⟨36, _⟩ => ⟨S1x352x1024, .f32⟩
  | .hbm, ⟨37, _⟩ => ⟨S_, .f32⟩
  | .hbm, ⟨38, _⟩ => ⟨S1x352x1024, .f32⟩
  | .hbm, ⟨39, _⟩ => ⟨S1x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Step.Finite.lean ====
module

public import Idealize.ShloMosaic.Lib.Pointwise
public import Idealize.ShloMosaic.Lib.ReduceAll

@[expose] public section

noncomputable section

open Idealize.ShloMosaic

/-!
# Entries that are real numbers

At the ideal instance a float is an extended real. The preconditions of this certificate say of an array that the
absolute value of each entry is below infinity. Here that is read as: each entry is a real number, and sums and
products of real entries are real.
-/

namespace Step

/-- The extended real is a real number. -/
def IsReal (a : EReal) : Prop := ∃ r : ℝ, a = (r : EReal)

theorem IsReal.coe (r : ℝ) : IsReal (r : EReal) := ⟨r, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

/-- The sum of finitely many reals, taken in the extended reals, is their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- An extended real whose absolute value is below infinity is a real number. -/
theorem IsReal.of_abs_lt {a : EReal} (h : max a (-a) < ⊤) : IsReal a := by
  induction a using EReal.rec with
  | bot => simp at h
  | coe r => exact ⟨r, rfl⟩
  | top => simp at h

theorem ofBits_inf : Ideal.ofBits .f32 0x7F800000#32 = ⊤ := by simp [Ideal.ofBits, Ideal.ieee]

/-- Where `all(|x| < ∞)` is one, every entry of `x` is a real number. -/
theorem isReal_of_all {s t : Shape} [Subsingleton t.Idx] {u : Shape} {axes : List (Fin s.rank)} (x : FVec Ideal s .f32)
    (dims : Fin u.rank → Fin s.rank) (hb : u.BroadcastsInDim s dims) (hr : s.ReducesTo axes t) (hu : 0 < u.numel) (j : t.Idx)
    (init : IVec u 1)
    (e : Host.reduce IntOp.andi (cmpf .olt (Host.absf x) (broadcastInDim s dims hb (constant u .f32 0x7F800000#32)))
      init hr hu j = 1#1) (i : s.Idx) : IsReal (x i) := by
  have h := Host.reduce_andi_all _ _ _ _ _ e i
  refine IsReal.of_abs_lt ?_
  have h' : FloatOps.cmpf (F := Ideal) .olt (max (x i) (-(x i))) (Ideal.ofBits .f32 0x7F800000#32) = 1#1 := h
  rw [ofBits_inf] at h'
  by_contra hc
  revert h'
  show ¬ (Ideal.cmp .olt (max (x i) (-(x i))) ⊤ = 1#1)
  simp [Ideal.cmp, hc]

/-- The conjunction of two one-bit words is one exactly when both are. -/
theorem andi_one {s : Shape} {a b : IVec s 1} {j : s.Idx} (h : andi a b j = 1#1) : a j = 1#1 ∧ b j = 1#1 := by
  have h' : a j &&& b j = 1#1 := h
  revert h'
  generalize a j = p
  generalize b j = q
  revert p q
  decide

end Step

end

end
-- ==== Proof.Step.Norm.lean ====
module

public import proofs.«01_k».proof.Proof.Step.Finite

@[expose] public section

noncomputable section

open Idealize.ShloMosaic

/-!
# The gradient of the root-mean-square norm, one row

A row `x` of 1024 entries is scaled by `r = (mean(x²) + ε)^(-1/2)`. With `w` the cotangent times the gain, the kernel
adds `r · (w_j - x_j r · mean(w · x r))`; the derivative of the formula, followed operation by operation, adds
`w_j r` and twice `x_j · (Σ x w) · (-1/2 · r / (mean(x²) + ε)) / 1024`. For real entries these agree.
-/

namespace Step

theorem ofBits_1024 : Ideal.ofBits .f32 1149239296#32 = ((1024 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

theorem ofBits_eps : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

/-- The mean of the squares of a row, plus the norm's ε. -/
def meanSq (x : Fin 1024 → EReal) : EReal :=
  Ideal.div (∑ k, x k * x k) (Ideal.ofBits .f32 1149239296#32) + Ideal.ofBits .f32 897988541#32

/-- The factor the norm scales a row by. -/
def scale (x : Fin 1024 → EReal) : EReal := Ideal.rsqrt (meanSq x)

/-- For a real row both are real: a positive mean, and the reciprocal of its root. -/
theorem meanSq_real (x : Fin 1024 → EReal) (hx : ∀ k, IsReal (x k)) :
    ∃ q : ℝ, 0 < q ∧ meanSq x = (q : EReal) ∧ scale x = (((Real.sqrt q)⁻¹ : ℝ) : EReal) := by
  choose X hX using hx
  obtain ⟨e, he, hee⟩ := ofBits_eps
  have hq : 0 < (∑ k, X k * X k) * (1 / 1024) + e := by
    have : 0 ≤ ∑ k, X k * X k := Finset.sum_nonneg fun k _ => mul_self_nonneg _
    positivity
  have hm : meanSq x = (((∑ k, X k * X k) * (1 / 1024) + e : ℝ) : EReal) := by
    rw [meanSq, ofBits_1024, hee, Ideal.div_coe (by norm_num), EReal.coe_add, EReal.coe_mul, ← coe_sum]
    simp only [hX, EReal.coe_mul]
  refine ⟨_, hq, hm, ?_⟩
  rw [scale, hm, Ideal.rsqrt_coe, if_neg (not_lt.2 hq.le), if_neg hq.ne']

theorem scale_isReal (x : Fin 1024 → EReal) (hx : ∀ k, IsReal (x k)) : IsReal (scale x) := by
  obtain ⟨q, _, _, h⟩ := meanSq_real x hx
  exact ⟨_, h⟩

/-- The kernel's gradient of one entry of the row and the derivative's: both added to the same `d`, which may be infinite. -/
theorem norm_grad (x w : Fin 1024 → EReal) (hx : ∀ k, IsReal (x k)) (hw : ∀ k, IsReal (w k)) (d : EReal) (j : Fin 1024) :
    d + scale x * (w j - x j * scale x * Ideal.div (∑ k, w k * (x k * scale x)) (Ideal.ofBits .f32 1149239296#32))
      = d + w j * scale x
        + x j * Ideal.div ((∑ k, x k * w k) * (Ideal.ofBits .f32 3204448256#32 * Ideal.div (scale x) (meanSq x)))
            (Ideal.ofBits .f32 1149239296#32)
        + Ideal.div ((∑ k, x k * w k) * (Ideal.ofBits .f32 3204448256#32 * Ideal.div (scale x) (meanSq x)))
            (Ideal.ofBits .f32 1149239296#32) * x j := by
  obtain ⟨q, hq, hm, hs⟩ := meanSq_real x hx
  choose X hX using hx
  choose W hW using hw
  rw [hm, hs, ofBits_1024, ofBits_neg_half]
  simp only [hX, hW, Ideal.div_coe (show (1024 : ℝ) ≠ 0 by norm_num), Ideal.div_coe hq.ne', ← EReal.coe_mul, coe_sum,
    ← EReal.coe_sub, add_assoc, ← EReal.coe_add]
  congr 2
  have h1 : ∑ k, W k * (X k * (Real.sqrt q)⁻¹) = (Real.sqrt q)⁻¹ * ∑ k, X k * W k := by
    rw [Finset.mul_sum]; exact Finset.sum_congr rfl fun k _ => by ring
  rw [h1]
  have h2 : (1 / q : ℝ) = (Real.sqrt q)⁻¹ * (Real.sqrt q)⁻¹ := by
    rw [← mul_inv, Real.mul_self_sqrt hq.le, one_div]
  rw [h2]
  ring

end Step

end

end
-- ==== Proof.Loss.Form.lean ====
module

public import proofs.«01_k».proof.Proof.Gen.LossIdeal
public import proofs.«01_k».proof.Proof.Step.Norm
public import Idealize.ShloMosaic.Lib.Pipeline.ValueKit

@[expose] public section

set_option maxRecDepth 16384

noncomputable section

open Idealize.ShloMosaic Idealize.ShloMosaic.TcCoe Idealize.SL.Sem

/-!
# What the loss's call computes, in closed form

The feed-forward product's input `gu` holds the gate in its first 2816 columns and the factor `up` in the others.
-/

namespace Cert.LossIdeal.Block
open Cert.LossIdeal Cert.LossIdeal.Gen

/-- The logistic function by the hyperbolic tangent, as the kernel writes it. -/
def sg (g : EReal) : EReal :=
  Ideal.ofBits .bf16 16128#16 * Ideal.tanh (Ideal.ofBits .bf16 16128#16 * g) + Ideal.ofBits .bf16 16128#16

section
variable (gu : FVec Ideal S8192x5632 .f32) (x1 : FVec Ideal S8192x1024 .f32) (w : FVec Ideal S2816x1024 .f32)
  (g : FVec Ideal S1024 .f32) (tg : FVec Ideal S8192x1024 .f32)

def gate (r : Fin 8192) (k : Fin 2816) : EReal := gu (ix2 r (⟨(k : ℕ), by omega⟩ : Fin 5632))
def up (r : Fin 8192) (k : Fin 2816) : EReal := gu (ix2 r (⟨2816 + (k : ℕ), by omega⟩ : Fin 5632))
def silu (r : Fin 8192) (k : Fin 2816) : EReal := gate gu r k * sg (gate gu r k)
/-- The gated product. -/
def FF (r : Fin 8192) (k : Fin 2816) : EReal := silu gu r k * up gu r k
/-- The residual stream after the feed-forward. -/
def X2 (r : Fin 8192) (j : Fin 1024) : EReal := x1 (ix2 r j) + ∑ k : Fin 2816, FF gu r k * w (ix2 k j)
def sc (r : Fin 8192) : EReal := Step.scale (X2 gu x1 w r)
/-- The normalised stream. -/
def XH (r : Fin 8192) (j : Fin 1024) : EReal := X2 gu x1 w r j * sc gu x1 w r
/-- The difference from the target. -/
def E (r : Fin 8192) (j : Fin 1024) : EReal := XH gu x1 w r j * g (ix1 j) - tg (ix2 r j)
/-- The loss's derivative by the last norm's output. -/
def DY (r : Fin 8192) (j : Fin 1024) : EReal := E gu x1 w g tg r j * Ideal.ofBits .f32 981467136#32
/-- The residual stream's gradient. -/
def DXv (r : Fin 8192) (j : Fin 1024) : EReal :=
  sc gu x1 w r * (DY gu x1 w g tg r j * g (ix1 j)
    - XH gu x1 w r j * Ideal.div (∑ k : Fin 1024, DY gu x1 w g tg r k * g (ix1 k) * XH gu x1 w r k)
        (Ideal.ofBits .f32 1149239296#32))
/-- The gated product's gradient. -/
def DFF (r : Fin 8192) (k : Fin 2816) : EReal := ∑ j : Fin 1024, DXv gu x1 w g tg r j * w (ix2 k j)

/-! The seven results. -/

def ffOut : FVec Ideal S8192x2816 .bf16 := fun i => FF gu (i 0) (i 1)
def dxOut : FVec Ideal S8192x1024 .f32 := fun i => DXv gu x1 w g tg (i 0) (i 1)
def lossOut : FVec Ideal S1x128 .f32 := fun _ =>
  ∑ t : Fin 32, Ideal.ofBits .f32 973078528#32 * ∑ r : Fin 256, ∑ j : Fin 1024,
    E gu x1 w g tg (⟨(t : ℕ) * 256 + (r : ℕ), by omega⟩ : Fin 8192) j
      * E gu x1 w g tg (⟨(t : ℕ) * 256 + (r : ℕ), by omega⟩ : Fin 8192) j
def dgOut : FVec Ideal S1x1024 .f32 := fun i => ∑ r : Fin 8192, DY gu x1 w g tg r (i 1) * XH gu x1 w r (i 1)
def dgateOut : FVec Ideal S8192x2816 .bf16 := fun i =>
  DFF gu x1 w g tg (i 0) (i 1) * (up gu (i 0) (i 1) * (sg (gate gu (i 0) (i 1))
    * (Ideal.ofBits .bf16 16256#16 + gate gu (i 0) (i 1) * (Ideal.ofBits .bf16 16256#16 - sg (gate gu (i 0) (i 1))))))
def dupOut : FVec Ideal S8192x2816 .bf16 := fun i => DFF gu x1 w g tg (i 0) (i 1) * silu gu (i 0) (i 1)
end

end Cert.LossIdeal.Block

end

end
-- ==== Proof.Gate.Form.lean ====
module

public import proofs.«01_k».proof.Proof.Gen.GateIdeal.Skeleton
public import proofs.«01_k».proof.Proof.Loss.Form
public import Idealize.ShloMosaic.Lib.Pointwise

@[expose] public section

set_option maxRecDepth 16384

noncomputable section

open Idealize.ShloMosaic Idealize.ShloMosaic.TcCoe Idealize.SL.Sem

/-!
# What the gated merge's backward call computes, in closed form
-/

namespace Cert.GateIdeal.Block
open Cert.GateIdeal Cert.GateIdeal.Gen
open Cert.LossIdeal.Block (sg)

/-! The activation, by its tanh approximation, and its derivative. -/

def rootC : EReal := ((6693141 / 8388608 : ℝ) : EReal)
def cubC : EReal := ((12003091 / 268435456 : ℝ) : EReal)
def cub3C : EReal := ((36009273 / 268435456 : ℝ) : EReal)
def halfC : EReal := Ideal.ofBits .bf16 16128#16

def th (g : EReal) : EReal := Ideal.tanh (rootC * (g + cubC * (g * g * g)))
def gelu (g : EReal) : EReal := halfC * g * (1 + th g)
def dgelu (g : EReal) : EReal :=
  halfC * (1 + th g) + halfC * g * (1 - th g * th g) * (rootC * (1 + cub3C * (g * g)))

section
variable (ct : FVec Ideal S8192x1024 .f32) (w : FVec Ideal S1024x1024 .f32) (hf hb : FVec Ideal S8192x1024 .f32)
  (proj : FVec Ideal S8192x5632 .f32) (yb : FVec Ideal S8192x1024 .f32) (b : FVec Ideal S2048 .f32)

/-- The cotangent of the merged rows. -/
def dm (r : Fin 8192) (j : Fin 1024) : EReal := ∑ k : Fin 1024, ct (ix2 r k) * w (ix2 j k)
def gcol (r : Fin 8192) (j : Fin 1024) : EReal := proj (ix2 r (⟨1024 + (j : ℕ), by omega⟩ : Fin 5632))
def zcol (r : Fin 8192) (k : Fin 2048) : EReal := proj (ix2 r (⟨3584 + (k : ℕ), by omega⟩ : Fin 5632))
def gt (r : Fin 8192) (k : Fin 2048) : EReal := sg (zcol proj r k + b (ix1 k))
def gt0 (r : Fin 8192) (j : Fin 1024) : EReal := gt proj b r (⟨(j : ℕ), by omega⟩ : Fin 2048)
def gt1 (r : Fin 8192) (j : Fin 1024) : EReal := gt proj b r (⟨1024 + (j : ℕ), by omega⟩ : Fin 2048)
def hsum (r : Fin 8192) (j : Fin 1024) : EReal := hf (ix2 r j) + hb (ix2 r j)

def dz0 (r : Fin 8192) (j : Fin 1024) : EReal :=
  dm ct w r j * (hsum hf hb r j * gelu (gcol proj r j) * (gt0 proj b r j * (1 - gt0 proj b r j)))
def dz1 (r : Fin 8192) (j : Fin 1024) : EReal :=
  dm ct w r j * (yb (ix2 r j) * (gt1 proj b r j * (1 - gt1 proj b r j)))
def dz (r : Fin 8192) (k : Fin 2048) : EReal :=
  if h : (k : ℕ) < 1024 then dz0 ct w hf hb proj b r ⟨(k : ℕ), h⟩ else dz1 ct w proj yb b r ⟨(k : ℕ) - 1024, by omega⟩

def dhOut : FVec Ideal S8192x1024 .bf16 := fun i => dm ct w (i 0) (i 1) * (gt0 proj b (i 0) (i 1) * gelu (gcol proj (i 0) (i 1)))
def dgOut : FVec Ideal S8192x1024 .bf16 := fun i =>
  dm ct w (i 0) (i 1) * (gt0 proj b (i 0) (i 1) * hsum hf hb (i 0) (i 1) * dgelu (gcol proj (i 0) (i 1)))
def dzOut : FVec Ideal S8192x2048 .bf16 := fun i => dz ct w hf hb proj yb b (i 0) (i 1)
def dybOut : FVec Ideal S8192x1024 .bf16 := fun i => dm ct w (i 0) (i 1) * gt1 proj b (i 0) (i 1)
def dbOut : FVec Ideal S1x2048 .f32 := fun i => ∑ r : Fin 8192, dz ct w hf hb proj yb b r (i 1)
end

end Cert.GateIdeal.Block

end

end
-- ==== Proof.Gate.Block.lean ====
module

public import proofs.«01_k».proof.Proof.Gen.GateIdeal.Frame
public import proofs.«01_k».proof.Proof.Gate.Form
public import Idealize.ShloMosaic.Lib.Pipeline.ValueKit

@[expose] public section

set_option maxRecDepth 16384

noncomputable section

open Idealize.ShloMosaic Idealize.ShloMosaic.TcCoe Idealize.SL.Sem

/-!
# What the gated merge's backward call leaves in its result arrays
-/

namespace Cert.GateIdeal.Block
open Cert.GateIdeal Cert.GateIdeal.Gen
open Cert.LossIdeal.Block (sg)

variable (m : (ℓ : Loc nD τ sig) → Buf (Elt Ideal) ℓ)

/-- The blocks the grid's points read and write. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 1]
    ∧ win0_5.index t = ![t.val, 3] ∧ win0_6.index t = ![t.val, 4] ∧ win0_7.index t = ![t.val, 0]
    ∧ win0_8.index t = ![0, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

variable (c : Dev nD) (t : Fin cfg0.N)

theorem lt8 (t : Fin cfg0.N) : t.val < 8 := lt_of_lt_of_eq t.isLt N_0

/-- The array's row that is row `r` of the point's tile. -/
def row (t : Fin cfg0.N) (r : Fin 1024) : Fin 8192 := ⟨1024 * t.val + (r : ℕ), by have := lt8 t; omega⟩

/-! The blocks read. -/

theorem b0_at (r j : Fin 1024) : iblk m c 0 t (ix2 r j) = (m ((c : Thread nD τ).loc main_arg0)) (ix2 (row t r) j) := by
  pointwise [row]
  blk_point [iblk, V, idx t]

theorem b2_at (r j : Fin 1024) : iblk m c 2 t (ix2 r j) = (m ((c : Thread nD τ).loc main_arg2)) (ix2 (row t r) j) := by
  pointwise [row]
  blk_point [iblk, V, idx t]

theorem b3_at (r j : Fin 1024) : iblk m c 3 t (ix2 r j) = (m ((c : Thread nD τ).loc main_arg3)) (ix2 (row t r) j) := by
  pointwise [row]
  blk_point [iblk, V, idx t]

theorem b7_at (r j : Fin 1024) : iblk m c 7 t (ix2 r j) = (m ((c : Thread nD τ).loc main_arg5)) (ix2 (row t r) j) := by
  pointwise [row]
  blk_point [iblk, V, idx t]

theorem b1_at (r j : Fin 1024) : iblk m c 1 t (ix2 r j) = (m ((c : Thread nD τ).loc main_arg1)) (ix2 r j) := by
  pointwise
  blk_point [iblk, V, idx t]

theorem b8_at (k : Fin 2048) : iblk m c 8 t (ix2 (0 : Fin 1) k) = (m ((c : Thread nD τ).loc main_arg6)) (ix1 k) := by
  pointwise
  blk_point [iblk, V, idx t]

/-- The kernel's order of the projection's columns. -/
def cols (p : FVec Ideal S8192x5632 .f32) : FVec Ideal S8192x5632 .bf16 :=
  truncf .bf16 (concatenate S8192x5632 1 [⟨S8192x3072, extractStridedSlice S8192x3072 ![0, 0] p slices_S8192x5632_S8192x3072_0_0⟩,
    ⟨S8192x2048, extractStridedSlice S8192x2048 ![0, 3584] p slices_S8192x5632_S8192x2048_0_3584⟩,
    ⟨S8192x512, extractStridedSlice S8192x512 ![0, 3072] p slices_S8192x5632_S8192x512_0_3072⟩]
    concatenates_S8192x3072_S8192x2048_S8192x512_S8192x5632_d1) bitsLt_bf16_f32

theorem V4 : V m c main_v4 = cols (m ((c : Thread nD τ).loc main_arg4)) := by
  unfold V
  after_results
  try rfl

theorem cols_lo (p : FVec Ideal S8192x5632 .f32) (r : Fin 8192) (j : Fin 1024) :
    cols p (ix2 r (⟨1024 + (j : ℕ), by omega⟩ : Fin 5632)) = gcol p r j := by
  pointwise [cols, gcol]
  rw [dif_pos (by omega)]

theorem cols_hi (p : FVec Ideal S8192x5632 .f32) (r : Fin 8192) (k : Fin 2048) :
    cols p (ix2 r (⟨3072 + (k : ℕ), by omega⟩ : Fin 5632)) = zcol p r k := by
  pointwise [cols, zcol]

theorem b4_at (r j : Fin 1024) : X0_4 m c t (ix2 r j) = gcol (m ((c : Thread nD τ).loc main_arg4)) (row t r) j := by
  unfold X0_4 Pipeline.Window.fill
  rw [dif_pos (moved0_4 t _)]
  refine (congrFun (V4 m c) _).trans ?_
  refine Eq.trans (congrArg (cols _) ?_) (cols_lo _ (row t r) j)
  blk_ext [idx t, row]

theorem b5_at (r j : Fin 1024) : X0_5 m c t (ix2 r j) = zcol (m ((c : Thread nD τ).loc main_arg4)) (row t r) (⟨(j : ℕ), by omega⟩ : Fin 2048) := by
  unfold X0_5 Pipeline.Window.fill
  rw [dif_pos (moved0_5 t _)]
  refine (congrFun (V4 m c) _).trans ?_
  refine Eq.trans (congrArg (cols _) ?_) (cols_hi _ (row t r) (⟨(j : ℕ), by omega⟩ : Fin 2048))
  blk_ext [idx t, row]

theorem b6_at (r j : Fin 1024) : X0_6 m c t (ix2 r j) = zcol (m ((c : Thread nD τ).loc main_arg4)) (row t r) (⟨1024 + (j : ℕ), by omega⟩ : Fin 2048) := by
  unfold X0_6 Pipeline.Window.fill
  rw [dif_pos (moved0_6 t _)]
  refine (congrFun (V4 m c) _).trans ?_
  refine Eq.trans (congrArg (cols _) ?_) (cols_hi _ (row t r) (⟨1024 + (j : ℕ), by omega⟩ : Fin 2048))
  blk_ext [idx t, row]

/-! The named constants. -/

theorem root_c : Named.named (F := Ideal) κ "sqrt_2_over_pi" (φ := .bf16) 16204#16 = rootC :=
  IdealRules.named_const.ideal_named_scalar _ _ _ _ rfl

theorem cub_c : Named.named (F := Ideal) κ "gelu_cubic" (φ := .bf16) 15671#16 = cubC :=
  IdealRules.named_const.ideal_named_scalar _ _ _ _ rfl

theorem cub3_c : Named.named (F := Ideal) κ "gelu_cubic_3" (φ := .bf16) 15881#16 = cub3C :=
  IdealRules.named_const.ideal_named_scalar _ _ _ _ rfl

/-! The values computed at a point. -/

def pDM : FVec Ideal S1024x1024 .f32 := k0_pay8 (iblk m c 0 t) (iblk m c 1 t)
def pG : FVec Ideal S1024x1024 .bf16 := k0_pay12 (X0_4 m c t)
def pTh : FVec Ideal S1024x1024 .bf16 := k0_pay18 (pG m c t)
def pGelu : FVec Ideal S1024x1024 .bf16 := k0_pay19 (pG m c t)
def pDGelu : FVec Ideal S1024x1024 .bf16 := k0_pay20 (pG m c t)
def pG0 : FVec Ideal S1024x1024 .bf16 := k0_pay15 (X0_5 m c t) (iblk m c 8 t)
def pG1 : FVec Ideal S1024x1024 .bf16 := k0_pay17 (k0_pay13 (X0_6 m c t)) (k0_pay16 (iblk m c 8 t))
def pHs : FVec Ideal S1024x1024 .bf16 := k0_pay21 (k0_pay10 (iblk m c 2 t)) (k0_pay11 (iblk m c 3 t))
def pYa : FVec Ideal S1024x1024 .bf16 := k0_pay22 (k0_pay10 (iblk m c 2 t)) (k0_pay11 (iblk m c 3 t)) (pG m c t)
def pDZ : FVec Ideal S1024x2048 .f32 := k0_pay4 (pDM m c t) (k0_pay9 (iblk m c 7 t)) (pG0 m c t) (pG1 m c t) (pYa m c t)

theorem dm_at (r j : Fin 1024) : pDM m c t (ix2 r j) = dm (m ((c : Thread nD τ).loc main_arg0)) (m ((c : Thread nD τ).loc main_arg1)) (row t r) j := by
  pointwise [pDM, k0_pay8, dm]
  simp only [b0_at, b1_at]

theorem g_at (r j : Fin 1024) : pG m c t (ix2 r j) = gcol (m ((c : Thread nD τ).loc main_arg4)) (row t r) j := by
  pointwise [pG, k0_pay12]
  rw [b4_at]

theorem th_at (r j : Fin 1024) : k0_pay18 (pG m c t) (ix2 r j) = th (gcol (m ((c : Thread nD τ).loc main_arg4)) (row t r) j) := by
  pointwise [k0_pay18, th]
  simp only [g_at, root_c, cub_c]

theorem gelu_at (r j : Fin 1024) : k0_pay19 (pG m c t) (ix2 r j) = gelu (gcol (m ((c : Thread nD τ).loc main_arg4)) (row t r) j) := by
  pointwise [k0_pay19, gelu, halfC]
  simp only [g_at, th_at]

theorem dgelu_at (r j : Fin 1024) : pDGelu m c t (ix2 r j) = dgelu (gcol (m ((c : Thread nD τ).loc main_arg4)) (row t r) j) := by
  pointwise [pDGelu, k0_pay20, dgelu, halfC]
  simp only [g_at, th_at, root_c, cub3_c]

theorem g0_at (r j : Fin 1024) : pG0 m c t (ix2 r j) = gt0 (m ((c : Thread nD τ).loc main_arg4)) (m ((c : Thread nD τ).loc main_arg6)) (row t r) j := by
  pointwise [pG0, k0_pay15, k0_pay14, gt0, gt, sg]
  simp only [b5_at, b8_at]

theorem g1_at (r j : Fin 1024) : pG1 m c t (ix2 r j) = gt1 (m ((c : Thread nD τ).loc main_arg4)) (m ((c : Thread nD τ).loc main_arg6)) (row t r) j := by
  pointwise [pG1, k0_pay17, k0_pay16, k0_pay14, k0_pay13, gt1, gt, sg]
  simp only [b6_at, b8_at]

theorem hs_at (r j : Fin 1024) : pHs m c t (ix2 r j) = hsum (m ((c : Thread nD τ).loc main_arg2)) (m ((c : Thread nD τ).loc main_arg3)) (row t r) j := by
  pointwise [pHs, k0_pay21, k0_pay10, k0_pay11, hsum]
  simp only [b2_at, b3_at]

theorem ya_at (r j : Fin 1024) : pYa m c t (ix2 r j) = hsum (m ((c : Thread nD τ).loc main_arg2)) (m ((c : Thread nD τ).loc main_arg3)) (row t r) j * gelu (gcol (m ((c : Thread nD τ).loc main_arg4)) (row t r) j) := by
  have h := hs_at m c t r j
  unfold pHs at h
  pointwise [pYa, k0_pay22]
  rw [h, gelu_at]

theorem dz_at (r : Fin 1024) (k : Fin 2048) : pDZ m c t (ix2 r k) = dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) k := by
  pointwise [pDZ, k0_pay4, k0_pay9, dz, dz0, dz1]
  simp only [dm_at, ya_at, g0_at, g1_at, b7_at]

theorem row_of (s : Fin 8) (h : 8 * (t.val / 8) + (s : ℕ) < cfg0.N) (r : Fin 1024) :
    row ⟨8 * (t.val / 8) + (s : ℕ), h⟩ r = (⟨(s : ℕ) * 1024 + (r : ℕ), by omega⟩ : Fin 8192) := by
  have := lt8 t
  exact Fin.ext (by dsimp only [row] <;> omega)

theorem emb9 (r : Fin 1024) (k : Fin 1024) : ((cfg0.win 9).blk t).view.emb (ix2 r k) = ix2 (row t r) k := by
  blk_ext [idx t, row]

theorem point9 (y : S1024x1024.Idx) : k0_pay1 (pDM m c t) (k0_pay23 (pG m c t) (pG0 m c t)) y
      = dhOut (m ((c : Thread nD τ).loc main_arg0)) (m ((c : Thread nD τ).loc main_arg1)) (m ((c : Thread nD τ).loc main_arg4)) (m ((c : Thread nD τ).loc main_arg6)) (((cfg0.win 9).blk t).view.emb y) := by
  idx_vars y
  rw [emb9]
  pointwise [k0_pay1, k0_pay23, dhOut]
  simp only [dm_at, g0_at, gelu_at]

theorem final9 : (dats m 0 c).arrAt 9 (cfgs 0).N = dhOut (m ((c : Thread nD τ).loc main_arg0)) (m ((c : Thread nD τ).loc main_arg1)) (m ((c : Thread nD τ).loc main_arg4)) (m ((c : Thread nD τ).loc main_arg6)) := by
  refine (dats m 0 c).arrAt_eq_of_covers 9 _ (by decide +kernel) fun t _ y => ?_
  blk_simp
  rw [after0_9]
  by_cases h : t.val % 8 = 0
  · rw [outsAt0_A m c t h]
    dsimp only
    frame_out
    exact point9 m c t y
  · rw [outsAt0_B m c t h]
    dsimp only
    frame_out
    exact point9 m c t y

theorem emb10 (r : Fin 1024) (k : Fin 1024) : ((cfg0.win 10).blk t).view.emb (ix2 r k) = ix2 (row t r) k := by
  blk_ext [idx t, row]

theorem point10 (y : S1024x1024.Idx) : k0_pay2 (pDM m c t) (pG0 m c t) (pDGelu m c t) (pHs m c t) y
      = dgOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (((cfg0.win 10).blk t).view.emb y) := by
  idx_vars y
  rw [emb10]
  pointwise [k0_pay2, dgOut]
  simp only [dm_at, g0_at, dgelu_at, hs_at]

theorem final10 : (dats m 0 c).arrAt 10 (cfgs 0).N = dgOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  by_cases h : t.val % 8 = 0
  · rw [outsAt0_A m c t h]
    dsimp only
    frame_out
    exact point10 m c t y
  · rw [outsAt0_B m c t h]
    dsimp only
    frame_out
    exact point10 m c t y

theorem emb11 (r : Fin 1024) (k : Fin 2048) : ((cfg0.win 11).blk t).view.emb (ix2 r k) = ix2 (row t r) k := by
  blk_ext [idx t, row]

theorem point11 (y : S1024x2048.Idx) : k0_pay5 (pDM m c t) (k0_pay9 (iblk m c 7 t)) (pG0 m c t) (pG1 m c t) (pYa m c t) y
      = dzOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  idx_vars y
  have h := dz_at m c t y0
  unfold pDZ at h
  rw [emb11]
  pointwise [k0_pay5, dzOut]
  simp only [h]

theorem final11 : (dats m 0 c).arrAt 11 (cfgs 0).N = dzOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  by_cases h : t.val % 8 = 0
  · rw [outsAt0_A m c t h]
    dsimp only
    frame_out
    exact point11 m c t y
  · rw [outsAt0_B m c t h]
    dsimp only
    frame_out
    exact point11 m c t y

theorem emb12 (r : Fin 1024) (k : Fin 1024) : ((cfg0.win 12).blk t).view.emb (ix2 r k) = ix2 (row t r) k := by
  blk_ext [idx t, row]

theorem point12 (y : S1024x1024.Idx) : k0_pay3 (pDM m c t) (pG1 m c t) y
      = dybOut (m ((c : Thread nD τ).loc main_arg0)) (m ((c : Thread nD τ).loc main_arg1)) (m ((c : Thread nD τ).loc main_arg4)) (m ((c : Thread nD τ).loc main_arg6)) (((cfg0.win 12).blk t).view.emb y) := by
  idx_vars y
  rw [emb12]
  pointwise [k0_pay3, dybOut]
  simp only [dm_at, g1_at]

theorem final12 : (dats m 0 c).arrAt 12 (cfgs 0).N = dybOut (m ((c : Thread nD τ).loc main_arg0)) (m ((c : Thread nD τ).loc main_arg1)) (m ((c : Thread nD τ).loc main_arg4)) (m ((c : Thread nD τ).loc main_arg6)) := by
  refine (dats m 0 c).arrAt_eq_of_covers 12 _ (by decide +kernel) fun t _ y => ?_
  blk_simp
  rw [after0_12]
  by_cases h : t.val % 8 = 0
  · rw [outsAt0_A m c t h]
    dsimp only
    frame_out
    exact point12 m c t y
  · rw [outsAt0_B m c t h]
    dsimp only
    frame_out
    exact point12 m c t y

theorem zero13 (y : S1x2048.Idx) : (k0_pay7 (F := Ideal)) y = 0 := by
  pointwise [k0_pay7]

/-- One point's contribution to the bias's derivative. -/
theorem db_step (v : Vec Ideal S1x2048 .f32) (y : S1x2048.Idx) :
    k0_pay6 (pDM m c t) (k0_pay9 (iblk m c 7 t)) (pG0 m c t) (pG1 m c t) (pYa m c t) v y
      = v y + ∑ r : Fin 1024, dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t r) (y 1) := by
  idx_vars y
  have h := dz_at m c t
  unfold pDZ at h
  pointwise [k0_pay6]
  simp only [h]

theorem emb13 (z : Fin 1) (k : Fin 2048) : ((cfg0.win 13).blk t).view.emb (ix2 z k) = ix2 z k := by
  blk_ext [idx t]

theorem final13 : (dats m 0 c).arrAt 13 (cfgs 0).N = dbOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13, Pipeline.eq_sum_fin_of_reset_step_apply_of_flush (fun n h => (outsAt0 m c n h).2.2.2.2) 8 (fun _ => 0) _
    (fun t h j => by rw [outsAt0_A m c t h]; dsimp only; frame_out; exact (db_step m c t _ j).trans (congrArg (· + _) (zero13 j)))
    (fun t h j => by rw [outsAt0_B m c t h]; dsimp only; frame_out; exact db_step m c t _ j)
    t ((flush0_13 t).mp hf) _, zero_add]
  simp only [row_of]
  idx_vars y
  rw [emb13]
  refine Fin.sum_mul_add_congr fun s r hl => ?_
  rfl

end Cert.GateIdeal.Block

end

end
-- ==== Proof.Loss.Ref.lean ====
module

public import proofs.«01_k».proof.Proof.Gen.LossRefIdeal.Read
public import proofs.«01_k».proof.Proof.Gen.Pre_loss_finite
public import proofs.«01_k».proof.Proof.Loss.Form

@[expose] public section

set_option maxRecDepth 16384

noncomputable section

open Idealize.ShloMosaic Idealize.ShloMosaic.TcCoe Idealize.SL.Sem

/-!
# What the reference of the loss's call computes
-/

namespace Cert.LossRefIdeal.RefValue
open Cert.LossRefIdeal Cert.LossRefIdeal.Gen Cert.LossRefIdeal.Read
open Cert.LossIdeal.Block (sg gate up silu FF X2 sc XH E DY DXv DFF ffOut dxOut lossOut dgOut dgateOut dupOut)

/-- The arrays hold real numbers. -/
structure Reals (x0 : FVec Ideal S8192x5632 .f32) (x1 : FVec Ideal S8192x1024 .f32) (x2 : FVec Ideal S2816x1024 .f32)
    (x3 : FVec Ideal S1024 .f32) (x4 : FVec Ideal S8192x1024 .f32) : Prop where
  h0 : ∀ i, Step.IsReal (x0 i)
  h1 : ∀ i, Step.IsReal (x1 i)
  h2 : ∀ i, Step.IsReal (x2 i)
  h3 : ∀ i, Step.IsReal (x3 i)
  h4 : ∀ i, Step.IsReal (x4 i)

instance : Subsingleton (Cert.Pre_loss_finite.S_).Idx := ⟨fun a b => funext fun i => i.elim0⟩

variable (x0 : FVec Ideal S8192x5632 .f32) (x1 : FVec Ideal S8192x1024 .f32) (x2 : FVec Ideal S2816x1024 .f32)
    (x3 : FVec Ideal S1024 .f32) (x4 : FVec Ideal S8192x1024 .f32)

theorem reals (h : Cert.Pre_loss_finite.fn (F := Ideal) x0 x1 x2 x3 x4 = fun _ => 1#1) : Reals x0 x1 x2 x3 x4 := by
  have e := congrFun h (fun i => i.elim0)
  unfold Cert.Pre_loss_finite.fn Cert.Pre_loss_finite.fn_part1 at e
  obtain ⟨e, e4⟩ := Step.andi_one e
  obtain ⟨e, e3⟩ := Step.andi_one e
  obtain ⟨e, e2⟩ := Step.andi_one e
  obtain ⟨e0, e1⟩ := Step.andi_one e
  exact ⟨Step.isReal_of_all _ _ _ _ _ _ _ e0, Step.isReal_of_all _ _ _ _ _ _ _ e1, Step.isReal_of_all _ _ _ _ _ _ _ e2,
    Step.isReal_of_all _ _ _ _ _ _ _ e3, Step.isReal_of_all _ _ _ _ _ _ _ e4⟩

/-! The constants. -/

theorem half16 : Ideal.ofBits .bf16 16128#16 = ((1 / 2 : ℝ) : EReal) := by
  simp [Ideal.ofBits, Ideal.ieee, -EReal.coe_mul]; norm_num

theorem one16 : Ideal.ofBits .bf16 16256#16 = ((1 : ℝ) : EReal) := by
  simp [Ideal.ofBits, Ideal.ieee, -EReal.coe_mul]; norm_num

theorem one32 : Ideal.ofBits .f32 1065353216#32 = ((1 : ℝ) : EReal) := by
  simp [Ideal.ofBits, Ideal.ieee, -EReal.coe_mul]; norm_num

theorem half32 : Ideal.ofBits .f32 1056964608#32 = ((1 / 2 : ℝ) : EReal) := by
  simp [Ideal.ofBits, Ideal.ieee, -EReal.coe_mul]; norm_num

theorem two32 : Ideal.ofBits .f32 1073741824#32 = ((2 : ℝ) : EReal) := by
  simp [Ideal.ofBits, Ideal.ieee, -EReal.coe_mul]; norm_num

theorem p11 : Ideal.ofBits .f32 973078528#32 = ((1 / 2048 : ℝ) : EReal) := by
  simp [Ideal.ofBits, Ideal.ieee, -EReal.coe_mul]; norm_num

theorem p10 : Ideal.ofBits .f32 981467136#32 = ((1 / 1024 : ℝ) : EReal) := by
  simp [Ideal.ofBits, Ideal.ieee, -EReal.coe_mul]; norm_num

/-! The logistic function. -/

theorem tanh_half (g : ℝ) : 1 / 2 * Real.tanh (1 / 2 * g) + 1 / 2 = (1 + Real.exp (-g))⁻¹ := by
  have h : Real.exp (-g) = Real.exp (-(1 / 2 * g)) * Real.exp (-(1 / 2 * g)) := by
    rw [← Real.exp_add]; ring_nf
  have ha := Real.exp_pos (1 / 2 * g)
  have hm : Real.exp (1 / 2 * g) * Real.exp (-(1 / 2 * g)) = 1 := by rw [← Real.exp_add]; simp
  have hb := Real.exp_pos (-(1 / 2 * g))
  rw [Real.tanh_eq_sinh_div_cosh, Real.sinh_eq, Real.cosh_eq, h]
  generalize Real.exp (1 / 2 * g) = a at *
  generalize Real.exp (-(1 / 2 * g)) = b at *
  have : a + b ≠ 0 := by positivity
  have : 1 + b * b ≠ 0 := by positivity
  field_simp
  linear_combination (2 * b) * hm

theorem sg_coe (g : ℝ) : sg (g : EReal) = (((1 + Real.exp (-g))⁻¹ : ℝ) : EReal) := by
  rw [sg, half16, ← EReal.coe_mul, Ideal.tanh_coe, ← EReal.coe_mul, ← EReal.coe_add, tanh_half]

/-! The stages of the reference. -/

variable {x0 x1 x2 x3 x4}

theorem gate_real (h : Reals x0 x1 x2 x3 x4) (r : Fin 8192) (k : Fin 2816) : Step.IsReal (gate x0 r k) := h.h0 _

theorem up_real (h : Reals x0 x1 x2 x3 x4) (r : Fin 8192) (k : Fin 2816) : Step.IsReal (up x0 r k) := h.h0 _

theorem sig_at (h : Reals x0 x1 x2 x3 x4) (r : Fin 8192) (k : Fin 2816) :
    val_main_v2_2 (F := Ideal) x0 (ix2 r k) = sg (gate x0 r k) := by
  obtain ⟨g, hg⟩ := gate_real h r k
  have hg' : x0 (ix2 r (⟨(k : ℕ), by omega⟩ : Fin 5632)) = (g : EReal) := hg
  rw [hg, sg_coe]
  pointwise [val_main_v2_2, val_main_call0_v4, val_main_call0_cst_0, val_main_call0_v3, val_main_call0_v2, val_main_call0_cst,
    val_main_call0_v1, val_main_call0_v0, val_main_v0]
  rw [hg', ← EReal.coe_neg, Ideal.exp_coe, ← EReal.coe_one, ← EReal.coe_add, Ideal.div_coe (by positivity), ← EReal.coe_mul,
    one_mul, one_div]

theorem sg_real (h : Reals x0 x1 x2 x3 x4) (r : Fin 8192) (k : Fin 2816) : Step.IsReal (sg (gate x0 r k)) := by
  obtain ⟨g, hg⟩ := gate_real h r k
  exact ⟨_, by rw [hg, sg_coe]⟩

theorem silu_at (h : Reals x0 x1 x2 x3 x4) (r : Fin 8192) (k : Fin 2816) :
    val_main_v2_0 (F := Ideal) x0 (ix2 r k) = silu x0 r k := by
  pointwise [val_main_v2_0, val_main_v0, silu, gate]
  rw [sig_at h]
  rfl

theorem ff_at (h : Reals x0 x1 x2 x3 x4) (r : Fin 8192) (k : Fin 2816) :
    val_main_v3 (F := Ideal) x0 (ix2 r k) = FF x0 r k := by
  pointwise [val_main_v3, val_main_v1, FF, up]
  rw [silu_at h]

theorem ff_real (h : Reals x0 x1 x2 x3 x4) (r : Fin 8192) (k : Fin 2816) : Step.IsReal (FF x0 r k) :=
  ((gate_real h r k).mul (sg_real h r k)).mul (up_real h r k)

theorem x2_at (h : Reals x0 x1 x2 x3 x4) (r : Fin 8192) (j : Fin 1024) :
    val_main_v5 (F := Ideal) x0 x1 x2 (ix2 r j) = X2 x0 x1 x2 r j := by
  pointwise [val_main_v5, val_main_v4, X2]
  simp only [ff_at h]

theorem x2_real (h : Reals x0 x1 x2 x3 x4) (r : Fin 8192) (j : Fin 1024) : Step.IsReal (X2 x0 x1 x2 r j) :=
  (h.h1 _).add (Step.IsReal.sum fun _ => (ff_real h r _).mul (h.h2 _))

theorem mean_at (h : Reals x0 x1 x2 x3 x4) (r : Fin 8192) (z : Fin 1) :
    val_main_v12 (F := Ideal) x0 x1 x2 (ix2 r z) = Step.meanSq (X2 x0 x1 x2 r) := by
  pointwise [val_main_v12, val_main_v11, val_main_cst_1, val_main_v10, val_main_v9, val_main_cst_0, val_main_v8, val_main_v7,
    val_main_cst, val_main_v6, Step.meanSq]
  simp only [x2_at h]

theorem sc_at (h : Reals x0 x1 x2 x3 x4) (r : Fin 8192) (z : Fin 1) :
    val_main_v13 (F := Ideal) x0 x1 x2 (ix2 r z) = sc x0 x1 x2 r := by
  pointwise [val_main_v13, sc, Step.scale]
  simp only [mean_at h]

theorem sc_real (h : Reals x0 x1 x2 x3 x4) (r : Fin 8192) : Step.IsReal (sc x0 x1 x2 r) :=
  Step.scale_isReal _ fun k => x2_real h r k

theorem xh_at (h : Reals x0 x1 x2 x3 x4) (r : Fin 8192) (j : Fin 1024) :
    val_main_v18 (F := Ideal) x0 x1 x2 (ix2 r j) = XH x0 x1 x2 r j := by
  pointwise [val_main_v18, val_main_v17, XH]
  simp only [x2_at h, sc_at h]

theorem xh_real (h : Reals x0 x1 x2 x3 x4) (r : Fin 8192) (j : Fin 1024) : Step.IsReal (XH x0 x1 x2 r j) :=
  (x2_real h r j).mul (sc_real h r)

theorem e_at (h : Reals x0 x1 x2 x3 x4) (r : Fin 8192) (j : Fin 1024) :
    val_main_v22 (F := Ideal) x0 x1 x2 x3 x4 (ix2 r j) = E x0 x1 x2 x3 x4 r j := by
  pointwise [val_main_v22, val_main_v21, val_main_v20, val_main_v19, E]
  simp only [xh_at h]

theorem e_real (h : Reals x0 x1 x2 x3 x4) (r : Fin 8192) (j : Fin 1024) : Step.IsReal (E x0 x1 x2 x3 x4 r j) := by
  obtain ⟨a, ha⟩ := (xh_real h r j).mul (h.h3 (ix1 j))
  obtain ⟨b, hb⟩ := h.h4 (ix2 r j)
  exact ⟨a - b, by rw [E, ha, hb, EReal.coe_sub]⟩

theorem dy_at (h : Reals x0 x1 x2 x3 x4) (r : Fin 8192) (j : Fin 1024) :
    val_main_v36 (F := Ideal) x0 x1 x2 x3 x4 (ix2 r j) = DY x0 x1 x2 x3 x4 r j := by
  obtain ⟨e, he⟩ := e_real h r j
  pointwise [val_main_v36, val_main_v35, val_main_v34, val_main_v33, val_main_cst_10, val_main_v32, val_main_v31, val_main_cst_8,
    val_main_cst_9, val_main_v25, val_main_v24, val_main_cst_3, DY]
  simp only [e_at h, he]
  rw [half32, two32, p10, Step.ofBits_1024, Ideal.div_coe (by norm_num), ← EReal.coe_mul, ← EReal.coe_mul, ← EReal.coe_mul,
    ← EReal.coe_mul]
  exact congrArg _ (by ring)

theorem dy_real (h : Reals x0 x1 x2 x3 x4) (r : Fin 8192) (j : Fin 1024) : Step.IsReal (DY x0 x1 x2 x3 x4 r j) :=
  (e_real h r j).mul ⟨_, p10⟩

theorem dx_at (h : Reals x0 x1 x2 x3 x4) (r : Fin 8192) (j : Fin 1024) :
    val_main_v56 (F := Ideal) x0 x1 x2 x3 x4 (ix2 r j) = DXv x0 x1 x2 x3 x4 r j := by
  refine Eq.trans ?_ ((Step.norm_grad (fun k => X2 x0 x1 x2 r k) (fun k => DY x0 x1 x2 x3 x4 r k * x3 (ix1 k))
    (fun k => x2_real h r k) (fun k => (dy_real h r k).mul (h.h3 _)) 0 j).symm.trans (zero_add _))
  pointwise [val_main_v56, val_main_v55, val_main_v54, val_main_v53, val_main_v52, val_main_v51, val_main_cst_15, val_main_v50,
    val_main_v49, val_main_cst_14, val_main_v48, val_main_v47, val_main_v46, val_main_v45, val_main_v44, val_main_cst_13,
    val_main_v43, val_main_v41, val_main_v40, val_main_v19, val_main_v16, val_main_v15, val_main_cst_2, val_main_v14]
  simp only [dy_at h, x2_at h, sc_at h, mean_at h, Finset.univ_unique, Finset.sum_const, Finset.card_singleton, one_smul, zero_add]
  rfl

theorem dff_at (h : Reals x0 x1 x2 x3 x4) (r : Fin 8192) (k : Fin 2816) :
    val_main_v57 (F := Ideal) x0 x1 x2 x3 x4 (ix2 r k) = DFF x0 x1 x2 x3 x4 r k := by
  pointwise [val_main_v57, DFF]
  simp only [dx_at h]

theorem dx_real (h : Reals x0 x1 x2 x3 x4) (r : Fin 8192) (j : Fin 1024) : Step.IsReal (DXv x0 x1 x2 x3 x4 r j) := by
  obtain ⟨a, ha⟩ := (dy_real h r j).mul (h.h3 (ix1 j))
  obtain ⟨b, hb⟩ := xh_real h r j
  obtain ⟨s, hs⟩ := sc_real h r
  obtain ⟨u, hu⟩ : Step.IsReal (∑ k : Fin 1024, DY x0 x1 x2 x3 x4 r k * x3 (ix1 k) * XH x0 x1 x2 r k) :=
    Step.IsReal.sum fun k => ((dy_real h r k).mul (h.h3 _)).mul (xh_real h r k)
  exact ⟨s * (a - b * (u * (1 / 1024))), by
    rw [DXv, ha, hb, hs, hu, Step.ofBits_1024, Ideal.div_coe (by norm_num), ← EReal.coe_mul, ← EReal.coe_mul, ← EReal.coe_sub,
      ← EReal.coe_mul]⟩

theorem dff_real (h : Reals x0 x1 x2 x3 x4) (r : Fin 8192) (k : Fin 2816) : Step.IsReal (DFF x0 x1 x2 x3 x4 r k) :=
  Step.IsReal.sum fun _ => (dx_real h r _).mul (h.h2 _)

/-! The results. -/

theorem ff_eq (h : Reals x0 x1 x2 x3 x4) : val_main_v61 (F := Ideal) x0 = ffOut x0 := by
  funext i
  idx_vars i
  pointwise [val_main_v61, ffOut]
  exact ff_at h _ _

theorem dx_eq (h : Reals x0 x1 x2 x3 x4) : val_main_v56 (F := Ideal) x0 x1 x2 x3 x4 = dxOut x0 x1 x2 x3 x4 := by
  funext i
  idx_vars i
  exact dx_at h _ _

theorem dxb_eq (h : Reals x0 x1 x2 x3 x4) : val_main_v62 (F := Ideal) x0 x1 x2 x3 x4 = dxOut x0 x1 x2 x3 x4 := by
  funext i
  idx_vars i
  pointwise [val_main_v62, dxOut]
  exact dx_at h _ _

theorem loss_eq (h : Reals x0 x1 x2 x3 x4) : val_main_v63 (F := Ideal) x0 x1 x2 x3 x4 = lossOut x0 x1 x2 x3 x4 := by
  have hr : ∀ r j, Step.IsReal (E x0 x1 x2 x3 x4 r j) := e_real h
  choose e he using hr
  funext i
  idx_vars i
  pointwise [val_main_v63, val_main_v30, val_main_cst_7, val_main_v29, val_main_cst_6, val_main_v28, val_main_v27, val_main_cst_5,
    val_main_v26, val_main_cst_4, val_main_v23, lossOut]
  simp only [e_at h, he]
  rw [half32, p11, Step.ofBits_1024]
  simp only [Ideal.div_coe (show (1024 : ℝ) ≠ 0 by norm_num), ← EReal.coe_mul, Step.coe_sum]
  refine congrArg _ ?_
  rw [← Finset.mul_sum, ← Finset.sum_mul]
  have hsum : ∑ t : Fin 32, ∑ r : Fin 256, ∑ j : Fin 1024,
      e (⟨(t : ℕ) * 256 + (r : ℕ), by omega⟩ : Fin 8192) j * e (⟨(t : ℕ) * 256 + (r : ℕ), by omega⟩ : Fin 8192) j
        = ∑ r : Fin 8192, ∑ j : Fin 1024, e r j * e r j := by
    refine Fin.sum_mul_add_congr fun t r hl => rfl
  rw [hsum]
  ring

theorem dg_eq (h : Reals x0 x1 x2 x3 x4) : val_main_v64 (F := Ideal) x0 x1 x2 x3 x4 = dgOut x0 x1 x2 x3 x4 := by
  funext i
  idx_vars i
  pointwise [val_main_v64, val_main_v42, val_main_cst_12, val_main_v39, val_main_v38, val_main_cst_11, val_main_v37, dgOut]
  simp only [xh_at h, dy_at h, Finset.univ_unique, Finset.sum_const, Finset.card_singleton, one_smul, zero_add]
  exact Finset.sum_congr rfl fun r _ => mul_comm _ _

theorem dgate_eq (h : Reals x0 x1 x2 x3 x4) : val_main_v65 (F := Ideal) x0 x1 x2 x3 x4 = dgateOut x0 x1 x2 x3 x4 := by
  funext i
  idx_vars i
  obtain ⟨d, hd⟩ := dff_real h i0 i1
  obtain ⟨s, hs⟩ := sg_real h i0 i1
  obtain ⟨u, hu⟩ := up_real h i0 i1
  obtain ⟨g, hg⟩ := gate_real h i0 i1
  rw [hg] at hs
  have hu' : x0 (ix2 i0 (⟨2816 + (i1 : ℕ), by omega⟩ : Fin 5632)) = (u : EReal) := hu
  have hg' : x0 (ix2 i0 (⟨(i1 : ℕ), by omega⟩ : Fin 5632)) = (g : EReal) := hg
  pointwise [val_main_v65, val_main_v60, val_main_call1_v2, val_main_call1_v1, val_main_call1_v0, val_main_v59, val_main_v2_1,
    val_main_call0_v7, val_main_call0_v6, val_main_call0_cst_1, val_main_v1, val_main_v0, dgateOut]
  simp only [dff_at h, sig_at h, hd, hs, hu, hg, hu', hg']
  rw [← EReal.coe_one]
  simp only [← EReal.coe_sub, ← EReal.coe_mul, ← EReal.coe_add]
  exact congrArg _ (by ring)

theorem dup_eq (h : Reals x0 x1 x2 x3 x4) : val_main_v66 (F := Ideal) x0 x1 x2 x3 x4 = dupOut x0 x1 x2 x3 x4 := by
  funext i
  idx_vars i
  pointwise [val_main_v66, val_main_v58, dupOut]
  simp only [dff_at h, silu_at h]
  exact mul_comm _ _

end Cert.LossRefIdeal.RefValue

end

end
-- ==== Proof.Gate.Ref.lean ====
module

public import proofs.«01_k».proof.Proof.Gen.GateRefIdeal.Read
public import proofs.«01_k».proof.Proof.Gen.Pre_gate_finite
public import proofs.«01_k».proof.Proof.Step.Finite
public import proofs.«01_k».proof.Proof.Gate.Form
public import proofs.«01_k».proof.Proof.Loss.Ref

@[expose] public section

set_option maxRecDepth 16384

noncomputable section

open Idealize.ShloMosaic Idealize.ShloMosaic.TcCoe Idealize.SL.Sem

/-!
# What the reference of the gated merge's backward call computes
-/

namespace Cert.GateRefIdeal.RefValue
open Cert.GateRefIdeal Cert.GateRefIdeal.Gen Cert.GateRefIdeal.Read
open Cert.LossIdeal.Block (sg)
open Cert.LossRefIdeal.RefValue (sg_coe half16 half32)
open Cert.GateIdeal.Block (rootC cubC cub3C halfC th gelu dgelu dm gcol zcol gt gt0 gt1 hsum dz0 dz1 dz dhOut dgOut dzOut dybOut dbOut)

/-- The arrays that are multiplied out hold real numbers. -/
structure Reals (x0 : FVec Ideal S8192x1024 .f32) (x1 : FVec Ideal S1024x1024 .f32) (x2 x3 : FVec Ideal S8192x1024 .f32)
    (x4 : FVec Ideal S8192x5632 .f32) : Prop where
  h0 : ∀ i, Step.IsReal (x0 i)
  h1 : ∀ i, Step.IsReal (x1 i)
  h2 : ∀ i, Step.IsReal (x2 i)
  h3 : ∀ i, Step.IsReal (x3 i)
  h4 : ∀ r j, Step.IsReal (gcol x4 r j)

instance : Subsingleton (Cert.Pre_gate_finite.S_).Idx := ⟨fun a b => funext fun i => i.elim0⟩

variable (x0 : FVec Ideal S8192x1024 .f32) (x1 : FVec Ideal S1024x1024 .f32) (x2 x3 : FVec Ideal S8192x1024 .f32)
  (x4 : FVec Ideal S8192x5632 .f32) (x5 : FVec Ideal S8192x1024 .f32) (x6 : FVec Ideal S2048 .f32)

theorem reals (h : Cert.Pre_gate_finite.fn (F := Ideal) x0 x1 x2 x3 x4 x5 x6 = fun _ => 1#1) : Reals x0 x1 x2 x3 x4 := by
  have e := congrFun h (fun i => i.elim0)
  unfold Cert.Pre_gate_finite.fn Cert.Pre_gate_finite.fn_part1 at e
  obtain ⟨e, e4⟩ := Step.andi_one e
  obtain ⟨e, e3⟩ := Step.andi_one e
  obtain ⟨e, e2⟩ := Step.andi_one e
  obtain ⟨e0, e1⟩ := Step.andi_one e
  refine ⟨Step.isReal_of_all _ _ _ _ _ _ _ e0, Step.isReal_of_all _ _ _ _ _ _ _ e1, Step.isReal_of_all _ _ _ _ _ _ _ e2,
    Step.isReal_of_all _ _ _ _ _ _ _ e3, fun r j => ?_⟩
  have h := Step.isReal_of_all _ _ _ _ _ _ _ e4 (ix2 r j)
  revert h
  pointwise [gcol]
  exact id

/-! The constants and the logistic function. -/

theorem root_c : Ideal.ofBits .f32 1061962282#32 = rootC := by
  simp [rootC, Ideal.ofBits, Ideal.ieee, -EReal.coe_mul]; norm_num

theorem cub_c : Ideal.ofBits .f32 1027024659#32 = cubC := by
  simp [cubC, Ideal.ofBits, Ideal.ieee, -EReal.coe_mul]; norm_num

theorem three32 : Ideal.ofBits .f32 1077936128#32 = ((3 : ℝ) : EReal) := by
  simp [Ideal.ofBits, Ideal.ieee, -EReal.coe_mul]; norm_num

theorem sg_bot : sg ⊥ = 0 := by
  rw [sg, half16, EReal.coe_mul_bot_of_pos (by norm_num), Ideal.tanh_bot, show (-1 : EReal) = ((-1 : ℝ) : EReal) by norm_num,
    ← EReal.coe_mul, ← EReal.coe_add]
  norm_num

theorem sg_top : sg ⊤ = 1 := by
  rw [sg, half16, EReal.coe_mul_top_of_pos (by norm_num), Ideal.tanh_top, mul_one, ← EReal.coe_add]
  norm_num

/-- The logistic function by division and by the tangent, on all extended reals. -/
theorem logistic (x : EReal) : Ideal.div 1 (1 + Ideal.exp (-x)) = sg x := by
  induction x using EReal.rec with
  | bot =>
    rw [sg_bot, EReal.neg_bot, Ideal.exp_top, show (1 : EReal) + ⊤ = ⊤ from EReal.coe_add_top 1, Ideal.div, if_neg (by simp)]
    simp
  | top =>
    rw [sg_top, EReal.neg_top, Ideal.exp_bot, add_zero, Ideal.div, if_neg one_ne_zero]
    simp
  | coe g =>
    rw [sg_coe, ← EReal.coe_neg, Ideal.exp_coe, ← EReal.coe_one, ← EReal.coe_add, Ideal.div_coe (by positivity), ← EReal.coe_mul,
      one_mul, one_div]

theorem sg_real (x : EReal) : Step.IsReal (sg x) := by
  induction x using EReal.rec with
  | bot => exact ⟨0, sg_bot⟩
  | top => exact ⟨1, sg_top⟩
  | coe g => exact ⟨_, sg_coe g⟩

/-! The stages of the reference. -/

theorem dm_at (r : Fin 8192) (j : Fin 1024) : val_main_v50 (F := Ideal) x0 x1 (ix2 r j) = dm x0 x1 r j := by
  pointwise [val_main_v50, dm]

theorem g_at (r : Fin 8192) (j : Fin 1024) : val_main_v1 (F := Ideal) x4 (ix2 r j) = gcol x4 r j := by
  pointwise [val_main_v1, gcol]

theorem hs_at (r : Fin 8192) (j : Fin 1024) : val_main_v6 (F := Ideal) x2 x3 (ix2 r j) = hsum x2 x3 r j := by
  pointwise [val_main_v6, hsum]

theorem th_at (r : Fin 8192) (j : Fin 1024) : val_main_v17 (F := Ideal) x4 (ix2 r j) = th (gcol x4 r j) := by
  pointwise [val_main_v17, val_main_v16, val_main_v15, val_main_cst_1, val_main_v14, val_main_v13, val_main_v12, val_main_cst_0,
    val_main_v8, val_main_v7, th]
  simp only [g_at, root_c, cub_c]

theorem act_at (r : Fin 8192) (j : Fin 1024) :
    val_main_v26 (F := Ideal) x4 (ix2 r j) = halfC * (1 + th (gcol x4 r j)) := by
  pointwise [val_main_v26, val_main_v25, val_main_cst_5, val_main_v24, val_main_v23, val_main_cst_4, halfC]
  rw [th_at, half16, half32]

theorem gelu_at (r : Fin 8192) (j : Fin 1024) : val_main_v27 (F := Ideal) x4 (ix2 r j) = gelu (gcol x4 r j) := by
  pointwise [val_main_v27]
  rw [act_at, g_at, gelu]
  ac_rfl

theorem gt_at (r : Fin 8192) (k : Fin 2048) : val_main_v37 (F := Ideal) x4 x6 (ix2 r k) = gt x4 x6 r k := by
  pointwise [val_main_v37, val_main_v36, val_main_cst_7, val_main_v35, val_main_v34, val_main_cst_6, val_main_v33, val_main_v32,
    val_main_v31, val_main_v30, val_main_v29, val_main_v5, gt, zcol]
  exact logistic _

theorem gt0_at (r : Fin 8192) (j : Fin 1024) : val_main_v43 (F := Ideal) x4 x6 (ix2 r j) = gt0 x4 x6 r j := by
  pointwise [val_main_v43, val_main_v42, val_main_v41, gt0]
  simp only [gt_at]

theorem gt1_at (r : Fin 8192) (j : Fin 1024) : val_main_v46 (F := Ideal) x4 x6 (ix2 r j) = gt1 x4 x6 r j := by
  pointwise [val_main_v46, val_main_v45, val_main_v41, gt1]
  simp only [gt_at]

theorem dya_at (r : Fin 8192) (j : Fin 1024) : val_main_v55 (F := Ideal) x0 x1 x4 x6 (ix2 r j) = gt0 x4 x6 r j * dm x0 x1 r j := by
  pointwise [val_main_v55]
  rw [gt0_at, dm_at]

/-! The results. -/

theorem dh_eq : val_main_v79 (F := Ideal) x0 x1 x4 x6 = dhOut x0 x1 x4 x6 := by
  funext i
  idx_vars i
  pointwise [val_main_v79, val_main_v66, dhOut]
  rw [dya_at, gelu_at]
  ac_rfl

theorem dyb_eq : val_main_v82 (F := Ideal) x0 x1 x4 x6 = dybOut x0 x1 x4 x6 := by
  funext i
  idx_vars i
  pointwise [val_main_v82, val_main_v51, dybOut]
  rw [gt1_at, dm_at]
  ac_rfl

theorem dz_at (r : Fin 8192) (k : Fin 2048) :
    val_main_v61 (F := Ideal) x0 x1 x2 x3 x4 x5 x6 (ix2 r k) = dz x0 x1 x2 x3 x4 x5 x6 r k := by
  pointwise [val_main_v61, val_main_v60, val_main_v59, val_main_v54, val_main_cst_9, val_main_v53, val_main_v52, val_main_v58,
    val_main_cst_10, val_main_v57, val_main_v56, val_main_v28, val_main_v40, val_main_v39, val_main_v38, val_main_cst_8, dz, dz0, dz1]
  have hk := k.isLt
  simp only [dm_at, hs_at, gelu_at, gt_at]
  split_ifs with h1 h2 h3 h4
  all_goals first
    | (exfalso; omega)
    | skip
  · have e : (k : ℕ) % 1024 = k - 1024 := by omega
    have e1 : gt1 x4 x6 r ⟨(k : ℕ) - 1024, by omega⟩ = gt x4 x6 r k := by
      unfold gt1
      exact congrArg _ (Fin.ext (by dsimp only; omega))
    rw [add_zero, e1]
    simp only [e]
    exact mul_assoc _ _ _
  · have hk' : (k : ℕ) < 1024 := by assumption
    have e : (k : ℕ) % 1024 = k := by omega
    unfold gt0
    simp only [e, zero_add, Fin.eta]
    exact mul_assoc _ _ _

theorem dz_eq : val_main_v81 (F := Ideal) x0 x1 x2 x3 x4 x5 x6 = dzOut x0 x1 x2 x3 x4 x5 x6 := by
  funext i
  idx_vars i
  pointwise [val_main_v81, dzOut]
  rw [dz_at]

theorem db_eq : val_main_v83 (F := Ideal) x0 x1 x2 x3 x4 x5 x6 = dbOut x0 x1 x2 x3 x4 x5 x6 := by
  funext i
  idx_vars i
  pointwise [val_main_v83, val_main_v64, val_main_cst_12, val_main_v63, val_main_v62, val_main_cst_11, dbOut]
  simp only [dz_at, Finset.univ_unique, Finset.sum_const, Finset.card_singleton, one_smul]

variable {x0 x1 x2 x3 x4 x6}

theorem dm_real (h : Reals x0 x1 x2 x3 x4) (r : Fin 8192) (j : Fin 1024) : Step.IsReal (dm x0 x1 r j) :=
  Step.IsReal.sum fun k => (h.h0 _).mul (h.h1 _)

theorem dg_eq (h : Reals x0 x1 x2 x3 x4) : val_main_v80 (F := Ideal) x0 x1 x2 x3 x4 x6 = dgOut x0 x1 x2 x3 x4 x6 := by
  funext i
  idx_vars i
  pointwise [val_main_v80, val_main_v78, val_main_v77, val_main_v76, val_main_v75, val_main_cst_15, val_main_v74, val_main_v73,
    val_main_v72, val_main_cst_14, val_main_v71, val_main_v70, val_main_v69, val_main_cst_13, val_main_v68, val_main_v67,
    val_main_v65, val_main_v22, val_main_v21, val_main_v20, val_main_cst_3, val_main_v19, val_main_v18, val_main_cst_2,
    val_main_v11, val_main_v10, val_main_cst, val_main_v9, dgOut]
  simp only [dya_at, g_at, th_at, hs_at, dgelu, root_c, cub_c, half16, half32, three32, halfC]
  obtain ⟨d, hd⟩ := dm_real h i0 i1
  obtain ⟨g, hg⟩ := h.h4 i0 i1
  obtain ⟨a, ha⟩ := (h.h2 (ix2 i0 i1)).add (h.h3 (ix2 i0 i1))
  obtain ⟨s, hs⟩ : Step.IsReal (gt0 x4 x6 i0 i1) := sg_real _
  have ha' : hsum x2 x3 i0 i1 = (a : EReal) := ha
  obtain ⟨t, ht⟩ : Step.IsReal (th (g : EReal)) := by
    rw [th, rootC, cubC, ← EReal.coe_mul, ← EReal.coe_mul, ← EReal.coe_mul, ← EReal.coe_add, ← EReal.coe_mul, Ideal.tanh_coe]
    exact ⟨_, rfl⟩
  have hact : val_main_v26 (F := Ideal) x4 (ix2 i0 i1) = ((1 / 2 * (1 + t) : ℝ) : EReal) := by
    rw [act_at, hg, ht, halfC, half16, ← EReal.coe_one, ← EReal.coe_add, ← EReal.coe_mul]
  simp only [hact, hd, hg, ha', hs, ht, rootC, cubC, cub3C, ← EReal.coe_one, ← EReal.coe_mul, ← EReal.coe_add, ← EReal.coe_sub]
  exact congrArg _ (by ring)

end Cert.GateRefIdeal.RefValue

end

end
-- ==== Proof.Gate.Claim.lean ====
module

public import proofs.«01_k».proof.Defs
public import proofs.«01_k».proof.Proof.Gen.GateIdeal.Value
public import proofs.«01_k».proof.Proof.Gen.GateRefIdeal.Run
public import proofs.«01_k».proof.Proof.Gate.Block
public import proofs.«01_k».proof.Proof.Gate.Ref

@[expose] public section

set_option maxRecDepth 16384

noncomputable section

open Idealize.ShloMosaic Idealize.ShloMosaic.TcCoe Idealize.SL.Sem

/-!
# The gated merge's backward call computes the derivatives of the merge
-/

namespace Cert.Gate.Claims
open Cert.GateIdeal.Block Cert.GateRefIdeal.RefValue Cert.GateRefIdeal.Read

theorem preserves : Cert.preserves_Gate_GateIdeal :=
  ⟨IdealRules.named_const.statement Cert.GateIdeal.κ "gelu_cubic" .bf16 0x3D37#16 ((12003091 / 268435456 : ℝ) : EReal) rfl,
    IdealRules.named_const.statement Cert.GateIdeal.κ "sqrt_2_over_pi" .bf16 0x3F4C#16 ((6693141 / 8388608 : ℝ) : EReal) rfl,
    IdealRules.named_const.statement Cert.GateIdeal.κ "gelu_cubic_3" .bf16 0x3E09#16 ((36009273 / 268435456 : ℝ) : EReal) rfl⟩

/-- A function of four arguments at equal arguments. -/
theorem same4 {α0 α1 α2 α3 β : Type} (f : α0 → α1 → α2 → α3 → β) {x0 y0 : α0} {x1 y1 : α1} {x2 y2 : α2} {x3 y3 : α3}
    (h0 : x0 = y0) (h1 : x1 = y1) (h2 : x2 = y2) (h3 : x3 = y3) : f x0 x1 x2 x3 = f y0 y1 y2 y3 := by
  subst h0 h1 h2 h3; rfl

/-- A function of six arguments at equal arguments. -/
theorem same6 {α0 α1 α2 α3 α4 α5 β : Type} (f : α0 → α1 → α2 → α3 → α4 → α5 → β) {x0 y0 : α0} {x1 y1 : α1} {x2 y2 : α2}
    {x3 y3 : α3} {x4 y4 : α4} {x5 y5 : α5} (h0 : x0 = y0) (h1 : x1 = y1) (h2 : x2 = y2) (h3 : x3 = y3) (h4 : x4 = y4)
    (h5 : x5 = y5) : f x0 x1 x2 x3 x4 x5 = f y0 y1 y2 y3 y4 y5 := by
  subst h0 h1 h2 h3 h4 h5; rfl

/-- A function of seven arguments at equal arguments. -/
theorem same7 {α0 α1 α2 α3 α4 α5 α6 β : Type} (f : α0 → α1 → α2 → α3 → α4 → α5 → α6 → β) {x0 y0 : α0} {x1 y1 : α1} {x2 y2 : α2}
    {x3 y3 : α3} {x4 y4 : α4} {x5 y5 : α5} {x6 y6 : α6} (h0 : x0 = y0) (h1 : x1 = y1) (h2 : x2 = y2) (h3 : x3 = y3) (h4 : x4 = y4)
    (h5 : x5 = y5) (h6 : x6 = y6) : f x0 x1 x2 x3 x4 x5 x6 = f y0 y1 y2 y3 y4 y5 y6 := by
  subst h0 h1 h2 h3 h4 h5 h6; rfl

theorem algebraic : Cert.algebraic_GateIdeal_GateRefIdeal_pre_gate_finite
    (hGateIdeal := Cert.GateIdeal.Gen.facts) (hGateRefIdeal := Cert.GateRefIdeal.Gen.facts)
    (hPre_gate_finite := Cert.Pre_gate_finite.Gen.facts) := by
  intro m g m' g' hpre hag
  refine ⟨fun c => (Cert.GateIdeal.Gen.dats m 0 c).arrAt 9 (Cert.GateIdeal.cfgs 0).N,
    fun c => (Cert.GateIdeal.Gen.dats m 0 c).arrAt 10 (Cert.GateIdeal.cfgs 0).N,
    fun c => (Cert.GateIdeal.Gen.dats m 0 c).arrAt 11 (Cert.GateIdeal.cfgs 0).N,
    fun c => (Cert.GateIdeal.Gen.dats m 0 c).arrAt 12 (Cert.GateIdeal.cfgs 0).N,
    fun c => (Cert.GateIdeal.Gen.dats m 0 c).arrAt 13 (Cert.GateIdeal.cfgs 0).N,
    Cert.GateIdeal.Value.run_blocks m g,
    (θ_run _ _ _).mono (fun r h c => ?_) (Cert.GateRefIdeal.Value.run m' g')⟩
  obtain ⟨h0, h1, h2, h3, h4, hk⟩ := h c
  obtain ⟨a0, a1, a2, a3, a4, a5, a6⟩ := hag c
  have R := reals _ _ _ _ _ _ _ (hpre c)
  refine ⟨h0.trans ?_, h1.trans ?_, h2.trans ?_, h3.trans ?_, h4.trans ?_, hk⟩
  · exact (val_main_v79_eq (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg4)) (m' ((c.tc : Thread Cert.GateRefIdeal.nD Cert.GateRefIdeal.τ).loc Cert.GateRefIdeal.main_arg6))).trans ((same4 (val_main_v79 (F := Ideal)) a0 a1 a4 a6).trans ((dh_eq _ _ _ _).trans (final9 m c).symm))
  · exact (val_main_v80_eq m' c).trans ((same6 (val_main_v80 (F := Ideal)) a0 a1 a2 a3 a4 a6).trans ((dg_eq R).trans (final10 m c).symm))
  · exact (val_main_v81_eq (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2)) (m' ((c.tc : Thread Cert.GateRefIdeal.nD Cert.GateRefIdeal.τ).loc Cert.GateRefIdeal.main_arg3)) (m' ((c.tc : Thread Cert.GateRefIdeal.nD Cert.GateRefIdeal.τ).loc Cert.GateRefIdeal.main_arg4)) (m' ((c.tc : Thread Cert.GateRefIdeal.nD Cert.GateRefIdeal.τ).loc Cert.GateRefIdeal.main_arg5)) (m' ((c.tc : Thread Cert.GateRefIdeal.nD Cert.GateRefIdeal.τ).loc Cert.GateRefIdeal.main_arg6))).trans ((same7 (val_main_v81 (F := Ideal)) a0 a1 a2 a3 a4 a5 a6).trans ((dz_eq _ _ _ _ _ _ _).trans (final11 m c).symm))
  · exact (val_main_v82_eq (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg4)) (m' ((c.tc : Thread Cert.GateRefIdeal.nD Cert.GateRefIdeal.τ).loc Cert.GateRefIdeal.main_arg6))).trans ((same4 (val_main_v82 (F := Ideal)) a0 a1 a4 a6).trans ((dyb_eq _ _ _ _).trans (final12 m c).symm))
  · exact (val_main_v83_eq (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2)) (m' ((c.tc : Thread Cert.GateRefIdeal.nD Cert.GateRefIdeal.τ).loc Cert.GateRefIdeal.main_arg3)) (m' ((c.tc : Thread Cert.GateRefIdeal.nD Cert.GateRefIdeal.τ).loc Cert.GateRefIdeal.main_arg4)) (m' ((c.tc : Thread Cert.GateRefIdeal.nD Cert.GateRefIdeal.τ).loc Cert.GateRefIdeal.main_arg5)) (m' ((c.tc : Thread Cert.GateRefIdeal.nD Cert.GateRefIdeal.τ).loc Cert.GateRefIdeal.main_arg6))).trans ((same7 (val_main_v83 (F := Ideal)) a0 a1 a2 a3 a4 a5 a6).trans ((db_eq _ _ _ _ _ _ _).trans (final13 m c).symm))

end Cert.Gate.Claims

end

end
-- ==== Proof.Conv.Form.lean ====
module

public import proofs.«01_k».proof.Proof.Gen.ConvIdeal
public import Idealize.ShloMosaic.Lib.Pointwise

@[expose] public section

set_option maxRecDepth 16384

noncomputable section

open Idealize.ShloMosaic Idealize.ShloMosaic.TcCoe Idealize.SL.Sem

/-!
# What the convolution's backward call computes, in closed form
-/

namespace Cert.ConvIdeal.Block
open Cert.ConvIdeal Cert.ConvIdeal.Gen

/-- A column of 8192 entries with zeros before and after it: entry `n` is the column's entry `n - 16`. -/
def ext (f : Fin 8192 → EReal) (n : ℕ) : EReal := if h : 16 ≤ n ∧ n < 8208 then f ⟨n - 16, by omega⟩ else 0

section
variable (d0 d1 : FVec Ideal S8192x1024 .f32) (proj : FVec Ideal S8192x5632 .f32) (w : FVec Ideal S4x1024 .f32)

/-- The sum of the two cotangents. -/
def dd (j : Fin 1024) (r : Fin 8192) : EReal := d0 (ix2 r j) + d1 (ix2 r j)
/-- The convolution's input. -/
def uu (j : Fin 1024) (r : Fin 8192) : EReal := proj (ix2 r (⟨(j : ℕ), by omega⟩ : Fin 5632))

def duOut : FVec Ideal S8192x1024 .bf16 := fun i =>
  ext (dd d0 d1 (i 1)) ((i 0 : ℕ) + 18) * w (ix2 0 (i 1)) + ext (dd d0 d1 (i 1)) ((i 0 : ℕ) + 17) * w (ix2 1 (i 1))
    + ext (dd d0 d1 (i 1)) ((i 0 : ℕ) + 16) * w (ix2 2 (i 1)) + ext (dd d0 d1 (i 1)) ((i 0 : ℕ) + 15) * w (ix2 3 (i 1))
def dwOut : FVec Ideal S4x1024 .f32 := fun i =>
  ∑ r : Fin 8192, dd d0 d1 (i 1) r * ext (uu proj (i 1)) ((r : ℕ) + 14 + (i 0 : ℕ))
def dbOut : FVec Ideal S1x1024 .f32 := fun i => ∑ r : Fin 8192, dd d0 d1 (i 1) r
end

end Cert.ConvIdeal.Block

end

end
-- ==== Proof.Conv.Block.lean ====
module

public import proofs.«01_k».proof.Proof.Gen.ConvIdeal.Frame
public import proofs.«01_k».proof.Proof.Conv.Form
public import Idealize.ShloMosaic.Lib.Pipeline.ValueKit

@[expose] public section

set_option maxRecDepth 16384

noncomputable section

open Idealize.ShloMosaic Idealize.ShloMosaic.TcCoe Idealize.SL.Sem

/-!
# What the convolution's backward call leaves in its result arrays
-/

namespace Cert.ConvIdeal.Block
open Cert.ConvIdeal Cert.ConvIdeal.Gen

variable (m : (ℓ : Loc nD τ sig) → Buf (Elt Ideal) ℓ)

/-- The blocks the grid's points read and write. -/
theorem idx : ∀ t : Fin cfg0.N, win0_0.index t = ![t.val, 0] ∧ win0_1.index t = ![64 * t.val - 1, 0]
    ∧ win0_2.index t = ![min (64 * t.val + 64) 511, 0] ∧ win0_3.index t = ![t.val, 0] ∧ win0_4.index t = ![64 * t.val - 1, 0]
    ∧ win0_5.index t = ![min (64 * t.val + 64) 511, 0] ∧ win0_6.index t = ![t.val, 0] ∧ win0_7.index t = ![64 * t.val - 1, 0]
    ∧ win0_8.index t = ![min (64 * t.val + 64) 511, 0] ∧ win0_9.index t = ![0, 0] ∧ win0_10.index t = ![t.val, 0]
    ∧ win0_11.index t = ![0, 0] ∧ win0_12.index t = ![0, 0] :=
  (by decide +kernel : ∀ t : Fin grid0.N, _)

variable (c : Dev nD) (t : Fin cfg0.N)

theorem lt8 (t : Fin cfg0.N) : t.val < 8 := lt_of_lt_of_eq t.isLt N_0

theorem b0_at (r : Fin 1024) (j : Fin 1024) :
    iblk m c 0 t (ix2 r j) = m ((c : Thread nD τ).loc main_arg0) (ix2 (⟨1024 * t.val + (r : ℕ), by have := lt8 t; omega⟩ : Fin 8192) j) := by
  pointwise
  blk_point [iblk, V, idx t]

theorem b1_at (r : Fin 16) (j : Fin 1024) (h : 0 < t.val) :
    iblk m c 1 t (ix2 r j) = m ((c : Thread nD τ).loc main_arg0) (ix2 (⟨1024 * t.val - 16 + (r : ℕ), by have := lt8 t; omega⟩ : Fin 8192) j) := by
  pointwise
  blk_point [iblk, V, idx t]

theorem b2_at (r : Fin 16) (j : Fin 1024) (h : t.val < 7) :
    iblk m c 2 t (ix2 r j) = m ((c : Thread nD τ).loc main_arg0) (ix2 (⟨1024 * t.val + 1024 + (r : ℕ), by omega⟩ : Fin 8192) j) := by
  pointwise
  blk_point [iblk, V, idx t]

theorem b3_at (r : Fin 1024) (j : Fin 1024) :
    iblk m c 3 t (ix2 r j) = m ((c : Thread nD τ).loc main_arg1) (ix2 (⟨1024 * t.val + (r : ℕ), by have := lt8 t; omega⟩ : Fin 8192) j) := by
  pointwise
  blk_point [iblk, V, idx t]

theorem b4_at (r : Fin 16) (j : Fin 1024) (h : 0 < t.val) :
    iblk m c 4 t (ix2 r j) = m ((c : Thread nD τ).loc main_arg1) (ix2 (⟨1024 * t.val - 16 + (r : ℕ), by have := lt8 t; omega⟩ : Fin 8192) j) := by
  pointwise
  blk_point [iblk, V, idx t]

theorem b5_at (r : Fin 16) (j : Fin 1024) (h : t.val < 7) :
    iblk m c 5 t (ix2 r j) = m ((c : Thread nD τ).loc main_arg1) (ix2 (⟨1024 * t.val + 1024 + (r : ℕ), by omega⟩ : Fin 8192) j) := by
  pointwise
  blk_point [iblk, V, idx t]

/-- The kernel's order of the projection's columns. -/
def cols (p : FVec Ideal S8192x5632 .f32) : FVec Ideal S8192x5632 .bf16 :=
  truncf .bf16 (concatenate S8192x5632 1 [⟨S8192x3072, extractStridedSlice S8192x3072 ![0, 0] p slices_S8192x5632_S8192x3072_0_0⟩,
    ⟨S8192x2048, extractStridedSlice S8192x2048 ![0, 3584] p slices_S8192x5632_S8192x2048_0_3584⟩,
    ⟨S8192x512, extractStridedSlice S8192x512 ![0, 3072] p slices_S8192x5632_S8192x512_0_3072⟩]
    concatenates_S8192x3072_S8192x2048_S8192x512_S8192x5632_d1) bitsLt_bf16_f32

theorem V4 : V m c main_v4 = cols (m ((c : Thread nD τ).loc main_arg2)) := by
  unfold V
  after_results
  try rfl

/-- Its first 3072 columns are the projection's. -/
theorem cols_at (p : FVec Ideal S8192x5632 .f32) (r : Fin 8192) (j : Fin 5632) (h : (j : ℕ) < 3072) :
    cols p (ix2 r j) = p (ix2 r j) := by
  pointwise [cols]
  rw [dif_pos h]

theorem u6_at (r : Fin 1024) (j : Fin 1024) :
    X0_6 m c t (ix2 r j) = uu (m ((c : Thread nD τ).loc main_arg2)) j (⟨1024 * t.val + (r : ℕ), by have := lt8 t; omega⟩ : Fin 8192) := by
  unfold X0_6 Pipeline.Window.fill
  rw [dif_pos (moved0_6 t _)]
  refine (congrFun (V4 m c) _).trans ?_
  refine Eq.trans (congrArg (cols _) ?_) (cols_at _ (⟨1024 * t.val + (r : ℕ), by have := lt8 t; omega⟩ : Fin 8192) (⟨(j : ℕ), by omega⟩ : Fin 5632) (by dsimp only; omega))
  blk_ext [idx t]

theorem u7_at (r : Fin 16) (j : Fin 1024) (h : 0 < t.val) :
    X0_7 m c t (ix2 r j) = uu (m ((c : Thread nD τ).loc main_arg2)) j (⟨1024 * t.val - 16 + (r : ℕ), by have := lt8 t; omega⟩ : Fin 8192) := by
  unfold X0_7 Pipeline.Window.fill
  rw [dif_pos (moved0_7 t _)]
  refine (congrFun (V4 m c) _).trans ?_
  refine Eq.trans (congrArg (cols _) ?_) (cols_at _ (⟨1024 * t.val - 16 + (r : ℕ), by have := lt8 t; omega⟩ : Fin 8192) (⟨(j : ℕ), by omega⟩ : Fin 5632) (by dsimp only; omega))
  blk_ext [idx t]

theorem u8_at (r : Fin 16) (j : Fin 1024) (h : t.val < 7) :
    X0_8 m c t (ix2 r j) = uu (m ((c : Thread nD τ).loc main_arg2)) j (⟨1024 * t.val + 1024 + (r : ℕ), by omega⟩ : Fin 8192) := by
  unfold X0_8 Pipeline.Window.fill
  rw [dif_pos (moved0_8 t _)]
  refine (congrFun (V4 m c) _).trans ?_
  refine Eq.trans (congrArg (cols _) ?_) (cols_at _ (⟨1024 * t.val + 1024 + (r : ℕ), by omega⟩ : Fin 8192) (⟨(j : ℕ), by omega⟩ : Fin 5632) (by dsimp only; omega))
  blk_ext [idx t]

theorem lo : ∀ t : Fin cfg0.N, Scalar.cmpi .sgt (BitVec.ofNat 32 (grid0.coords t 0).val) 0#32 = if 0 < t.val then 1#1 else 0#1 :=
  (by decide +kernel : ∀ t : Fin grid0.N, _)

theorem hi : ∀ t : Fin cfg0.N, Scalar.cmpi .slt (BitVec.ofNat 32 (grid0.coords t 0).val) 7#32 = if t.val < 7 then 1#1 else 0#1 :=
  (by decide +kernel : ∀ t : Fin grid0.N, _)

theorem sel_lo (a b : EReal) :
    Scalar.select (Scalar.cmpi .sgt (BitVec.ofNat 32 (grid0.coords t 0).val) 0#32) a b = if 0 < t.val then a else b := by
  rw [lo]
  split_ifs <;> rfl

theorem sel_hi (a b : EReal) :
    Scalar.select (Scalar.cmpi .slt (BitVec.ofNat 32 (grid0.coords t 0).val) 7#32) a b = if t.val < 7 then a else b := by
  rw [hi]
  split_ifs <;> rfl

theorem dd_at (e : Fin 1056) (j : Fin 1024) :
    k0_pay6 (grid0.coords t) (iblk m c 1 t) (iblk m c 2 t) (iblk m c 0 t) (iblk m c 4 t) (iblk m c 5 t)
          (iblk m c 3 t) (ix2 e j) = ext (dd (m ((c : Thread nD τ).loc main_arg0)) (m ((c : Thread nD τ).loc main_arg1)) j) (1024 * t.val + (e : ℕ)) := by
  have ht := lt8 t
  have he := e.isLt
  pointwise [k0_pay6, ext, dd]
  simp only [sel_lo, sel_hi]
  by_cases h1 : (e : ℕ) < 16
  · rw [dif_pos h1, dif_pos h1]
    by_cases h2 : 0 < t.val
    · rw [if_pos h2, if_pos h2, b1_at m c t _ _ h2, b4_at m c t _ _ h2, dif_pos (by omega)]
      have : (⟨1024 * t.val - 16 + (e : ℕ), by omega⟩ : Fin 8192) = ⟨1024 * t.val + (e : ℕ) - 16, by omega⟩ :=
        Fin.ext (by dsimp only; omega)
      rw [this]
    · rw [if_neg h2, if_neg h2, dif_neg (by omega), add_zero]
  · rw [dif_neg h1, dif_neg h1]
    by_cases h3 : (e : ℕ) - 16 < 1024
    · rw [dif_pos h3, dif_pos h3, b0_at, b3_at, dif_pos (by omega)]
      have : (⟨1024 * t.val + ((e : ℕ) - 16), by omega⟩ : Fin 8192) = ⟨1024 * t.val + (e : ℕ) - 16, by omega⟩ :=
        Fin.ext (by dsimp only; omega)
      rw [this]
    · rw [dif_neg h3, dif_neg h3]
      by_cases h2 : t.val < 7
      · rw [if_pos h2, if_pos h2, b2_at m c t _ _ h2, b5_at m c t _ _ h2, dif_pos (by omega)]
        have : (⟨1024 * t.val + 1024 + ((e : ℕ) - 16 - 1024), by omega⟩ : Fin 8192) = ⟨1024 * t.val + (e : ℕ) - 16, by omega⟩ :=
          Fin.ext (by dsimp only; omega)
        rw [this]
      · rw [if_neg h2, if_neg h2, dif_neg (by omega), add_zero]

theorem uu_at (e : Fin 1056) (j : Fin 1024) :
    k0_pay7 (BitVec.ofNat 32 (grid0.coords t 0).val) (X0_7 m c t) (X0_8 m c t) (X0_6 m c t) (ix2 e j)
      = ext (uu (m ((c : Thread nD τ).loc main_arg2)) j) (1024 * t.val + (e : ℕ)) := by
  have ht := lt8 t
  have he := e.isLt
  pointwise [k0_pay7, ext]
  simp only [sel_lo, sel_hi]
  by_cases h1 : (e : ℕ) < 16
  · rw [dif_pos h1]
    by_cases h2 : 0 < t.val
    · rw [if_pos h2, u7_at m c t _ _ h2, dif_pos (by omega)]
      exact congrArg _ (Fin.ext (by dsimp only; omega))
    · rw [if_neg h2, dif_neg (by omega)]
  · rw [dif_neg h1]
    by_cases h3 : (e : ℕ) - 16 < 1024
    · rw [dif_pos h3, u6_at, dif_pos (by omega)]
      exact congrArg _ (Fin.ext (by dsimp only; omega))
    · rw [dif_neg h3]
      by_cases h2 : t.val < 7
      · rw [if_pos h2, u8_at m c t _ _ h2, dif_pos (by omega)]
        exact congrArg _ (Fin.ext (by dsimp only; omega))
      · rw [if_neg h2, dif_neg (by omega)]

/-- The two columns of a tile, with their halos. -/
def pD : FVec Ideal S1056x1024 .f32 := (k0_pay6 (grid0.coords t) (iblk m c 1 t) (iblk m c 2 t) (iblk m c 0 t) (iblk m c 4 t) (iblk m c 5 t) (iblk m c 3 t))
def pU : FVec Ideal S1056x1024 .f32 := (k0_pay7 (BitVec.ofNat 32 (grid0.coords t 0).val) (X0_7 m c t) (X0_8 m c t) (X0_6 m c t))

theorem pD_at (e : Fin 1056) (j : Fin 1024) : pD m c t (ix2 e j) = ext (dd (m ((c : Thread nD τ).loc main_arg0)) (m ((c : Thread nD τ).loc main_arg1)) j) (1024 * t.val + (e : ℕ)) :=
  dd_at m c t e j

theorem pU_at (e : Fin 1056) (j : Fin 1024) : pU m c t (ix2 e j) = ext (uu (m ((c : Thread nD τ).loc main_arg2)) j) (1024 * t.val + (e : ℕ)) :=
  uu_at m c t e j

theorem w_at (k : Fin 4) (j : Fin 1024) : iblk m c 9 t (ix2 k j) = m ((c : Thread nD τ).loc main_arg3) (ix2 k j) := by
  pointwise
  blk_point [iblk, V, idx t]

/-- The payload stored for the gradient of the convolution's input. -/
theorem point10 (y : S1024x1024.Idx) :
    k0_pay10 (k0_pay9 (pD m c t)
        (View.ld (iblk m c 9 t) (Rect.unit ![0, 0] ![1, 1024] inb_S4x1024_S1x1024_0_0))
        (View.ld (iblk m c 9 t) (Rect.unit ![1, 0] ![1, 1024] inb_S4x1024_S1x1024_1_0))
        (View.ld (iblk m c 9 t) (Rect.unit ![2, 0] ![1, 1024] inb_S4x1024_S1x1024_2_0))
        (View.ld (iblk m c 9 t) (Rect.unit ![3, 0] ![1, 1024] inb_S4x1024_S1x1024_3_0))) y
      = duOut (m ((c : Thread nD τ).loc main_arg0)) (m ((c : Thread nD τ).loc main_arg1)) (m ((c : Thread nD τ).loc main_arg3)) (((cfg0.win 10).blk t).view.emb y) := by
  idx_vars y
  have he : ((cfg0.win 10).blk t).view.emb (ix2 y0 y1) = ix2 (⟨1024 * t.val + (y0 : ℕ), by have := lt8 t; omega⟩ : Fin 8192) y1 := by
    blk_ext [idx t]
  rw [he]
  pointwise [k0_pay10, k0_pay9, duOut]
  simp only [pD_at, w_at]
  have h0 := y0.isLt
  rw [show 1024 * t.val + (16 + (y0 : ℕ) + 1056 - 1054) % 1056 = 1024 * t.val + (y0 : ℕ) + 18 by omega,
    show 1024 * t.val + (16 + (y0 : ℕ) + 1056 - 1055) % 1056 = 1024 * t.val + (y0 : ℕ) + 17 by omega,
    show 1024 * t.val + (16 + (y0 : ℕ)) = 1024 * t.val + (y0 : ℕ) + 16 by omega,
    show 1024 * t.val + (16 + (y0 : ℕ) + 1056 - 1) % 1056 = 1024 * t.val + (y0 : ℕ) + 15 by omega]

theorem sel_eq (k l : ℕ) (hk : k < 4) (hl : l < 4) (a : EReal) :
    Scalar.select (IntOp.cmpi CmpIPredicate.eq (BitVec.ofNat 32 k) (BitVec.ofNat 32 l)) a 0 = if k = l then a else 0 := by
  interval_cases k <;> interval_cases l <;> rfl

theorem pay8_at (r : Fin 1024) (j : Fin 1024) : k0_pay8 (pD m c t) (ix2 r j)
    = dd (m ((c : Thread nD τ).loc main_arg0)) (m ((c : Thread nD τ).loc main_arg1)) j (⟨1024 * t.val + (r : ℕ), by have := lt8 t; omega⟩ : Fin 8192) := by
  pointwise [k0_pay8]
  rw [pD_at, ext, dif_pos (by have := lt8 t; dsimp only; omega)]
  exact congrArg _ (Fin.ext (by dsimp only; omega))

theorem dw_step (v : Vec Ideal S4x1024 .f32) (y : S4x1024.Idx) :
    k0_pay2 (pU m c t) (k0_pay8 (pD m c t)) (iota Kind.tc S4x1024 32 [0] iota_S4x1024_d0_w32)
      (k0_pay1 (pU m c t) (k0_pay8 (pD m c t)) (iota Kind.tc S4x1024 32 [0] iota_S4x1024_d0_w32)
        (k0_pay13 (k0_pay12 (pU m c t) (k0_pay8 (pD m c t)) (k0_pay11 (pU m c t) (k0_pay8 (pD m c t)) v))) k0_pay14) y
      = v y + ∑ r : Fin 1024, dd (m ((c : Thread nD τ).loc main_arg0)) (m ((c : Thread nD τ).loc main_arg1)) (y 1) (⟨1024 * t.val + (r : ℕ), by have := lt8 t; omega⟩ : Fin 8192)
          * ext (uu (m ((c : Thread nD τ).loc main_arg2)) (y 1)) (1024 * t.val + (r : ℕ) + 14 + (y 0 : ℕ)) := by
  idx_vars y
  pointwise [k0_pay2, k0_pay1, k0_pay13, k0_pay12, k0_pay11, k0_pay14]
  simp only [pU_at, pay8_at]
  have h0 := y0.isLt
  rw [sel_eq _ 0 h0 (by omega), sel_eq _ 1 h0 (by omega), sel_eq _ 2 h0 (by omega), sel_eq _ 3 h0 (by omega)]
  obtain h | h | h | h : (y0 : ℕ) = 0 ∨ (y0 : ℕ) = 1 ∨ (y0 : ℕ) = 2 ∨ (y0 : ℕ) = 3 := by omega
  all_goals
    simp only [h, if_true, if_false, add_zero, Nat.reduceEqDiff, OfNat.ofNat_ne_zero, OfNat.zero_ne_ofNat, OfNat.ofNat_ne_one,
      OfNat.one_ne_ofNat, zero_ne_one, one_ne_zero]
    refine congrArg _ (Finset.sum_congr rfl fun x _ => ?_)
    have hx := x.isLt
    exact congrArg _ (congrArg _ (by omega))

theorem db_step (v : Vec Ideal S1x1024 .f32) (y : S1x1024.Idx) : k0_pay3 (k0_pay8 (pD m c t)) v y
      = v y + ∑ r : Fin 1024, dd (m ((c : Thread nD τ).loc main_arg0)) (m ((c : Thread nD τ).loc main_arg1)) (y 1) (⟨1024 * t.val + (r : ℕ), by have := lt8 t; omega⟩ : Fin 8192) := by
  idx_vars y
  pointwise [k0_pay3]
  simp only [pay8_at]

theorem final10 : (dats m 0 c).arrAt 10 (cfgs 0).N = duOut (m ((c : Thread nD τ).loc main_arg0)) (m ((c : Thread nD τ).loc main_arg1)) (m ((c : Thread nD τ).loc main_arg3)) := by
  refine (dats m 0 c).arrAt_eq_of_covers 10 _ (by decide +kernel) fun t _ y => ?_
  blk_simp
  rw [after0_10]
  by_cases h : t.val % 8 = 0
  · rw [outsAt0_A m c t h]
    dsimp only
    frame_out
    exact point10 m c t y
  · rw [outsAt0_B m c t h]
    dsimp only
    frame_out
    exact point10 m c t y

theorem zero11 (y : S4x1024.Idx) : (k0_pay4 (F := Ideal)) y = 0 := by
  pointwise [k0_pay4]

theorem zero12 (y : S1x1024.Idx) : (k0_pay5 (F := Ideal)) y = 0 := by
  pointwise [k0_pay5]

theorem final11 : (dats m 0 c).arrAt 11 (cfgs 0).N = dwOut (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11, Pipeline.eq_sum_fin_of_reset_step_apply_of_flush (fun n h => (outsAt0 m c n h).2.1) 8 (fun _ => 0) _
    (fun t h j => by rw [outsAt0_A m c t h]; dsimp only; frame_out; exact (dw_step m c t _ j).trans (congrArg (· + _) (zero11 j)))
    (fun t h j => by rw [outsAt0_B m c t h]; dsimp only; frame_out; exact dw_step m c t _ j)
    t ((flush0_11 t).mp hf) _, zero_add]
  idx_vars y
  rw [show ((cfg0.win 11).blk t).view.emb (ix2 y0 y1) = ix2 y0 y1 by blk_ext [idx t]]
  have ht := lt8 t
  refine Fin.sum_mul_add_congr fun s r hl => ?_
  refine congrArg₂ (· * ·) (congrArg _ (Fin.ext (by dsimp only; omega))) (congrArg _ ?_)
  change 1024 * (8 * (t.val / 8) + (s : ℕ)) + (r : ℕ) + 14 + (y0 : ℕ) = ((s : ℕ) * 1024 + (r : ℕ)) + 14 + (y0 : ℕ)
  omega

theorem final12 : (dats m 0 c).arrAt 12 (cfgs 0).N = dbOut (m ((c : Thread nD τ).loc main_arg0)) (m ((c : Thread nD τ).loc main_arg1)) := by
  refine (dats m 0 c).arrAt_eq_of_covers 12 _ (by decide +kernel) fun t hf y => ?_
  blk_simp
  rw [after0_12, Pipeline.eq_sum_fin_of_reset_step_apply_of_flush (fun n h => (outsAt0 m c n h).2.2) 8 (fun _ => 0) _
    (fun t h j => by rw [outsAt0_A m c t h]; dsimp only; frame_out; exact (db_step m c t _ j).trans (congrArg (· + _) (zero12 j)))
    (fun t h j => by rw [outsAt0_B m c t h]; dsimp only; frame_out; exact db_step m c t _ j)
    t ((flush0_12 t).mp hf) _, zero_add]
  idx_vars y
  rw [show ((cfg0.win 12).blk t).view.emb (ix2 y0 y1) = ix2 y0 y1 by blk_ext [idx t]]
  have ht := lt8 t
  refine Fin.sum_mul_add_congr fun s r hl => ?_
  exact congrArg _ (Fin.ext (by dsimp only; omega))

end Cert.ConvIdeal.Block

end

end
-- ==== Proof.Conv.Ref.lean ====
module

public import proofs.«01_k».proof.Proof.Gen.ConvRefIdeal.Read
public import proofs.«01_k».proof.Proof.Conv.Form

@[expose] public section

set_option maxRecDepth 16384

noncomputable section

open Idealize.ShloMosaic Idealize.ShloMosaic.TcCoe Idealize.SL.Sem

/-!
# What the reference of the convolution's backward call computes
-/

namespace Cert.ConvRefIdeal.RefValue
open Cert.ConvRefIdeal Cert.ConvRefIdeal.Gen Cert.ConvRefIdeal.Read
open Cert.ConvIdeal.Block (ext dd uu duOut dwOut dbOut)

variable (x0 x1 : FVec Ideal S8192x1024 .f32) (x2 : FVec Ideal S8192x5632 .f32) (x3 : FVec Ideal S4x1024 .f32)

theorem dd_at (r : Fin 8192) (j : Fin 1024) : val_main_v43 (F := Ideal) x0 x1 (ix2 r j) = dd x0 x1 j r := by
  pointwise [val_main_v43, val_main_v42, dd]

theorem up_at (n : Fin 8195) (j : Fin 1024) : val_main_v9 (F := Ideal) x2 (ix2 n j) = ext (uu x2 j) ((n : ℕ) + 14) := by
  pointwise [val_main_v9, val_main_v8, val_main_cst_1, val_main_v7, val_main_cst_0, val_main_v0, ext, uu]
  by_cases h : (n : ℕ) < 2
  · rw [dif_pos h, dif_neg (by omega)]
  · have hn := n.isLt
    rw [dif_neg h]
    by_cases h' : (n : ℕ) - 2 < 8192
    · rw [dif_pos h', dif_pos (by omega)]
      congr 1
    · rw [dif_neg h', dif_neg (by omega)]

theorem w0_at (r : Fin 8192) (j : Fin 1024) : val_main_v82 (F := Ideal) x0 x1 x3 (ix2 r j) = dd x0 x1 j r * x3 (ix2 0 j) := by
  pointwise [val_main_v82, val_main_v81, val_main_v15, val_main_v14, val_main_v13]
  rw [dd_at]

theorem w1_at (r : Fin 8192) (j : Fin 1024) : val_main_v71 (F := Ideal) x0 x1 x3 (ix2 r j) = dd x0 x1 j r * x3 (ix2 1 j) := by
  pointwise [val_main_v71, val_main_v70, val_main_v21, val_main_v20, val_main_v19]
  rw [dd_at]

theorem w2_at (r : Fin 8192) (j : Fin 1024) : val_main_v60 (F := Ideal) x0 x1 x3 (ix2 r j) = dd x0 x1 j r * x3 (ix2 2 j) := by
  pointwise [val_main_v60, val_main_v59, val_main_v28, val_main_v27, val_main_v26]
  rw [dd_at]

theorem w3_at (r : Fin 8192) (j : Fin 1024) : val_main_v51 (F := Ideal) x0 x1 x3 (ix2 r j) = dd x0 x1 j r * x3 (ix2 3 j) := by
  pointwise [val_main_v51, val_main_v50, val_main_v35, val_main_v34, val_main_v33]
  rw [dd_at]

theorem du_eq : val_main_v92 (F := Ideal) x0 x1 x3 = duOut x0 x1 x3 := by
  funext i
  idx_vars i
  pointwise [val_main_v92, val_main_v90, val_main_v88, val_main_v87, val_main_cst_21, val_main_v77, val_main_v76, val_main_cst_17,
    val_main_v66, val_main_v65, val_main_cst_13, val_main_v55, val_main_cst_9, duOut]
  rw [show ∀ a b c d : EReal, a + b + c + d = d + c + b + a by intros; ac_rfl]
  have h0 := i0.isLt
  simp only [w0_at, w1_at, w2_at, w3_at]
  refine congrArg₂ (· + ·) (congrArg₂ (· + ·) (congrArg₂ (· + ·) ?_ ?_) ?_) ?_
  all_goals
    unfold ext
    split_ifs
    all_goals first
      | omega
      | rw [zero_mul]
      | exact congrArg (fun i => dd x0 x1 i1 i * _) (Fin.ext (by dsimp only; omega))

theorem dw_eq : val_main_v86 (F := Ideal) x0 x1 x2 = dwOut x0 x1 x2 := by
  funext i
  idx_vars i
  pointwise [val_main_v86, val_main_v85, val_main_cst_20, val_main_v84, val_main_v83, val_main_cst_19, val_main_v80, val_main_v79,
    val_main_cst_18, val_main_v78, val_main_v12, val_main_v75, val_main_v74, val_main_cst_16, val_main_v73, val_main_v72,
    val_main_cst_15, val_main_v69, val_main_v68, val_main_cst_14, val_main_v67, val_main_v18, val_main_v64, val_main_v63,
    val_main_cst_12, val_main_v62, val_main_v61, val_main_cst_11, val_main_v58, val_main_v57, val_main_cst_10, val_main_v56,
    val_main_v25, val_main_v54, val_main_cst_8, val_main_v53, val_main_v52, val_main_cst_7, val_main_v49, val_main_v48,
    val_main_cst_6, val_main_v47, val_main_v32, dwOut]
  simp only [dd_at, up_at]
  simp only [Finset.univ_unique, Finset.sum_const, Finset.card_singleton, one_smul]
  have h0 := i0.isLt
  obtain h | h | h | h : (i0 : ℕ) = 0 ∨ (i0 : ℕ) = 1 ∨ (i0 : ℕ) = 2 ∨ (i0 : ℕ) = 3 := by omega
  all_goals
    split_ifs
    all_goals first
      | omega
      | skip
    simp only [zero_add, add_zero]
    refine Finset.sum_congr rfl fun x _ => ?_
    rw [mul_comm]
    exact congrArg _ (congrArg _ (by omega))

theorem db_eq : val_main_v93 (F := Ideal) x0 x1 = dbOut x0 x1 := by
  funext i
  idx_vars i
  pointwise [val_main_v93, val_main_v46, val_main_cst_5, val_main_v45, val_main_v44, val_main_cst_4, val_main_v42, dbOut, dd]
  simp only [Finset.univ_unique, Finset.sum_const, Finset.card_singleton, one_smul]

end Cert.ConvRefIdeal.RefValue

end

end
-- ==== Proof.Conv.Claim.lean ====
module

public import proofs.«01_k».proof.Defs
public import proofs.«01_k».proof.Proof.Gen.ConvIdeal.Value
public import proofs.«01_k».proof.Proof.Gen.ConvRefIdeal.Run
public import proofs.«01_k».proof.Proof.Conv.Block
public import proofs.«01_k».proof.Proof.Conv.Ref

@[expose] public section

set_option maxRecDepth 16384

noncomputable section

open Idealize.ShloMosaic Idealize.ShloMosaic.TcCoe Idealize.SL.Sem

/-!
# The convolution's backward call computes the derivatives of the convolution
-/

namespace Cert.Conv.Claims
open Cert.ConvIdeal.Block Cert.ConvRefIdeal.RefValue Cert.ConvRefIdeal.Read

/-- A function of three arguments at equal arguments. -/
theorem same {α0 α1 α2 β : Type} (f : α0 → α1 → α2 → β) {x0 y0 : α0} {x1 y1 : α1} {x2 y2 : α2} (h0 : x0 = y0) (h1 : x1 = y1)
    (h2 : x2 = y2) : f x0 x1 x2 = f y0 y1 y2 := by
  subst h0 h1 h2; rfl

theorem algebraic : Cert.algebraic_ConvIdeal_ConvRefIdeal
    (hConvIdeal := Cert.ConvIdeal.Gen.facts) (hConvRefIdeal := Cert.ConvRefIdeal.Gen.facts) := by
  intro m g m' g' hpre hag
  refine ⟨fun c => (Cert.ConvIdeal.Gen.dats m 0 c).arrAt 10 (Cert.ConvIdeal.cfgs 0).N,
    fun c => (Cert.ConvIdeal.Gen.dats m 0 c).arrAt 11 (Cert.ConvIdeal.cfgs 0).N,
    fun c => (Cert.ConvIdeal.Gen.dats m 0 c).arrAt 12 (Cert.ConvIdeal.cfgs 0).N,
    Cert.ConvIdeal.Value.run_blocks m g,
    (θ_run _ _ _).mono (fun r h c => ?_) (Cert.ConvRefIdeal.Value.run m' g')⟩
  obtain ⟨h0, h1, h2, hk⟩ := h c
  obtain ⟨a0, a1, a2, a3⟩ := hag c
  refine ⟨h0.trans ?_, h1.trans ?_, h2.trans ?_, hk⟩
  · exact (val_main_v92_eq _ _ _).trans ((same (val_main_v92 (F := Ideal)) a0 a1 a3).trans ((du_eq _ _ _).trans (final10 m c).symm))
  · exact (val_main_v86_eq m' c).trans ((same (val_main_v86 (F := Ideal)) a0 a1 a2).trans ((dw_eq _ _ _).trans (final11 m c).symm))
  · exact (val_main_v93_eq _ _).trans ((congrArg₂ (val_main_v93 (F := Ideal)) a0 a1).trans ((db_eq _ _).trans (final12 m c).symm))

end Cert.Conv.Claims

end

end
-- ==== Proof.FfnIn.Block.lean ====
module

public import proofs.«01_k».proof.Proof.Gen.FfnInIdeal.Frame
public import proofs.«01_k».proof.Proof.Step.Norm
public import Idealize.ShloMosaic.Lib.Pipeline.ValueKit

@[expose] public section

set_option maxRecDepth 16384

noncomputable section

open Idealize.ShloMosaic Idealize.ShloMosaic.TcCoe Idealize.SL.Sem

/-!
# What the feed-forward input's backward call leaves in its result arrays
-/

namespace Cert.FfnInIdeal.Block
open Cert.FfnInIdeal Cert.FfnInIdeal.Gen

/-- The cotangent of the normalised row `r` at column `j`: both halves of the feed-forward cotangent against the weight. -/
def dn (dgate dup : FVec Ideal S8192x2816 .f32) (w : FVec Ideal S1024x5632 .f32) (r : Fin 8192) (j : Fin 1024) : EReal :=
  ∑ k : Fin 2816, dgate (ix2 r k) * w (ix2 j (⟨(k : ℕ), by omega⟩ : Fin 5632))
    + ∑ k : Fin 2816, dup (ix2 r k) * w (ix2 j (⟨2816 + (k : ℕ), by omega⟩ : Fin 5632))

/-- The residual's cotangent plus the norm's gradient, as the kernel writes it. -/
def DX (dgate dup : FVec Ideal S8192x2816 .f32) (dres x : FVec Ideal S8192x1024 .f32) (g : FVec Ideal S1024 .f32)
    (w : FVec Ideal S1024x5632 .f32) : FVec Ideal S8192x1024 .f32 := fun i =>
  dres i + Step.scale (fun k => x (ix2 (i 0) k))
    * (dn dgate dup w (i 0) (i 1) * g (ix1 (i 1))
      - x i * Step.scale (fun k => x (ix2 (i 0) k))
        * Ideal.div (∑ k, dn dgate dup w (i 0) k * g (ix1 k) * (x (ix2 (i 0) k) * Step.scale (fun k => x (ix2 (i 0) k))))
            (Ideal.ofBits .f32 1149239296#32))

/-- The gain's gradient: over all rows, the cotangent times the normalised row. -/
def DG (dgate dup : FVec Ideal S8192x2816 .f32) (x : FVec Ideal S8192x1024 .f32)
    (w : FVec Ideal S1024x5632 .f32) : FVec Ideal S1x1024 .f32 := fun i =>
  ∑ r : Fin 8192, dn dgate dup w r (i 1) * (x (ix2 r (i 1)) * Step.scale (fun k => x (ix2 r k)))

variable (m : (ℓ : Loc nD τ sig) → Buf (Elt Ideal) ℓ)

/-- The blocks the grid's points read and write: tile `t` of the rows, the weight's two halves, the whole gain. -/
theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The payload stored for the gradient of the residual stream, at an index of a row tile. -/
theorem point (c : Dev nD) (t : Fin cfg0.N) (y : S512x1024.Idx) :
    k0_pay1 (k0_pay6 (iblk m c 4 t))
      (k0_pay8 (iblk m c 0 t) (iblk m c 2 t) (iblk m c 1 t) (iblk m c 3 t) (iblk m c 4 t) (iblk m c 5 t)) (iblk m c 6 t) y
    = DX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 7).blk t).view.emb y) := by
  pointwise [k0_pay1, k0_pay5, k0_pay6, k0_pay7, k0_pay8, DX, dn, Step.scale, Step.meanSq]
  blk_point [iblk, V, idx t]

/-- After the run the first result is the residual's cotangent plus the norm's gradient. -/
theorem final7 (c : Dev nD) : (dats m 0 c).arrAt 7 (cfgs 0).N
    = DX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  by_cases h : t.val % 16 = 0
  · rw [outsAt0_A m c t h]
    dsimp only
    frame_out
    exact point m c t y
  · rw [outsAt0_B m c t h]
    dsimp only
    frame_out
    exact point m c t y

theorem pay2_eq (v24 : FVec Ideal S512x1 .f32) (v36 v40 : FVec Ideal S512x1024 .f32) :
    k0_pay2 (F := Ideal) v24 v36 v40 = k0_pay1 v24 v36 v40 := rfl

/-- The second result is the first, rounded to bf16; over the extended reals the same array. -/
theorem final8 (c : Dev nD) : (dats m 0 c).arrAt 8 (cfgs 0).N
    = DX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  by_cases h : t.val % 16 = 0
  · rw [outsAt0_A m c t h]
    dsimp only
    frame_out
    rw [pay2_eq]
    exact point m c t y
  · rw [outsAt0_B m c t h]
    dsimp only
    frame_out
    rw [pay2_eq]
    exact point m c t y

theorem hzero (j : S1x1024.Idx) : k0_pay4 (F := Ideal) j = 0 := by pointwise [k0_pay4]

/-- The gain's row gets, at each tile, the sum over the tile's rows of the cotangent times the normalised row. -/
theorem hpay (v13 v26 : FVec Ideal S512x1024 .f32) (v45 : FVec Ideal S1x1024 .f32) (j : S1x1024.Idx) :
    k0_pay3 (F := Ideal) v13 v26 v45 j = v45 j + ∑ x : Fin 512, v13 (ix2 x (j 1)) * v26 (ix2 x (j 1)) := by
  pointwise [k0_pay3]

theorem final9 (c : Dev nD) : (dats m 0 c).arrAt 9 (cfgs 0).N
    = DG (m ((c : Thread nD τ).loc main_arg0)) (m ((c : Thread nD τ).loc main_arg1))
        (m ((c : Thread nD τ).loc main_arg3)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [outsAt0_A m c t h]; dsimp only; frame_out; rw [hpay, hzero])
    (fun t h j => by rw [outsAt0_B m c t h]; dsimp only; frame_out; rw [hpay])
    (le_of_eq N_0) t0_15 rfl j, zero_add]
  unfold DG
  refine Fin.sum_mul_add_congr fun t k hl => ?_
  pointwise [k0_pay5, k0_pay6, k0_pay7, dn, Step.scale, Step.meanSq]
  blk_point [iblk, V, idx t]

end Cert.FfnInIdeal.Block

end

end
-- ==== Proof.FfnIn.Ref.lean ====
module

public import proofs.«01_k».proof.Proof.Gen.FfnInRefIdeal.Read
public import proofs.«01_k».proof.Proof.Gen.Pre_ffn_in_finite
public import proofs.«01_k».proof.Proof.FfnIn.Block

@[expose] public section

set_option maxRecDepth 16384

noncomputable section

open Idealize.ShloMosaic Idealize.ShloMosaic.TcCoe Idealize.SL.Sem

/-!
# What the reference of the feed-forward input's backward call computes
-/

namespace Cert.FfnInRefIdeal.RefValue
open Cert.FfnInRefIdeal Cert.FfnInRefIdeal.Gen Cert.FfnInRefIdeal.Read

/-- The arrays that the precondition names hold real numbers. -/
structure Reals (x0 x1 : FVec Ideal S8192x2816 .f32) (x3 : FVec Ideal S8192x1024 .f32) (x4 : FVec Ideal S1024 .f32)
    (x5 : FVec Ideal S1024x5632 .f32) : Prop where
  h0 : ∀ i, Step.IsReal (x0 i)
  h1 : ∀ i, Step.IsReal (x1 i)
  h3 : ∀ i, Step.IsReal (x3 i)
  h4 : ∀ i, Step.IsReal (x4 i)
  h5 : ∀ i, Step.IsReal (x5 i)

instance : Subsingleton (Cert.Pre_ffn_in_finite.S_).Idx := ⟨fun a b => funext fun i => i.elim0⟩

theorem reals (x0 x1 : FVec Ideal S8192x2816 .f32) (x2 x3 : FVec Ideal S8192x1024 .f32) (x4 : FVec Ideal S1024 .f32)
    (x5 : FVec Ideal S1024x5632 .f32) (h : Cert.Pre_ffn_in_finite.fn (F := Ideal) x0 x1 x2 x3 x4 x5 = fun _ => 1#1) :
    Reals x0 x1 x3 x4 x5 := by
  have e := congrFun h (fun i => i.elim0)
  unfold Cert.Pre_ffn_in_finite.fn Cert.Pre_ffn_in_finite.fn_part1 at e
  obtain ⟨e, e5⟩ := Step.andi_one e
  obtain ⟨e, e4⟩ := Step.andi_one e
  obtain ⟨e, e3⟩ := Step.andi_one e
  obtain ⟨e0, e1⟩ := Step.andi_one e
  exact ⟨Step.isReal_of_all _ _ _ _ _ _ _ e0, Step.isReal_of_all _ _ _ _ _ _ _ e1, Step.isReal_of_all _ _ _ _ _ _ _ e3,
    Step.isReal_of_all _ _ _ _ _ _ _ e4, Step.isReal_of_all _ _ _ _ _ _ _ e5⟩

/-- The derivative of the residual stream is what the kernel leaves there. -/
theorem dx_eq (x0 x1 : FVec Ideal S8192x2816 .f32) (x2 x3 : FVec Ideal S8192x1024 .f32) (x4 : FVec Ideal S1024 .f32)
    (x5 : FVec Ideal S1024x5632 .f32) (h : Reals x0 x1 x3 x4 x5) :
    val_main_v41 (F := Ideal) x0 x1 x2 x3 x4 x5 = Cert.FfnInIdeal.Block.DX x0 x1 x2 x3 x4 x5 := by
  funext i
  idx_vars i
  have hdn : ∀ k, Step.IsReal (Cert.FfnInIdeal.Block.dn x0 x1 x5 i0 k) := fun k =>
    (Step.IsReal.sum fun l => (h.h0 _).mul (h.h5 _)).add (Step.IsReal.sum fun l => (h.h1 _).mul (h.h5 _))
  refine Eq.trans ?_ (Step.norm_grad (fun k => x3 (ix2 i0 k)) (fun k => Cert.FfnInIdeal.Block.dn x0 x1 x5 i0 k * x4 (ix1 k))
    (fun k => h.h3 _) (fun k => (hdn k).mul (h.h4 _)) (x2 (ix2 i0 i1)) i1).symm
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43]
  simp only [Finset.univ_unique, Finset.sum_const, Finset.card_singleton, one_smul]
  rfl

/-- The derivative of the gain is what the kernel leaves there. -/
theorem dg_eq (x0 x1 : FVec Ideal S8192x2816 .f32) (x3 : FVec Ideal S8192x1024 .f32) (x5 : FVec Ideal S1024x5632 .f32) :
    val_main_v43 (F := Ideal) x0 x1 x3 x5 = Cert.FfnInIdeal.Block.DG x0 x1 x3 x5 := by
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42, val_main_v43]
  simp only [Finset.univ_unique, Finset.sum_const, Finset.card_singleton, one_smul]
  exact Finset.sum_congr rfl fun r _ => mul_comm _ _

end Cert.FfnInRefIdeal.RefValue

end

end
-- ==== Proof.FfnIn.Claim.lean ====
module

public import proofs.«01_k».proof.Defs
public import proofs.«01_k».proof.Proof.Gen.FfnInIdeal.Value
public import proofs.«01_k».proof.Proof.Gen.FfnInRefIdeal.Run
public import proofs.«01_k».proof.Proof.FfnIn.Ref

@[expose] public section

set_option maxRecDepth 16384

noncomputable section

open Idealize.ShloMosaic Idealize.ShloMosaic.TcCoe Idealize.SL.Sem

/-!
# The feed-forward input's backward call computes the derivative
-/

namespace Cert.FfnIn.Claims
open Cert.FfnInIdeal.Block Cert.FfnInRefIdeal.RefValue Cert.FfnInRefIdeal.Read

theorem algebraic : Cert.algebraic_FfnInIdeal_FfnInRefIdeal_pre_ffn_in_finite
    (hFfnInIdeal := Cert.FfnInIdeal.Gen.facts) (hFfnInRefIdeal := Cert.FfnInRefIdeal.Gen.facts)
    (hPre_ffn_in_finite := Cert.Pre_ffn_in_finite.Gen.facts) := by
  intro m g m' g' hpre hag
  refine ⟨fun c => (Cert.FfnInIdeal.Gen.dats m 0 c).arrAt 7 (Cert.FfnInIdeal.cfgs 0).N,
    fun c => (Cert.FfnInIdeal.Gen.dats m 0 c).arrAt 8 (Cert.FfnInIdeal.cfgs 0).N,
    fun c => (Cert.FfnInIdeal.Gen.dats m 0 c).arrAt 9 (Cert.FfnInIdeal.cfgs 0).N,
    Cert.FfnInIdeal.Value.run_blocks m g,
    (θ_run _ _ _).mono (fun r h c => ?_) (Cert.FfnInRefIdeal.Value.run m' g')⟩
  obtain ⟨h0, h1, h2, hk⟩ := h c
  obtain ⟨a0, a1, a2, a3, a4, a5⟩ := hag c
  have R := reals _ _ _ _ _ _ (hpre c)
  refine ⟨h0.trans ((val_main_v41_eq m' c).trans (Eq.trans ?_ (final7 m c).symm)),
    h1.trans ((val_main_v42_eq m' c).trans (Eq.trans ?_ (final8 m c).symm)),
    h2.trans ((val_main_v43_eq _ _ _ _).trans (Eq.trans ?_ (final9 m c).symm)), hk⟩
  · rw [a0, a1, a2, a3, a4, a5]
    exact dx_eq _ _ _ _ _ _ R
  · rw [a0, a1, a2, a3, a4, a5]
    exact dx_eq _ _ _ _ _ _ R
  · rw [a0, a1, a3, a5]
    exact dg_eq _ _ _ _

end Cert.FfnIn.Claims

end

end
-- ==== Proof.Loss.Block.lean ====
module

public import proofs.«01_k».proof.Proof.Gen.LossIdeal.Frame
public import proofs.«01_k».proof.Proof.Loss.Form
public import Idealize.ShloMosaic.Lib.Pipeline.ValueKit

@[expose] public section

set_option maxRecDepth 16384

noncomputable section

open Idealize.ShloMosaic Idealize.ShloMosaic.TcCoe Idealize.SL.Sem

/-!
# What the loss's call leaves in its result arrays
-/

namespace Cert.LossIdeal.Block
open Cert.LossIdeal Cert.LossIdeal.Gen

variable (m : (ℓ : Loc nD τ sig) → Buf (Elt Ideal) ℓ)

/-- The blocks the grid's points read and write. -/
theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] :=
  (by decide +kernel : ∀ t : Fin grid0.N, _)

/-- Row `r` of tile `t`. -/
def row (t : Fin cfg0.N) (r : Fin 256) : Fin 8192 :=
  ⟨256 * t.val + (r : ℕ), by have : t.val < 32 := lt_of_lt_of_eq t.isLt N_0; omega⟩

variable (c : Dev nD) (t : Fin cfg0.N)

/-! The values that a point's payloads are made of, by name. -/

def pSg : FVec Ideal S256x2816 .bf16 := k0_pay8 (iblk m c 0 t)
def pSilu : FVec Ideal S256x2816 .bf16 := k0_pay9 (iblk m c 0 t)
def pFF : FVec Ideal S256x2816 .bf16 := k0_pay10 (iblk m c 0 t) (iblk m c 1 t)
def pX2 : FVec Ideal S256x1024 .f32 := k0_pay11 (iblk m c 0 t) (iblk m c 1 t) (iblk m c 2 t) (iblk m c 3 t)
def pSc : FVec Ideal S256x1 .f32 := k0_pay13 (iblk m c 0 t) (iblk m c 1 t) (iblk m c 2 t) (iblk m c 3 t)
def pXH : FVec Ideal S256x1024 .f32 := k0_pay14 (iblk m c 0 t) (iblk m c 1 t) (iblk m c 2 t) (iblk m c 3 t)
def pY : FVec Ideal S256x1024 .f32 := k0_pay15 (iblk m c 0 t) (iblk m c 1 t) (iblk m c 2 t) (iblk m c 3 t) (iblk m c 4 t)
def pE : FVec Ideal S256x1024 .f32 := k0_pay16 (pY m c t) (iblk m c 5 t)
def pDY : FVec Ideal S256x1024 .f32 := k0_pay18 (pY m c t) (iblk m c 5 t)
def pDX : FVec Ideal S256x1024 .f32 := k0_pay20 (k0_pay12 (iblk m c 4 t)) (pSc m c t) (pXH m c t) (pY m c t) (iblk m c 5 t)
def pDXb : FVec Ideal S256x1024 .bf16 := k0_pay21 (k0_pay12 (iblk m c 4 t)) (pSc m c t) (pXH m c t) (pY m c t) (iblk m c 5 t)
def pDFF : FVec Ideal S256x2816 .f32 := k0_pay1 (pDXb m c t) (iblk m c 3 t)

theorem gate_at (r : Fin 256) (k : Fin 2816) : iblk m c 0 t (ix2 r k) = gate (m ((c : Thread nD τ).loc main_arg0)) (row t r) k := by
  pointwise [gate, row]
  blk_point [iblk, V, idx t]

theorem up_at (r : Fin 256) (k : Fin 2816) : iblk m c 1 t (ix2 r k) = up (m ((c : Thread nD τ).loc main_arg0)) (row t r) k := by
  pointwise [up, row]
  blk_point [iblk, V, idx t]

theorem x1_at (r : Fin 256) (j : Fin 1024) :
    iblk m c 2 t (ix2 r j) = m ((c : Thread nD τ).loc main_arg1) (ix2 (row t r) j) := by
  pointwise [row]
  blk_point [iblk, V, idx t]

theorem w_at (k : Fin 2816) (j : Fin 1024) :
    iblk m c 3 t (ix2 k j) = m ((c : Thread nD τ).loc main_arg2) (ix2 k j) := by
  pointwise
  blk_point [iblk, V, idx t]

theorem g_at (z : Fin 1) (j : Fin 1024) : iblk m c 4 t (ix2 z j) = m ((c : Thread nD τ).loc main_arg3) (ix1 j) := by
  pointwise
  blk_point [iblk, V, idx t]

theorem tg_at (r : Fin 256) (j : Fin 1024) :
    iblk m c 5 t (ix2 r j) = m ((c : Thread nD τ).loc main_arg4) (ix2 (row t r) j) := by
  pointwise [row]
  blk_point [iblk, V, idx t]

theorem sg_at (r : Fin 256) (k : Fin 2816) : pSg m c t (ix2 r k) = sg (gate (m ((c : Thread nD τ).loc main_arg0)) (row t r) k) := by
  pointwise [pSg, k0_pay8, k0_pay6, sg]
  rw [gate_at]

theorem silu_at (r : Fin 256) (k : Fin 2816) : pSilu m c t (ix2 r k) = silu (m ((c : Thread nD τ).loc main_arg0)) (row t r) k := by
  have h := sg_at m c t r k
  unfold pSg at h
  pointwise [pSilu, k0_pay9, k0_pay6, silu]
  rw [gate_at, h]

theorem ff_at (r : Fin 256) (k : Fin 2816) : pFF m c t (ix2 r k) = FF (m ((c : Thread nD τ).loc main_arg0)) (row t r) k := by
  have h := silu_at m c t r k
  unfold pSilu at h
  pointwise [pFF, k0_pay10, k0_pay7, FF]
  rw [up_at, h]

theorem x2_at (r : Fin 256) (j : Fin 1024) : pX2 m c t (ix2 r j) = X2 (m ((c : Thread nD τ).loc main_arg0)) (m ((c : Thread nD τ).loc main_arg1)) (m ((c : Thread nD τ).loc main_arg2)) (row t r) j := by
  have h := ff_at m c t r
  unfold pFF at h
  pointwise [pX2, k0_pay11, X2]
  simp only [h, x1_at, w_at]

theorem sc_at (r : Fin 256) (z : Fin 1) : pSc m c t (ix2 r z) = sc (m ((c : Thread nD τ).loc main_arg0)) (m ((c : Thread nD τ).loc main_arg1)) (m ((c : Thread nD τ).loc main_arg2)) (row t r) := by
  have h := x2_at m c t r
  unfold pX2 at h
  pointwise [pSc, k0_pay13, sc, Step.scale, Step.meanSq]
  simp only [h]

theorem xh_at (r : Fin 256) (j : Fin 1024) : pXH m c t (ix2 r j) = XH (m ((c : Thread nD τ).loc main_arg0)) (m ((c : Thread nD τ).loc main_arg1)) (m ((c : Thread nD τ).loc main_arg2)) (row t r) j := by
  have h := x2_at m c t r
  have h' := sc_at m c t r
  unfold pX2 at h
  unfold pSc at h'
  pointwise [pXH, k0_pay14, XH]
  simp only [h, h']

theorem y_at (r : Fin 256) (j : Fin 1024) : pY m c t (ix2 r j)
    = XH (m ((c : Thread nD τ).loc main_arg0)) (m ((c : Thread nD τ).loc main_arg1)) (m ((c : Thread nD τ).loc main_arg2)) (row t r) j * m ((c : Thread nD τ).loc main_arg3) (ix1 j) := by
  have h := xh_at m c t r
  unfold pXH at h
  pointwise [pY, k0_pay15, k0_pay12]
  simp only [h, g_at]

theorem e_at (r : Fin 256) (j : Fin 1024) : pE m c t (ix2 r j) = E (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  pointwise [pE, k0_pay16, E]
  simp only [y_at, tg_at]

theorem dy_at (r : Fin 256) (j : Fin 1024) : pDY m c t (ix2 r j) = DY (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  have h := e_at m c t r
  unfold pE at h
  pointwise [pDY, k0_pay18, DY]
  simp only [h]

theorem dx_at (r : Fin 256) (j : Fin 1024) : pDX m c t (ix2 r j) = DXv (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  have h := dy_at m c t r
  unfold pDY at h
  pointwise [pDX, k0_pay20, k0_pay12, DXv]
  simp only [h, sc_at, xh_at, g_at]

theorem dxb_at (r : Fin 256) (j : Fin 1024) : pDXb m c t (ix2 r j) = DXv (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  have h := dx_at m c t r
  unfold pDX at h
  pointwise [pDXb, k0_pay21]
  simp only [h]

theorem dff_at (r : Fin 256) (k : Fin 2816) : pDFF m c t (ix2 r k) = DFF (m ((c : Thread nD τ).loc main_arg0)) (m ((c : Thread nD τ).loc main_arg1)) (m ((c : Thread nD τ).loc main_arg2)) (m ((c : Thread nD τ).loc main_arg3)) (m ((c : Thread nD τ).loc main_arg4)) (row t r) k := by
  pointwise [pDFF, k0_pay1, DFF]
  simp only [dxb_at, w_at]

/-! The blocks' places in the arrays. -/

theorem emb6 (r : Fin 256) (k : Fin 2816) : ((cfg0.win 6).blk t).view.emb (ix2 r k) = ix2 (row t r) k := by
  blk_ext [idx t, row]

theorem emb7 (r : Fin 256) (k : Fin 1024) : ((cfg0.win 7).blk t).view.emb (ix2 r k) = ix2 (row t r) k := by
  blk_ext [idx t, row]

theorem emb8 (r : Fin 256) (k : Fin 1024) : ((cfg0.win 8).blk t).view.emb (ix2 r k) = ix2 (row t r) k := by
  blk_ext [idx t, row]

theorem emb11 (r : Fin 256) (k : Fin 2816) : ((cfg0.win 11).blk t).view.emb (ix2 r k) = ix2 (row t r) k := by
  blk_ext [idx t, row]

theorem emb12 (r : Fin 256) (k : Fin 2816) : ((cfg0.win 12).blk t).view.emb (ix2 r k) = ix2 (row t r) k := by
  blk_ext [idx t, row]

theorem point6 (y : S256x2816.Idx) : pFF m c t y = ffOut (m ((c : Thread nD τ).loc main_arg0)) (((cfg0.win 6).blk t).view.emb y) := by
  idx_vars y
  rw [emb6, ff_at]
  rfl

theorem final6 : (dats m 0 c).arrAt 6 (cfgs 0).N = ffOut (m ((c : Thread nD τ).loc main_arg0)) := by
  refine (dats m 0 c).arrAt_eq_of_covers 6 _ (by decide +kernel) fun t _ y => ?_
  blk_simp
  rw [after0_6]
  by_cases h : t.val % 32 = 0
  · rw [outsAt0_A m c t h]
    dsimp only
    frame_out
    exact point6 m c t y
  · rw [outsAt0_B m c t h]
    dsimp only
    frame_out
    exact point6 m c t y

theorem point7 (y : S256x1024.Idx) : pDX m c t y = dxOut (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  idx_vars y
  rw [emb7, dx_at]
  rfl

theorem final7 : (dats m 0 c).arrAt 7 (cfgs 0).N = dxOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 32 = 0
  · rw [outsAt0_A m c t h]
    dsimp only
    frame_out
    exact point7 m c t y
  · rw [outsAt0_B m c t h]
    dsimp only
    frame_out
    exact point7 m c t y

theorem point8 (y : S256x1024.Idx) : pDX m c t y = dxOut (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  idx_vars y
  rw [emb8, dx_at]
  rfl

theorem final8 : (dats m 0 c).arrAt 8 (cfgs 0).N = dxOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  by_cases h : t.val % 32 = 0
  · rw [outsAt0_A m c t h]
    dsimp only
    frame_out
    exact point8 m c t y
  · rw [outsAt0_B m c t h]
    dsimp only
    frame_out
    exact point8 m c t y

theorem point11 (y : S256x2816.Idx) :
    k0_pay3 (k0_pay6 (iblk m c 0 t)) (k0_pay7 (iblk m c 1 t)) (pSg m c t) (pDXb m c t) (iblk m c 3 t) y
      = dgateOut (m ((c : Thread nD τ).loc main_arg0)) (m ((c : Thread nD τ).loc main_arg1)) (m ((c : Thread nD τ).loc main_arg2)) (m ((c : Thread nD τ).loc main_arg3)) (m ((c : Thread nD τ).loc main_arg4)) (((cfg0.win 11).blk t).view.emb y) := by
  idx_vars y
  have h := dff_at m c t y0
  unfold pDFF at h
  rw [emb11]
  pointwise [k0_pay3, k0_pay6, k0_pay7, dgateOut]
  simp only [h, sg_at, gate_at, up_at]

theorem final11 : (dats m 0 c).arrAt 11 (cfgs 0).N = dgateOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 11 _ (by decide +kernel) fun t _ y => ?_
  blk_simp
  rw [after0_11]
  by_cases h : t.val % 32 = 0
  · rw [outsAt0_A m c t h]
    dsimp only
    frame_out
    exact point11 m c t y
  · rw [outsAt0_B m c t h]
    dsimp only
    frame_out
    exact point11 m c t y

theorem point12 (y : S256x2816.Idx) : k0_pay2 (pSilu m c t) (pDXb m c t) (iblk m c 3 t) y
      = dupOut (m ((c : Thread nD τ).loc main_arg0)) (m ((c : Thread nD τ).loc main_arg1)) (m ((c : Thread nD τ).loc main_arg2)) (m ((c : Thread nD τ).loc main_arg3)) (m ((c : Thread nD τ).loc main_arg4)) (((cfg0.win 12).blk t).view.emb y) := by
  idx_vars y
  have h := dff_at m c t y0
  unfold pDFF at h
  rw [emb12]
  pointwise [k0_pay2, dupOut]
  simp only [h, silu_at]

theorem final12 : (dats m 0 c).arrAt 12 (cfgs 0).N = dupOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  by_cases h : t.val % 32 = 0
  · rw [outsAt0_A m c t h]
    dsimp only
    frame_out
    exact point12 m c t y
  · rw [outsAt0_B m c t h]
    dsimp only
    frame_out
    exact point12 m c t y

/-- One point's contribution to the loss. -/
theorem loss_step (v : Vec Ideal S1x128 .f32) (y : S1x128.Idx) : k0_pay17 (pY m c t) (iblk m c 5 t) v y
    = v y + Ideal.ofBits .f32 973078528#32 * ∑ r : Fin 256, ∑ j : Fin 1024,
        E (m ((c : Thread nD τ).loc main_arg0)) (m ((c : Thread nD τ).loc main_arg1)) (m ((c : Thread nD τ).loc main_arg2)) (m ((c : Thread nD τ).loc main_arg3)) (m ((c : Thread nD τ).loc main_arg4)) (row t r) j * E (m ((c : Thread nD τ).loc main_arg0)) (m ((c : Thread nD τ).loc main_arg1)) (m ((c : Thread nD τ).loc main_arg2)) (m ((c : Thread nD τ).loc main_arg3)) (m ((c : Thread nD τ).loc main_arg4)) (row t r) j := by
  idx_vars y
  have h := e_at m c t
  unfold pE at h
  pointwise [k0_pay17]
  simp only [h]

theorem dg_step (v : Vec Ideal S1x1024 .f32) (y : S1x1024.Idx) : k0_pay19 (pXH m c t) (pY m c t) (iblk m c 5 t) v y
    = v y + ∑ r : Fin 256, DY (m ((c : Thread nD τ).loc main_arg0)) (m ((c : Thread nD τ).loc main_arg1)) (m ((c : Thread nD τ).loc main_arg2)) (m ((c : Thread nD τ).loc main_arg3)) (m ((c : Thread nD τ).loc main_arg4)) (row t r) (y 1) * XH (m ((c : Thread nD τ).loc main_arg0)) (m ((c : Thread nD τ).loc main_arg1)) (m ((c : Thread nD τ).loc main_arg2)) (row t r) (y 1) := by
  idx_vars y
  have h := dy_at m c t
  unfold pDY at h
  pointwise [k0_pay19]
  simp only [h, xh_at]

theorem zero9 (y : S1x128.Idx) : (k0_pay4 (F := Ideal)) y = 0 := by
  pointwise [k0_pay4]

theorem zero10 (y : S1x1024.Idx) : (k0_pay5 (F := Ideal)) y = 0 := by
  pointwise [k0_pay5]

/-- The rows of the only run's points. -/
theorem row_of (s : Fin 32) (h : 32 * (t.val / 32) + (s : ℕ) < cfg0.N) (r : Fin 256) :
    row ⟨32 * (t.val / 32) + (s : ℕ), h⟩ r = (⟨(s : ℕ) * 256 + (r : ℕ), by omega⟩ : Fin 8192) := by
  have : t.val < 32 := lt_of_lt_of_eq t.isLt N_0
  exact Fin.ext (by dsimp only [row] <;> omega)

theorem emb10 (z : Fin 1) (j : Fin 1024) : ((cfg0.win 10).blk t).view.emb (ix2 z j) = ix2 z j := by
  blk_ext [idx t]

theorem final9 : (dats m 0 c).arrAt 9 (cfgs 0).N = lossOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.1) 32 (fun _ => 0) _
    (fun t h j => by rw [outsAt0_A m c t h]; dsimp only; frame_out; exact (loss_step m c t _ j).trans (congrArg (· + _) (zero9 j)))
    (fun t h j => by rw [outsAt0_B m c t h]; dsimp only; frame_out; exact loss_step m c t _ j)
    t ((flush0_9 t).mp hf) _, zero_add]
  simp only [row_of]
  rfl

theorem final10 : (dats m 0 c).arrAt 10 (cfgs 0).N = dgOut (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10, Pipeline.eq_sum_fin_of_reset_step_apply_of_flush (fun n h => (outsAt0 m c n h).2.2.2.2.1) 32 (fun _ => 0) _
    (fun t h j => by rw [outsAt0_A m c t h]; dsimp only; frame_out; exact (dg_step m c t _ j).trans (congrArg (· + _) (zero10 j)))
    (fun t h j => by rw [outsAt0_B m c t h]; dsimp only; frame_out; exact dg_step m c t _ j)
    t ((flush0_10 t).mp hf) _, zero_add]
  simp only [row_of]
  idx_vars y
  rw [emb10]
  refine Fin.sum_mul_add_congr fun s r hl => ?_
  rfl

end Cert.LossIdeal.Block

end

end
-- ==== Proof.Loss.Claim.lean ====
module

public import proofs.«01_k».proof.Defs
public import proofs.«01_k».proof.Proof.Gen.LossIdeal.Value
public import proofs.«01_k».proof.Proof.Gen.LossRefIdeal.Run
public import proofs.«01_k».proof.Proof.Loss.Block
public import proofs.«01_k».proof.Proof.Loss.Ref

@[expose] public section

set_option maxRecDepth 16384

noncomputable section

open Idealize.ShloMosaic Idealize.ShloMosaic.TcCoe Idealize.SL.Sem

/-!
# The loss's call computes the loss and its derivatives
-/

namespace Cert.Loss.Claims
open Cert.LossIdeal.Block Cert.LossRefIdeal.RefValue Cert.LossRefIdeal.Read

/-- A function of the five arguments at equal arguments. -/
theorem same {α0 α1 α2 α3 α4 β : Type} (f : α0 → α1 → α2 → α3 → α4 → β) {x0 y0 : α0} {x1 y1 : α1} {x2 y2 : α2} {x3 y3 : α3}
    {x4 y4 : α4} (h0 : x0 = y0) (h1 : x1 = y1) (h2 : x2 = y2) (h3 : x3 = y3) (h4 : x4 = y4) :
    f x0 x1 x2 x3 x4 = f y0 y1 y2 y3 y4 := by
  subst h0 h1 h2 h3 h4; rfl

theorem algebraic : Cert.algebraic_LossIdeal_LossRefIdeal_pre_loss_finite
    (hLossIdeal := Cert.LossIdeal.Gen.facts) (hLossRefIdeal := Cert.LossRefIdeal.Gen.facts)
    (hPre_loss_finite := Cert.Pre_loss_finite.Gen.facts) := by
  intro m g m' g' hpre hag
  refine ⟨fun c => (Cert.LossIdeal.Gen.dats m 0 c).arrAt 6 (Cert.LossIdeal.cfgs 0).N,
    fun c => (Cert.LossIdeal.Gen.dats m 0 c).arrAt 7 (Cert.LossIdeal.cfgs 0).N,
    fun c => (Cert.LossIdeal.Gen.dats m 0 c).arrAt 8 (Cert.LossIdeal.cfgs 0).N,
    fun c => (Cert.LossIdeal.Gen.dats m 0 c).arrAt 9 (Cert.LossIdeal.cfgs 0).N,
    fun c => (Cert.LossIdeal.Gen.dats m 0 c).arrAt 10 (Cert.LossIdeal.cfgs 0).N,
    fun c => (Cert.LossIdeal.Gen.dats m 0 c).arrAt 11 (Cert.LossIdeal.cfgs 0).N,
    fun c => (Cert.LossIdeal.Gen.dats m 0 c).arrAt 12 (Cert.LossIdeal.cfgs 0).N,
    Cert.LossIdeal.Value.run_blocks m g,
    (θ_run _ _ _).mono (fun r h c => ?_) (Cert.LossRefIdeal.Value.run m' g')⟩
  obtain ⟨h0, h1, h2, h3, h4, h5, h6, hk⟩ := h c
  obtain ⟨a0, a1, a2, a3, a4⟩ := hag c
  have R := reals _ _ _ _ _ (hpre c)
  refine ⟨h0.trans ?_, h1.trans ?_, h2.trans ?_, h3.trans ?_, h4.trans ?_, h5.trans ?_, h6.trans ?_, hk⟩
  · exact (val_main_v61_eq _).trans ((congrArg (val_main_v61 (F := Ideal)) a0).trans ((ff_eq R).trans (final6 m c).symm))
  · exact (val_main_v56_eq m' c).trans ((same (val_main_v56 (F := Ideal)) a0 a1 a2 a3 a4).trans ((dx_eq R).trans (final7 m c).symm))
  · exact (val_main_v62_eq m' c).trans ((same (val_main_v62 (F := Ideal)) a0 a1 a2 a3 a4).trans ((dxb_eq R).trans (final8 m c).symm))
  · exact (val_main_v63_eq m' c).trans ((same (val_main_v63 (F := Ideal)) a0 a1 a2 a3 a4).trans ((loss_eq R).trans (final9 m c).symm))
  · exact (val_main_v64_eq m' c).trans ((same (val_main_v64 (F := Ideal)) a0 a1 a2 a3 a4).trans ((dg_eq R).trans (final10 m c).symm))
  · exact (val_main_v65_eq m' c).trans ((same (val_main_v65 (F := Ideal)) a0 a1 a2 a3 a4).trans ((dgate_eq R).trans (final11 m c).symm))
  · exact (val_main_v66_eq m' c).trans ((same (val_main_v66 (F := Ideal)) a0 a1 a2 a3 a4).trans ((dup_eq R).trans (final12 m c).symm))

end Cert.Loss.Claims

end

end
-- ==== Proof.InProj.Form.lean ====
module

public import proofs.«01_k».proof.Proof.Gen.InProjIdeal
public import proofs.«01_k».proof.Proof.Step.Norm
public import Idealize.ShloMosaic.Lib.Pipeline.ValueKit

@[expose] public section

set_option maxRecDepth 16384

noncomputable section

open Idealize.ShloMosaic Idealize.ShloMosaic.TcCoe Idealize.SL.Sem

/-!
# The gradients that the input projection's backward call computes, in closed form
-/

namespace Cert.InProjIdeal.Block
open Cert.InProjIdeal Cert.InProjIdeal.Gen

/-- The part of a normalised row's cotangent that comes from `n` columns of the projection, the first of them at `o`
    in the weight and at `p` in the cotangent's own array. -/
def part (n : ℕ) {N : ℕ} (o p : ℕ) (ho : o + n ≤ 5632) (hp : p + n ≤ N) (ct : FVec Ideal ⟨2, ![8192, N]⟩ .f32)
    (w : FVec Ideal S1024x5632 .f32) (r : Fin 8192) (j : Fin 1024) : EReal :=
  ∑ k : Fin n, ct (ix2 r (⟨p + (k : ℕ), by omega⟩ : Fin N)) * w (ix2 j (⟨o + (k : ℕ), by omega⟩ : Fin 5632))

/-- The two narrow cotangents side by side. -/
def side (dk dv : FVec Ideal S8192x256 .f32) : FVec Ideal ⟨2, ![8192, 512]⟩ .f32 :=
  concatenate S8192x512 1 [⟨S8192x256, dk⟩, ⟨S8192x256, dv⟩] concatenates_S8192x256_S8192x256_S8192x512_d1

/-- The cotangent of the normalised row `r` at column `j`: the eight column pieces against the weight. -/
def dn (du dl dq : FVec Ideal S8192x1024 .f32) (dk dv : FVec Ideal S8192x256 .f32) (dz : FVec Ideal S8192x2048 .f32)
    (w : FVec Ideal S1024x5632 .f32) (r : Fin 8192) (j : Fin 1024) : EReal :=
  part 1024 0 0 (by omega) (by omega) du w r j + part 1024 1024 0 (by omega) (by omega) dl w r j
    + part 1024 2048 0 (by omega) (by omega) dq w r j + part 512 3072 0 (by omega) (by omega) (side dk dv) w r j
    + part 512 3584 0 (by omega) (by omega) dz w r j + part 512 4096 512 (by omega) (by omega) dz w r j
    + part 512 4608 1024 (by omega) (by omega) dz w r j + part 512 5120 1536 (by omega) (by omega) dz w r j

/-- The residual's cotangent plus the norm's gradient, as the kernel writes it, where `d` is the normalised row's
    cotangent. -/
def DX (d : Fin 8192 → Fin 1024 → EReal) (dres x : FVec Ideal S8192x1024 .f32) (g : FVec Ideal S1024 .f32) :
    FVec Ideal S8192x1024 .f32 := fun i =>
  dres i + Step.scale (fun k => x (ix2 (i 0) k))
    * (d (i 0) (i 1) * g (ix1 (i 1))
      - x i * Step.scale (fun k => x (ix2 (i 0) k))
        * Ideal.div (∑ k, d (i 0) k * g (ix1 k) * (x (ix2 (i 0) k) * Step.scale (fun k => x (ix2 (i 0) k))))
            (Ideal.ofBits .f32 1149239296#32))

/-- The gain's gradient: over all rows, the cotangent times the normalised row. -/
def DG (d : Fin 8192 → Fin 1024 → EReal) (x : FVec Ideal S8192x1024 .f32) : FVec Ideal S1x1024 .f32 := fun i =>
  ∑ r : Fin 8192, d r (i 1) * (x (ix2 r (i 1)) * Step.scale (fun k => x (ix2 r k)))

end Cert.InProjIdeal.Block

end

end
-- ==== Proof.InProj.Block.lean ====
module

public import proofs.«01_k».proof.Proof.Gen.InProjIdeal.Frame
public import proofs.«01_k».proof.Proof.InProj.Form
public import Idealize.ShloMosaic.Lib.Pipeline.ValueKit

@[expose] public section

set_option maxRecDepth 16384

noncomputable section

open Idealize.ShloMosaic Idealize.ShloMosaic.TcCoe Idealize.SL.Sem

/-!
# What the input projection's backward call leaves in its result arrays
-/

namespace Cert.InProjIdeal.Block
open Cert.InProjIdeal Cert.InProjIdeal.Gen

variable (m : (ℓ : Loc nD τ sig) → Buf (Elt Ideal) ℓ)

/-- The blocks the grid's points read and write. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 1]
    ∧ win0_6.index t = ![t.val, 2] ∧ win0_7.index t = ![t.val, 3] ∧ win0_8.index t = ![0, 0] ∧ win0_9.index t = ![1, 0]
    ∧ win0_10.index t = ![2, 0] ∧ win0_11.index t = ![6, 0] ∧ win0_12.index t = ![7, 0] ∧ win0_13.index t = ![8, 0]
    ∧ win0_14.index t = ![9, 0] ∧ win0_15.index t = ![10, 0] ∧ win0_16.index t = ![t.val, 0] ∧ win0_17.index t = ![0, 0]
    ∧ win0_18.index t = ![t.val, 0] ∧ win0_19.index t = ![t.val, 0] ∧ win0_20.index t = ![t.val, 0]
    ∧ win0_21.index t = ![0, 0] :=
  (by decide +kernel : ∀ t : Fin grid0.N, _)

/-- The normalised rows' cotangent, of the kernel's arguments. -/
def dnOf (c : Dev nD) : Fin 8192 → Fin 1024 → EReal :=
  dn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg9))

/-! The three whole tiles of the transposed weight. -/

theorem wt8 (c : Dev nD) (t : Fin cfg0.N) (a b : Fin 1024) :
    X0_8 m c t (ix2 a b) = m ((c : Thread nD τ).loc main_arg9) (ix2 b (⟨0 + (a : ℕ), by omega⟩ : Fin 5632)) := by
  unfold X0_8 Pipeline.Window.fill
  rw [dif_pos (moved0_8 t _)]
  blk_point [iblk, V, idx t]

theorem wt9 (c : Dev nD) (t : Fin cfg0.N) (a b : Fin 1024) :
    X0_9 m c t (ix2 a b) = m ((c : Thread nD τ).loc main_arg9) (ix2 b (⟨1024 + (a : ℕ), by omega⟩ : Fin 5632)) := by
  unfold X0_9 Pipeline.Window.fill
  rw [dif_pos (moved0_9 t _)]
  blk_point [iblk, V, idx t]

theorem wt10 (c : Dev nD) (t : Fin cfg0.N) (a b : Fin 1024) :
    X0_10 m c t (ix2 a b) = m ((c : Thread nD τ).loc main_arg9) (ix2 b (⟨2048 + (a : ℕ), by omega⟩ : Fin 5632)) := by
  unfold X0_10 Pipeline.Window.fill
  rw [dif_pos (moved0_10 t _)]
  blk_point [iblk, V, idx t]

/-- Row `r` of tile `t`. -/
def row (t : Fin cfg0.N) (r : Fin 512) : Fin 8192 :=
  ⟨512 * t.val + (r : ℕ), by have : t.val < 16 := lt_of_lt_of_eq t.isLt N_0; omega⟩

theorem kv (c : Dev nD) (t : Fin cfg0.N) (r : Fin 512) (x : Fin 512) :
    iblk m c 3 t (ix2 r x) = side (m ((c : Thread nD τ).loc main_arg3)) (m ((c : Thread nD τ).loc main_arg4))
      (ix2 (row t r) (⟨0 + (x : ℕ), by omega⟩ : Fin 512)) := by
  blk_simp [iblk, idx t]
  entry_read
  show side (m ((c : Thread nD τ).loc main_arg3)) (m ((c : Thread nD τ).loc main_arg4)) _ = _
  blk_ext [idx t, row]

/-- The sum of the eight products of row tile `t`. -/
def prod (c : Dev nD) (t : Fin cfg0.N) : FVec Ideal S512x1024 .f32 :=
  k0_pay7 (k0_pay5 (iblk m c 0 t) (X0_8 m c t) (iblk m c 1 t) (X0_9 m c t) (iblk m c 2 t) (X0_10 m c t) (iblk m c 3 t)
    (iblk m c 11 t)) (k0_pay6 (iblk m c 4 t) (iblk m c 12 t)) (iblk m c 5 t) (iblk m c 13 t) (iblk m c 6 t)
    (iblk m c 14 t) (iblk m c 7 t) (iblk m c 15 t)

theorem prod_def (c : Dev nD) (t : Fin cfg0.N) :
    k0_pay7 (k0_pay5 (iblk m c 0 t) (X0_8 m c t) (iblk m c 1 t) (X0_9 m c t) (iblk m c 2 t) (X0_10 m c t) (iblk m c 3 t)
      (iblk m c 11 t)) (k0_pay6 (iblk m c 4 t) (iblk m c 12 t)) (iblk m c 5 t) (iblk m c 13 t) (iblk m c 6 t)
      (iblk m c 14 t) (iblk m c 7 t) (iblk m c 15 t) = prod m c t := rfl

theorem prod_at (c : Dev nD) (t : Fin cfg0.N) (r : Fin 512) (j : Fin 1024) :
    prod m c t (ix2 r j) = dnOf m c (row t r) j := by
  pointwise [prod, k0_pay5, k0_pay6, k0_pay7, dnOf, dn, part, row]
  simp only [wt8, wt9, wt10, kv, row]
  blk_point [iblk, V, idx t]

/-- The payload stored for the gradient of the residual stream, at an index of a row tile. -/
theorem point (c : Dev nD) (t : Fin cfg0.N) (y : S512x1024.Idx) :
    k0_pay1 (k0_pay8 (iblk m c 16 t)) (k0_pay9 (iblk m c 16 t))
      (k0_pay10 (k0_pay5 (iblk m c 0 t) (X0_8 m c t) (iblk m c 1 t) (X0_9 m c t) (iblk m c 2 t) (X0_10 m c t)
          (iblk m c 3 t) (iblk m c 11 t)) (k0_pay6 (iblk m c 4 t) (iblk m c 12 t)) (iblk m c 5 t) (iblk m c 13 t)
        (iblk m c 6 t) (iblk m c 14 t) (iblk m c 7 t) (iblk m c 15 t) (iblk m c 17 t))
      (k0_pay11 (k0_pay5 (iblk m c 0 t) (X0_8 m c t) (iblk m c 1 t) (X0_9 m c t) (iblk m c 2 t) (X0_10 m c t)
          (iblk m c 3 t) (iblk m c 11 t)) (k0_pay6 (iblk m c 4 t) (iblk m c 12 t)) (iblk m c 5 t) (iblk m c 13 t)
        (iblk m c 6 t) (iblk m c 14 t) (iblk m c 7 t) (iblk m c 15 t) (iblk m c 16 t) (iblk m c 17 t))
      (iblk m c 18 t) y
    = DX (dnOf m c) (m ((c : Thread nD τ).loc main_arg6)) (m ((c : Thread nD τ).loc main_arg7))
        (m ((c : Thread nD τ).loc main_arg8)) (((cfg0.win 19).blk t).view.emb y) := by
  simp only [k0_pay11, k0_pay10, prod_def]
  idx_vars y
  pointwise [k0_pay1, k0_pay8, k0_pay9, DX, Step.scale, Step.meanSq]
  simp only [prod_at, row]
  blk_point [iblk, V, idx t]

/-- After the run the first result is the residual's cotangent plus the norm's gradient. -/
theorem final19 (c : Dev nD) : (dats m 0 c).arrAt 19 (cfgs 0).N
    = DX (dnOf m c) (m ((c : Thread nD τ).loc main_arg6)) (m ((c : Thread nD τ).loc main_arg7))
        (m ((c : Thread nD τ).loc main_arg8)) := by
  refine (dats m 0 c).arrAt_eq_of_covers 19 _ (by decide +kernel) fun t _ y => ?_
  blk_simp
  rw [after0_19]
  by_cases h : t.val % 16 = 0
  · rw [outsAt0_A m c t h]
    dsimp only
    frame_out
    exact point m c t y
  · rw [outsAt0_B m c t h]
    dsimp only
    frame_out
    exact point m c t y

theorem pay2_eq (v60 : FVec Ideal S512x1 .f32) (v62 v64 : FVec Ideal S512x1024 .f32) (v67 : FVec Ideal S512x1 .f32)
    (v76 : FVec Ideal S512x1024 .f32) : k0_pay2 (F := Ideal) v60 v62 v64 v67 v76 = k0_pay1 v60 v62 v64 v67 v76 := rfl

/-- The second result is the first, rounded to bf16; over the extended reals the same array. -/
theorem final20 (c : Dev nD) : (dats m 0 c).arrAt 20 (cfgs 0).N
    = DX (dnOf m c) (m ((c : Thread nD τ).loc main_arg6)) (m ((c : Thread nD τ).loc main_arg7))
        (m ((c : Thread nD τ).loc main_arg8)) := by
  refine (dats m 0 c).arrAt_eq_of_covers 20 _ (by decide +kernel) fun t _ y => ?_
  blk_simp
  rw [after0_20]
  by_cases h : t.val % 16 = 0
  · rw [outsAt0_A m c t h]
    dsimp only
    frame_out
    rw [pay2_eq]
    exact point m c t y
  · rw [outsAt0_B m c t h]
    dsimp only
    frame_out
    rw [pay2_eq]
    exact point m c t y

theorem hzero (j : S1x1024.Idx) : k0_pay4 (F := Ideal) j = 0 := by pointwise [k0_pay4]

/-- The gain's row gets, at each tile, the sum over the tile's rows of the cotangent times the normalised row. -/
theorem hpay (v13 v26 : FVec Ideal S512x1024 .f32) (v45 : FVec Ideal S1x1024 .f32) (j : S1x1024.Idx) :
    k0_pay3 (F := Ideal) v13 v26 v45 j = v45 j + ∑ x : Fin 512, v13 (ix2 x (j 1)) * v26 (ix2 x (j 1)) := by
  pointwise [k0_pay3]

theorem final21 (c : Dev nD) : (dats m 0 c).arrAt 21 (cfgs 0).N
    = DG (dnOf m c) (m ((c : Thread nD τ).loc main_arg7)) := by
  refine (dats m 0 c).arrAt_eq_of_after_last 21 t0_15 (by decide +kernel) _ fun j => ?_
  blk_simp
  rw [after0_21, Pipeline.eq_sum_fin_of_reset_step_apply_last (fun n h => (outsAt0 m c n h).2.2) 16 (fun _ => 0) _
    (fun t h j => by rw [outsAt0_A m c t h]; dsimp only; frame_out; rw [hpay, hzero])
    (fun t h j => by rw [outsAt0_B m c t h]; dsimp only; frame_out; rw [hpay])
    (le_of_eq N_0) t0_15 rfl j, zero_add]
  unfold DG
  refine Fin.sum_mul_add_congr fun t k hl => ?_
  idx_vars j
  rw [prod_def, prod_at]
  pointwise [row, k0_pay8, k0_pay9, Step.scale, Step.meanSq]
  blk_point [iblk, V, idx t]
  exact Fin.ext (by dsimp only; omega)

end Cert.InProjIdeal.Block

end

end
-- ==== Proof.InProj.Ref.lean ====
module

public import proofs.«01_k».proof.Proof.Gen.InProjRefIdeal.Read
public import proofs.«01_k».proof.Proof.Gen.Pre_in_proj_finite
public import proofs.«01_k».proof.Proof.InProj.Form

@[expose] public section

set_option maxRecDepth 16384

noncomputable section

open Idealize.ShloMosaic Idealize.ShloMosaic.TcCoe Idealize.SL.Sem

/-!
# What the reference of the input projection's backward call computes
-/

namespace Cert.InProjRefIdeal.RefValue
open Cert.InProjRefIdeal Cert.InProjRefIdeal.Gen Cert.InProjRefIdeal.Read
open Cert.InProjIdeal.Block (dn part side DX DG)

/-- A sum over `a + b` terms, in two parts. -/
theorem split (a b : ℕ) {n : ℕ} (h : n = a + b) (f : Fin n → EReal) :
    ∑ k, f k = ∑ k : Fin a, f ⟨(k : ℕ), by omega⟩ + ∑ k : Fin b, f ⟨a + (k : ℕ), by omega⟩ := by
  subst h
  exact Fin.sum_univ_add f

/-- The reference's one product over all the columns is the sum of the kernel's eight. -/
theorem dn_eq (x0 x1 x2 : FVec Ideal S8192x1024 .f32) (x3 x4 : FVec Ideal S8192x256 .f32)
    (x5 : FVec Ideal S8192x2048 .f32) (x9 : FVec Ideal S1024x5632 .f32) (r : Fin 8192) (j : Fin 1024) :
    val_main_v24 (F := Ideal) x0 x1 x2 x3 x4 x5 x9 (ix2 r j) = dn x0 x1 x2 x3 x4 x5 x9 r j := by
  pointwise [val_main_v24, val_main_v23, dn, part, side]
  rw [split 5120 512 rfl, split 4608 512 rfl, split 4096 512 rfl, split 3584 512 rfl, split 3328 256 rfl,
    split 3072 256 rfl, split 2048 1024 rfl, split 1024 1024 rfl]
  dsimp only
  rw [add_assoc (∑ k : Fin 1024, _ + _ + _)]
  refine congrArg₂ (· + ·) (congrArg₂ (· + ·) (congrArg₂ (· + ·) (congrArg₂ (· + ·) (congrArg₂ (· + ·) (congrArg₂ (· + ·)
    (congrArg₂ (· + ·) ?_ ?_) ?_) (congrArg₂ (· + ·) ?_ ?_)) ?_) ?_) ?_) ?_
  all_goals
    refine Finset.sum_congr rfl fun x _ => ?_
    have hx := x.isLt
    split_ifs <;> first
      | omega
      | exact congrArg₂ (· * ·) (congrArg _ (congrArg (ix2 _) (Fin.ext (by dsimp only <;> omega))))
          (congrArg _ (congrArg (ix2 _) (Fin.ext (by dsimp only <;> omega))))

/-- The arrays that the precondition names hold real numbers. -/
structure Reals (x0 x1 x2 : FVec Ideal S8192x1024 .f32) (x3 x4 : FVec Ideal S8192x256 .f32)
    (x5 : FVec Ideal S8192x2048 .f32) (x7 : FVec Ideal S8192x1024 .f32) (x8 : FVec Ideal S1024 .f32)
    (x9 : FVec Ideal S1024x5632 .f32) : Prop where
  h0 : ∀ i, Step.IsReal (x0 i)
  h1 : ∀ i, Step.IsReal (x1 i)
  h2 : ∀ i, Step.IsReal (x2 i)
  h3 : ∀ i, Step.IsReal (x3 i)
  h4 : ∀ i, Step.IsReal (x4 i)
  h5 : ∀ i, Step.IsReal (x5 i)
  h7 : ∀ i, Step.IsReal (x7 i)
  h8 : ∀ i, Step.IsReal (x8 i)
  h9 : ∀ i, Step.IsReal (x9 i)

instance : Subsingleton (Cert.Pre_in_proj_finite.S_).Idx := ⟨fun a b => funext fun i => i.elim0⟩

theorem reals (x0 x1 x2 : FVec Ideal S8192x1024 .f32) (x3 x4 : FVec Ideal S8192x256 .f32)
    (x5 : FVec Ideal S8192x2048 .f32) (x6 x7 : FVec Ideal S8192x1024 .f32) (x8 : FVec Ideal S1024 .f32)
    (x9 : FVec Ideal S1024x5632 .f32)
    (h : Cert.Pre_in_proj_finite.fn (F := Ideal) x0 x1 x2 x3 x4 x5 x6 x7 x8 x9 = fun _ => 1#1) :
    Reals x0 x1 x2 x3 x4 x5 x7 x8 x9 := by
  have e := congrFun h (fun i => i.elim0)
  unfold Cert.Pre_in_proj_finite.fn Cert.Pre_in_proj_finite.fn_part1 Cert.Pre_in_proj_finite.fn_part2 at e
  obtain ⟨e, e9⟩ := Step.andi_one e
  obtain ⟨e, e8⟩ := Step.andi_one e
  obtain ⟨e, e7⟩ := Step.andi_one e
  obtain ⟨e, e5⟩ := Step.andi_one e
  obtain ⟨e, e4⟩ := Step.andi_one e
  obtain ⟨e, e3⟩ := Step.andi_one e
  obtain ⟨e, e2⟩ := Step.andi_one e
  obtain ⟨e0, e1⟩ := Step.andi_one e
  exact ⟨Step.isReal_of_all _ _ _ _ _ _ _ e0, Step.isReal_of_all _ _ _ _ _ _ _ e1, Step.isReal_of_all _ _ _ _ _ _ _ e2,
    Step.isReal_of_all _ _ _ _ _ _ _ e3, Step.isReal_of_all _ _ _ _ _ _ _ e4, Step.isReal_of_all _ _ _ _ _ _ _ e5,
    Step.isReal_of_all _ _ _ _ _ _ _ e7, Step.isReal_of_all _ _ _ _ _ _ _ e8, Step.isReal_of_all _ _ _ _ _ _ _ e9⟩

variable (x0 x1 x2 : FVec Ideal S8192x1024 .f32) (x3 x4 : FVec Ideal S8192x256 .f32)
    (x5 : FVec Ideal S8192x2048 .f32) (x6 x7 : FVec Ideal S8192x1024 .f32) (x8 : FVec Ideal S1024 .f32)
    (x9 : FVec Ideal S1024x5632 .f32)

theorem side_real (h3 : ∀ i, Step.IsReal (x3 i)) (h4 : ∀ i, Step.IsReal (x4 i)) (r : Fin 8192) (k : Fin 512) :
    Step.IsReal (side x3 x4 (ix2 r k)) := by
  pointwise [side]
  split_ifs <;> first | exact h3 _ | exact h4 _

theorem dn_real (h : Reals x0 x1 x2 x3 x4 x5 x7 x8 x9) (r : Fin 8192) (j : Fin 1024) :
    Step.IsReal (dn x0 x1 x2 x3 x4 x5 x9 r j) := by
  unfold dn part
  exact (((((((Step.IsReal.sum fun _ => (h.h0 _).mul (h.h9 _)).add (Step.IsReal.sum fun _ => (h.h1 _).mul (h.h9 _))).add
    (Step.IsReal.sum fun _ => (h.h2 _).mul (h.h9 _))).add
    (Step.IsReal.sum fun _ => (side_real x3 x4 h.h3 h.h4 _ _).mul (h.h9 _))).add
    (Step.IsReal.sum fun _ => (h.h5 _).mul (h.h9 _))).add (Step.IsReal.sum fun _ => (h.h5 _).mul (h.h9 _))).add
    (Step.IsReal.sum fun _ => (h.h5 _).mul (h.h9 _))).add (Step.IsReal.sum fun _ => (h.h5 _).mul (h.h9 _))

/-- The derivative of the residual stream is what the kernel leaves there. -/
theorem dx_eq (h : Reals x0 x1 x2 x3 x4 x5 x7 x8 x9) :
    val_main_v45 (F := Ideal) x0 x1 x2 x3 x4 x5 x6 x7 x8 x9 = DX (dn x0 x1 x2 x3 x4 x5 x9) x6 x7 x8 := by
  funext i
  idx_vars i
  refine Eq.trans ?_ (Step.norm_grad (fun k => x7 (ix2 i0 k)) (fun k => dn x0 x1 x2 x3 x4 x5 x9 i0 k * x8 (ix1 k))
    (fun k => h.h7 _) (fun k => (dn_real x0 x1 x2 x3 x4 x5 x7 x8 x9 h _ _).mul (h.h8 _)) (x6 (ix2 i0 i1)) i1).symm
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v25, val_main_cst_3, val_main_v26, val_main_v27, val_main_v28, val_main_v29, val_main_cst_4, val_main_v30, val_main_v31, val_main_cst_5, val_main_v32, val_main_v33, val_main_v34, val_main_v35, val_main_v36, val_main_v37, val_main_cst_6, val_main_v38, val_main_v39, val_main_cst_7, val_main_v40, val_main_v41, val_main_v42, val_main_v43, val_main_v44, val_main_v45, val_main_v46, val_main_v47]
  simp only [dn_eq, Finset.univ_unique, Finset.sum_const, Finset.card_singleton, one_smul]
  rfl

/-- The derivative of the gain is what the kernel leaves there. -/
theorem dg_eq : val_main_v47 (F := Ideal) x0 x1 x2 x3 x4 x5 x7 x9 = DG (dn x0 x1 x2 x3 x4 x5 x9) x7 := by
  funext i
  idx_vars i
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_v20, val_main_v21, val_main_v22, val_main_v25, val_main_cst_3, val_main_v26, val_main_v27, val_main_v28, val_main_v29, val_main_cst_4, val_main_v30, val_main_v31, val_main_cst_5, val_main_v32, val_main_v33, val_main_v34, val_main_v35, val_main_v36, val_main_v37, val_main_cst_6, val_main_v38, val_main_v39, val_main_cst_7, val_main_v40, val_main_v41, val_main_v42, val_main_v43, val_main_v44, val_main_v45, val_main_v46, val_main_v47]
  simp only [dn_eq, Finset.univ_unique, Finset.sum_const, Finset.card_singleton, one_smul]
  exact Finset.sum_congr rfl fun r _ => mul_comm _ _

end Cert.InProjRefIdeal.RefValue

end

end
-- ==== Proof.InProj.Claim.lean ====
module

public import proofs.«01_k».proof.Defs
public import proofs.«01_k».proof.Proof.Gen.InProjIdeal.Value
public import proofs.«01_k».proof.Proof.Gen.InProjRefIdeal.Run
public import proofs.«01_k».proof.Proof.InProj.Block
public import proofs.«01_k».proof.Proof.InProj.Ref

@[expose] public section

set_option maxRecDepth 16384

noncomputable section

open Idealize.ShloMosaic Idealize.ShloMosaic.TcCoe Idealize.SL.Sem

/-!
# The input projection's backward call computes the derivative
-/

namespace Cert.InProj.Claims
open Cert.InProjIdeal.Block Cert.InProjRefIdeal.RefValue Cert.InProjRefIdeal.Read

theorem algebraic : Cert.algebraic_InProjIdeal_InProjRefIdeal_pre_in_proj_finite
    (hInProjIdeal := Cert.InProjIdeal.Gen.facts) (hInProjRefIdeal := Cert.InProjRefIdeal.Gen.facts)
    (hPre_in_proj_finite := Cert.Pre_in_proj_finite.Gen.facts) := by
  intro m g m' g' hpre hag
  refine ⟨fun c => (Cert.InProjIdeal.Gen.dats m 0 c).arrAt 19 (Cert.InProjIdeal.cfgs 0).N,
    fun c => (Cert.InProjIdeal.Gen.dats m 0 c).arrAt 20 (Cert.InProjIdeal.cfgs 0).N,
    fun c => (Cert.InProjIdeal.Gen.dats m 0 c).arrAt 21 (Cert.InProjIdeal.cfgs 0).N,
    Cert.InProjIdeal.Value.run_blocks m g,
    (θ_run _ _ _).mono (fun r h c => ?_) (Cert.InProjRefIdeal.Value.run m' g')⟩
  obtain ⟨h0, h1, h2, hk⟩ := h c
  obtain ⟨a0, a1, a2, a3, a4, a5, a6, a7, a8, a9⟩ := hag c
  have R := reals _ _ _ _ _ _ _ _ _ _ (hpre c)
  refine ⟨h0.trans ?_, h1.trans ?_, h2.trans ?_, hk⟩
  · refine (val_main_v45_eq m' c).trans (Eq.trans ?_ (final19 m c).symm)
    rw [a0, a1, a2, a3, a4, a5, a6, a7, a8, a9]
    exact dx_eq _ _ _ _ _ _ _ _ _ _ R
  · refine (val_main_v46_eq m' c).trans (Eq.trans ?_ (final20 m c).symm)
    rw [a0, a1, a2, a3, a4, a5, a6, a7, a8, a9]
    exact dx_eq _ _ _ _ _ _ _ _ _ _ R
  · refine (val_main_v47_eq _ _ _ _ _ _ _ _).trans (Eq.trans ?_ (final21 m c).symm)
    rw [a0, a1, a2, a3, a4, a5, a7, a9]
    exact dg_eq _ _ _ _ _ _ _ _

end Cert.InProj.Claims

end

end
-- ==== Proof.AttnFwd.Form.lean ====
module

public import proofs.«01_k».proof.AttnFwdIdeal
public import Idealize.ShloMosaic.Lib.Pointwise

@[expose] public section

set_option maxRecDepth 16384

noncomputable section

open Idealize.ShloMosaic Idealize.ShloMosaic.TcCoe Idealize.SL.Sem

/-!
# What the attention's forward call computes, in closed form

Block `n` of 128 queries meets a window of 384 keys, the block before it, itself and the block after it. A score is
masked where the key is further than 128 from the query or outside the sequence.
-/

namespace Cert.AttnFwdIdeal.Block
open Cert.AttnFwdIdeal

/-- The word of the distance between query `q` of a block and key `k` of its window. -/
def adist (q : Fin 128) (k : Fin 384) : BitVec 32 := IntOp.absi (BitVec.ofNat 32 (q : ℕ) + 128#32 - BitVec.ofNat 32 (k : ℕ))

/-- The query sees the key. -/
def near (q : Fin 128) (k : Fin 384) : Bool := (adist q k).sle 128#32

/-- The key lies in the sequence. -/
def inside (n : Fin 64) (k : Fin 384) : Bool := decide (128 ≤ 128 * (n : ℕ) + (k : ℕ) ∧ 128 * (n : ℕ) + (k : ℕ) < 8320)

def dist (q : Fin 128) (k : Fin 384) : EReal := (((adist q k).toInt : ℝ) : EReal)

/-- A head's slope, negated. -/
def nslope : Fin 16 → EReal := ![
  Ideal.ofBits .f32 0xBF3504F3#32, Ideal.ofBits .f32 0xBF000000#32, Ideal.ofBits .f32 0xBEB504F3#32, Ideal.ofBits .f32 0xBE800000#32,
  Ideal.ofBits .f32 0xBE3504F3#32, Ideal.ofBits .f32 0xBE000000#32, Ideal.ofBits .f32 0xBDB504F3#32, Ideal.ofBits .f32 0xBD800000#32,
  Ideal.ofBits .f32 0xBD3504F3#32, Ideal.ofBits .f32 0xBD000000#32, Ideal.ofBits .f32 0xBCB504F3#32, Ideal.ofBits .f32 0xBC800000#32,
  Ideal.ofBits .f32 0xBC3504F3#32, Ideal.ofBits .f32 0xBC000000#32, Ideal.ofBits .f32 0xBBB504F3#32, Ideal.ofBits .f32 0xBB800000#32]

/-- The additive bias of a score. -/
def bias (n : Fin 64) (h : Fin 16) (q : Fin 128) (k : Fin 384) : EReal :=
  if near q k = true ∧ inside n k = true then nslope h * dist q k else ⊥

/-- The row of the array that holds key `k` of block `n`'s window, where the key lies in the sequence. -/
def krow (n : Fin 64) (k : Fin 384) : Fin 8192 := ⟨(128 * (n : ℕ) + (k : ℕ) - 128) % 8192, Nat.mod_lt _ (by decide)⟩
def qrow (n : Fin 64) (q : Fin 128) : Fin 8192 := ⟨128 * (n : ℕ) + (q : ℕ), by omega⟩

def eighth : EReal := Ideal.ofBits .f32 0x3E000000#32

section
variable (P : FVec Ideal S8192x5632 .f32) (sk : FVec Ideal S16 .f32)

def qc (r : Fin 8192) (h : Fin 16) (d : Fin 64) : EReal := P (ix2 r (⟨2048 + 64 * (h : ℕ) + (d : ℕ), by omega⟩ : Fin 5632))
def kc (r : Fin 8192) (h : Fin 16) (d : Fin 64) : EReal := P (ix2 r (⟨3072 + 64 * ((h : ℕ) / 4) + (d : ℕ), by omega⟩ : Fin 5632))
def vc (r : Fin 8192) (h : Fin 16) (d : Fin 64) : EReal := P (ix2 r (⟨3328 + 64 * ((h : ℕ) / 4) + (d : ℕ), by omega⟩ : Fin 5632))

/-- The score of query `q` of block `n` with key `k` of its window. -/
def sc (n : Fin 64) (h : Fin 16) (q : Fin 128) (k : Fin 384) : EReal :=
  (∑ d : Fin 64, kc P (krow n k) h d * (qc P (qrow n q) h d * eighth)) + bias n h q k

def mx (n : Fin 64) (h : Fin 16) (q : Fin 128) : EReal := max ((Finset.univ : Finset (Fin 384)).fold max ⊥ (fun k => sc P n h q k)) (sk (ix1 h))
def pr (n : Fin 64) (h : Fin 16) (q : Fin 128) (k : Fin 384) : EReal := Ideal.exp (sc P n h q k - mx P sk n h q)
def den (n : Fin 64) (h : Fin 16) (q : Fin 128) : EReal := (∑ k : Fin 384, pr P sk n h q k) + Ideal.exp (sk (ix1 h) - mx P sk n h q)
def inv (n : Fin 64) (h : Fin 16) (q : Fin 128) : EReal := Ideal.div 1 (den P sk n h q)
def ov (n : Fin 64) (h : Fin 16) (q : Fin 128) (d : Fin 64) : EReal :=
  (∑ k : Fin 384, vc P (krow n k) h d * pr P sk n h q k) * inv P sk n h q

/-- The attention's rows. -/
def oAt (r : Fin 8192) (j : Fin 1024) : EReal :=
  ov P sk ⟨(r : ℕ) / 128, by omega⟩ ⟨(j : ℕ) / 64, by omega⟩ ⟨(r : ℕ) % 128, Nat.mod_lt _ (by decide)⟩ ⟨(j : ℕ) % 64, Nat.mod_lt _ (by decide)⟩

/-- A block's row maxima, then the inverses of its denominators. -/
def stAt (n : Fin 64) (e : Fin 8) (x : Fin 512) : EReal :=
  if hlt : (e : ℕ) < 4 then
    mx P sk n ⟨4 * (e : ℕ) + (x : ℕ) / 128, by omega⟩ ⟨(x : ℕ) % 128, Nat.mod_lt _ (by decide)⟩
  else
    inv P sk n ⟨4 * ((e : ℕ) - 4) + (x : ℕ) / 128, by omega⟩ ⟨(x : ℕ) % 128, Nat.mod_lt _ (by decide)⟩

def oOut : FVec Ideal S8192x1024 .bf16 := fun i => oAt P sk (i 0) (i 1)
def stOut : FVec Ideal S64x8x512 .f32 := fun i => stAt P sk (i 0) (i 1) (i 2)
end

end Cert.AttnFwdIdeal.Block

end

end
-- ==== Proof.AttnFwd.Tile.lean ====
module

public import proofs.«01_k».proof.Proof.Gen.AttnFwdIdeal.Skeleton
public import proofs.«01_k».proof.Proof.AttnFwd.Form
public import Idealize.ShloMosaic.Lib.Pipeline.ValueKit

@[expose] public section

set_option maxRecDepth 16384

noncomputable section

open Idealize.ShloMosaic Idealize.ShloMosaic.TcCoe Idealize.SL.Sem

/-!
# One key head's tile of the attention's forward call

A tile holds four query heads of a block, 128 columns each, against the window's 384 keys.
-/

namespace Cert.AttnFwdIdeal.Block
open Cert.AttnFwdIdeal Cert.AttnFwdIdeal.Gen

/-! The operations. -/

def win (r0 r1 r2 : FVec Ideal S128x256 .bf16) : FVec Ideal S384x256 .bf16 :=
  concatenate S384x256 0 [⟨S128x256, shapeCast S128x256 r0 shapeCasts_S128x256_S128x256⟩,
    ⟨S128x256, shapeCast S128x256 r1 shapeCasts_S128x256_S128x256⟩,
    ⟨S128x256, shapeCast S128x256 r2 shapeCasts_S128x256_S128x256⟩] concatenates_S128x256_S128x256_S128x256_S384x256_d0

def lft : IVec S384x128 1 := cmpi .slt (iota .tc S384x128 32 [1] iota_S384x128_d1_w32) (broadcast S384x128 64#32)

def evn (t : FVec Ideal S384x128 .bf16) : FVec Ideal S384x128 .bf16 := select lft t (dynamicRotate 1 64#32 none t rotates_S384x128_d1)
def odd (t : FVec Ideal S384x128 .bf16) : FVec Ideal S384x128 .bf16 := select lft (dynamicRotate 1 64#32 none t rotates_S384x128_d1) t

def half0 (w : FVec Ideal S384x256 .bf16) : FVec Ideal S384x128 .bf16 := extractStridedSlice S384x128 ![0, 0] w slices_S384x256_o0_0_S384x128
def half1 (w : FVec Ideal S384x256 .bf16) : FVec Ideal S384x128 .bf16 := extractStridedSlice S384x128 ![0, 128] w slices_S384x256_o0_128_S384x128

def dupl : Fin 4 → FVec Ideal S384x256 .bf16 → FVec Ideal S384x128 .bf16
  | 0, w => evn (half0 w)
  | 1, w => odd (half0 w)
  | 2, w => evn (half1 w)
  | 3, w => odd (half1 w)

def lft' : IVec S128x128 1 := cmpi .slt (iota .tc S128x128 32 [1] iota_S128x128_d1_w32) (broadcast S128x128 64#32)
def scl (q : FVec Ideal S128x128 .bf16) : FVec Ideal S128x128 .bf16 :=
  mulf (shapeCast S128x128 q shapeCasts_S128x128_S128x128) (broadcast S128x128 (Scalar.ofBits .bf16 0x3E00#16))
def zer : FVec Ideal S128x128 .bf16 := broadcast S128x128 (Scalar.ofBits .bf16 0x0000#16)

def qs (q0 q1 : FVec Ideal S128x128 .bf16) : FVec Ideal S512x128 .bf16 :=
  concatenate S512x128 0 [⟨S128x128, select lft' (scl q0) zer⟩, ⟨S128x128, select lft' zer (scl q0)⟩, ⟨S128x128, select lft' (scl q1) zer⟩,
    ⟨S128x128, select lft' zer (scl q1)⟩] concatenates_S128x128_S128x128_S128x128_S128x128_S512x128_d0

def scs (kk : FVec Ideal S384x128 .bf16) (q0 q1 : FVec Ideal S128x128 .bf16) (b : FVec Ideal S1x1x384x512 .f32) : FVec Ideal S384x512 .f32 :=
  addf (matmul dot_S384x128_S512x128_S384x512_1_1_0_0_n_n none kk (qs q0 q1) (constant S384x512 .f32 0x00000000#32))
    (shapeCast S384x512 b shapeCasts_S1x1x384x512_S384x512)

def snk (x0 x1 x2 x3 : EReal) : FVec Ideal S1x512 .f32 :=
  concatenate S1x512 1 [⟨S1x128, (broadcast S1x128 (x0 : Ideal .f32) : FVec Ideal S1x128 .f32)⟩, ⟨S1x128, (broadcast S1x128 (x1 : Ideal .f32) : FVec Ideal S1x128 .f32)⟩,
    ⟨S1x128, (broadcast S1x128 (x2 : Ideal .f32) : FVec Ideal S1x128 .f32)⟩, ⟨S1x128, (broadcast S1x128 (x3 : Ideal .f32) : FVec Ideal S1x128 .f32)⟩]
    concatenates_S1x128_S1x128_S1x128_S1x128_S1x512_d1

def mxs (s : FVec Ideal S384x512 .f32) (sr : FVec Ideal S1x512 .f32) : FVec Ideal S1x512 .f32 :=
  maximumf (shapeCast S1x512 (multiReduction .maximumf [0] S512 s 0xFF800000#32 reduces_S384x512_S512 (.inl rfl) rfl) shapeCasts_S512_S1x512) sr

def prs (s : FVec Ideal S384x512 .f32) (sr : FVec Ideal S1x512 .f32) : FVec Ideal S384x512 .f32 :=
  exp (subf s (broadcastTo S384x512 (mxs s sr) broadcasts_S1x512_S384x512))

def ivs (s : FVec Ideal S384x512 .f32) (sr : FVec Ideal S1x512 .f32) : FVec Ideal S1x512 .f32 :=
  divf (broadcast S1x512 (Scalar.ofBits .f32 0x3F800000#32))
    (addf (shapeCast S1x512 (multiReduction .add [0] S512 (prs s sr) 0x00000000#32 reduces_S384x512_S512 (.inl rfl) rfl) shapeCasts_S512_S1x512)
      (exp (subf sr (mxs s sr))))

def ots (vv : FVec Ideal S384x128 .bf16) (s : FVec Ideal S384x512 .f32) (sr : FVec Ideal S1x512 .f32) : FVec Ideal S128x512 .f32 :=
  mulf (matmul dot_S384x128_S384x512_S128x512_0_0_1_1_n_n none vv (truncf .bf16 (prs s sr) bitsLt_bf16_f32) (constant S128x512 .f32 0x00000000#32))
    (broadcastTo S128x512 (ivs s sr) broadcasts_S1x512_S128x512)

def tl0 (o : FVec Ideal S128x512 .f32) : FVec Ideal S128x128 .f32 :=
  transpose S128x128 [1, 0] (concatenate S128x128 0 [⟨S64x128, extractStridedSlice S64x128 ![0, 0] o slices_S128x512_o0_0_S64x128⟩,
    ⟨S64x128, extractStridedSlice S64x128 ![64, 128] o slices_S128x512_o64_128_S64x128⟩] concatenates_S64x128_S64x128_S128x128_d0)
    transposes_S128x128_p1_0_S128x128
def tl1 (o : FVec Ideal S128x512 .f32) : FVec Ideal S128x128 .f32 :=
  transpose S128x128 [1, 0] (concatenate S128x128 0 [⟨S64x128, extractStridedSlice S64x128 ![0, 256] o slices_S128x512_o0_256_S64x128⟩,
    ⟨S64x128, extractStridedSlice S64x128 ![64, 384] o slices_S128x512_o64_384_S64x128⟩] concatenates_S64x128_S64x128_S128x128_d0)
    transposes_S128x128_p1_0_S128x128

def orow (o0 o1 o2 o3 : FVec Ideal S128x512 .f32) : FVec Ideal S128x1024 .bf16 :=
  truncf .bf16 (concatenate S128x1024 1 [⟨S128x128, tl0 o0⟩, ⟨S128x128, tl1 o0⟩, ⟨S128x128, tl0 o1⟩, ⟨S128x128, tl1 o1⟩, ⟨S128x128, tl0 o2⟩,
    ⟨S128x128, tl1 o2⟩, ⟨S128x128, tl0 o3⟩, ⟨S128x128, tl1 o3⟩]
    concatenates_S128x128_S128x128_S128x128_S128x128_S128x128_S128x128_S128x128_S128x128_S128x1024_d1) bitsLt_bf16_f32

/-! The operations at a point. -/

theorem ix2_congr {a b : ℕ} {i i' : Fin a} {j j' : Fin b} (hi : (i : ℕ) = i') (hj : (j : ℕ) = j') : ix2 i j = ix2 i' j' := by
  rw [Fin.ext hi, Fin.ext hj]

theorem sel_lt {α : Type} (d : Fin 128) (a b : α) :
    Scalar.select (IntOp.cmpi CmpIPredicate.slt (BitVec.ofNat 32 (d : ℕ)) 64#32) a b = if (d : ℕ) < 64 then a else b := by
  have h : ∀ d : Fin 128, IntOp.cmpi CmpIPredicate.slt (BitVec.ofNat 32 (d : ℕ)) 64#32 = if (d : ℕ) < 64 then 1#1 else 0#1 := by decide +kernel
  rw [h d]
  by_cases hd : (d : ℕ) < 64
  · rw [if_pos hd, if_pos hd]; rfl
  · rw [if_neg hd, if_neg hd]; rfl

theorem eighth16 : Ideal.ofBits .bf16 15872#16 = eighth := by
  have h16 : Ideal.ofBits .bf16 15872#16 = ((1 / 8 : ℝ) : EReal) := by
    simp [Ideal.ofBits, Ideal.ieee, -EReal.coe_mul]; norm_num
  have h32 : eighth = ((1 / 8 : ℝ) : EReal) := by
    simp [eighth, Ideal.ofBits, Ideal.ieee, -EReal.coe_mul]; norm_num
  rw [h16, h32]

theorem ninf32 : Ideal.ofBits .f32 4286578688#32 = ⊥ := by
  simp [Ideal.ofBits, Ideal.ieee]

theorem win_at (r0 r1 r2 : FVec Ideal S128x256 .bf16) (k : Fin 384) (j : Fin 256) :
    win r0 r1 r2 (ix2 k j) = if h0 : (k : ℕ) < 128 then r0 (ix2 (⟨k, h0⟩ : Fin 128) j)
      else if h1 : (k : ℕ) < 256 then r1 (ix2 (⟨(k : ℕ) - 128, by omega⟩ : Fin 128) j) else r2 (ix2 (⟨(k : ℕ) - 256, by omega⟩ : Fin 128) j) := by
  pointwise [win]
  split_ifs
  all_goals first
    | rfl
    | (exfalso; omega)
    | exact congrArg _ (ix2_congr (by dsimp only; omega) rfl)
    | (refine Eq.trans ?_ (dif_pos (by omega)).symm; exact congrArg _ (ix2_congr (by dsimp only; omega) rfl))
    | (refine Eq.trans ?_ (dif_neg (by omega)).symm; exact congrArg _ (ix2_congr (by dsimp only; omega) rfl))
    | (refine Eq.trans ?_ (dif_pos (by omega)).symm; rfl)

theorem evn_at (t : FVec Ideal S384x128 .bf16) (k : Fin 384) (d : Fin 128) :
    evn t (ix2 k d) = t (ix2 k (⟨(d : ℕ) % 64, by omega⟩ : Fin 128)) := by
  pointwise [evn, lft]
  rw [sel_lt]
  split_ifs
  all_goals exact congrArg _ (ix2_congr rfl (by first | rfl | (dsimp only; omega)))

theorem odd_at (t : FVec Ideal S384x128 .bf16) (k : Fin 384) (d : Fin 128) :
    odd t (ix2 k d) = t (ix2 k (⟨64 + (d : ℕ) % 64, by omega⟩ : Fin 128)) := by
  pointwise [odd, lft]
  rw [sel_lt]
  split_ifs
  all_goals exact congrArg _ (ix2_congr rfl (by first | rfl | (dsimp only; omega)))

theorem dupl_at (i : Fin 4) (w : FVec Ideal S384x256 .bf16) (k : Fin 384) (d : Fin 128) :
    dupl i w (ix2 k d) = w (ix2 k (⟨64 * (i : ℕ) + (d : ℕ) % 64, by omega⟩ : Fin 256)) := by
  match i with
  | 0 => pointwise [dupl, evn_at, half0]
  | 1 => pointwise [dupl, odd_at, half0]
  | 2 => pointwise [dupl, evn_at, half1]
  | 3 =>
    pointwise [dupl, odd_at, half1]
    exact congrArg _ (ix2_congr rfl (by first | rfl | (dsimp only; omega)))

theorem qs_at (q0 q1 : FVec Ideal S128x128 .bf16) (x : Fin 512) (d : Fin 128) :
    qs q0 q1 (ix2 x d) = if (d : ℕ) / 64 = (x : ℕ) / 128 % 2 then
      (if (x : ℕ) < 256 then q0 else q1) (ix2 (⟨(x : ℕ) % 128, Nat.mod_lt _ (by decide)⟩ : Fin 128) d) * eighth else 0 := by
  pointwise [qs, lft', scl, zer]
  simp only [sel_lt, eighth16]
  split_ifs
  all_goals first
    | rfl
    | (exfalso; omega)
    | exact congrArg (· * eighth) (congrArg _ (ix2_congr (by dsimp only; omega) rfl))
    | exact (if_neg (by omega)).symm
    | (refine Eq.trans ?_ (if_pos (by omega)).symm
       refine congrArg (· * eighth) ?_
       first
       | (refine Eq.trans ?_ (congrFun (if_pos (by omega) : (if (x : ℕ) < 256 then q0 else q1) = q0) _).symm; exact congrArg _ (ix2_congr (by dsimp only; omega) rfl))
       | (refine Eq.trans ?_ (congrFun (if_neg (by omega) : (if (x : ℕ) < 256 then q0 else q1) = q1) _).symm; exact congrArg _ (ix2_congr (by dsimp only; omega) rfl)))

theorem scs_at (kk : FVec Ideal S384x128 .bf16) (q0 q1 : FVec Ideal S128x128 .bf16) (b : FVec Ideal S1x1x384x512 .f32) (k : Fin 384) (x : Fin 512) :
    scs kk q0 q1 b (ix2 k x) = (∑ d : Fin 128, kk (ix2 k d) * qs q0 q1 (ix2 x d)) + b (ix4 (0 : Fin 1) (0 : Fin 1) k x) := by
  pointwise [scs]

theorem snk_at (g : Fin 4 → EReal) (x : Fin 512) :
    snk (g 0) (g 1) (g 2) (g 3) (ix2 (0 : Fin 1) x) = g (⟨(x : ℕ) / 128, by omega⟩ : Fin 4) := by
  pointwise [snk]
  split_ifs
  all_goals exact congrArg g (Fin.ext (by first | omega | (dsimp only; omega) | (simp; omega)))

theorem mxs_at (s : FVec Ideal S384x512 .f32) (sr : FVec Ideal S1x512 .f32) (x : Fin 512) :
    mxs s sr (ix2 (0 : Fin 1) x) = max ((Finset.univ : Finset (Fin 384)).fold max ⊥ (fun k => s (ix2 k x))) (sr (ix2 (0 : Fin 1) x)) := by
  pointwise [mxs]
  rw [ninf32]

theorem prs_at (s : FVec Ideal S384x512 .f32) (sr : FVec Ideal S1x512 .f32) (k : Fin 384) (x : Fin 512) :
    prs s sr (ix2 k x) = Ideal.exp (s (ix2 k x) - mxs s sr (ix2 (0 : Fin 1) x)) := by
  pointwise [prs]

theorem ivs_at (s : FVec Ideal S384x512 .f32) (sr : FVec Ideal S1x512 .f32) (x : Fin 512) :
    ivs s sr (ix2 (0 : Fin 1) x) = Ideal.div 1 ((∑ k : Fin 384, prs s sr (ix2 k x)) + Ideal.exp (sr (ix2 (0 : Fin 1) x) - mxs s sr (ix2 (0 : Fin 1) x))) := by
  pointwise [ivs]

theorem ots_at (vv : FVec Ideal S384x128 .bf16) (s : FVec Ideal S384x512 .f32) (sr : FVec Ideal S1x512 .f32) (e : Fin 128) (x : Fin 512) :
    ots vv s sr (ix2 e x) = (∑ k : Fin 384, vv (ix2 k e) * prs s sr (ix2 k x)) * ivs s sr (ix2 (0 : Fin 1) x) := by
  pointwise [ots]

theorem tl0_at (o : FVec Ideal S128x512 .f32) (q j : Fin 128) :
    tl0 o (ix2 q j) = o (ix2 j (⟨128 * ((j : ℕ) / 64) + (q : ℕ), by omega⟩ : Fin 512)) := by
  pointwise [tl0]
  split_ifs
  all_goals exact congrArg _ (ix2_congr (by first | rfl | (dsimp only; omega)) (by first | rfl | (dsimp only; omega)))

theorem tl1_at (o : FVec Ideal S128x512 .f32) (q j : Fin 128) :
    tl1 o (ix2 q j) = o (ix2 j (⟨256 + 128 * ((j : ℕ) / 64) + (q : ℕ), by omega⟩ : Fin 512)) := by
  pointwise [tl1]
  split_ifs
  all_goals exact congrArg _ (ix2_congr (by first | rfl | (dsimp only; omega)) (by first | rfl | (dsimp only; omega)))

theorem orow_at (o : Fin 4 → FVec Ideal S128x512 .f32) (q : Fin 128) (j : Fin 1024) :
    orow (o 0) (o 1) (o 2) (o 3) (ix2 q j) = o (⟨(j : ℕ) / 256, by omega⟩ : Fin 4)
      (ix2 (⟨(j : ℕ) % 128, by omega⟩ : Fin 128) (⟨128 * ((j : ℕ) / 64 % 4) + (q : ℕ), by omega⟩ : Fin 512)) := by
  pointwise [orow, tl0_at, tl1_at]
  split_ifs
  all_goals exact congr (congrArg o (Fin.ext (by first | omega | (dsimp only; omega) | (simp; omega)))) (ix2_congr (by first | rfl | (dsimp only; omega)) (by first | rfl | (dsimp only; omega)))

/-! The tile from what its parts hold. -/

section
variable (P : FVec Ideal S8192x5632 .f32) (sk : FVec Ideal S16 .f32) (n : Fin 64) (h : Fin 16) (q : Fin 128)

/-- A score beyond the window is the least value. -/
theorem sc_bot {k : Fin 384} (hk : inside n k = false) : sc P n h q k = ⊥ := by
  unfold sc bias
  rw [if_neg (by rw [hk]; simp), EReal.add_bot]

theorem pr_zero {k : Fin 384} (hk : inside n k = false) : pr P sk n h q k = 0 := by
  unfold pr
  rw [sc_bot P n h q hk, sub_eq_add_neg, EReal.bot_add, Ideal.exp_bot]

variable {i j : Fin 4} {x : Fin 512}
variable {kk vv : FVec Ideal S384x256 .bf16} {q0 q1 : FVec Ideal S128x128 .bf16} {b : FVec Ideal S1x1x384x512 .f32} {sr : FVec Ideal S1x512 .f32}

theorem tile_sc (hh : (h : ℕ) = 4 * (i : ℕ) + (x : ℕ) / 128) (hq : (q : ℕ) = (x : ℕ) % 128)
    (hk : ∀ k, inside n k = true → ∀ d : Fin 64, kk (ix2 k (⟨64 * (i : ℕ) + (d : ℕ), by omega⟩ : Fin 256)) = kc P (krow n k) h d)
    (h0 : ∀ d : Fin 64, (if (x : ℕ) < 256 then q0 else q1) (ix2 q (⟨64 * ((x : ℕ) / 128 % 2) + (d : ℕ), by omega⟩ : Fin 128)) = qc P (qrow n q) h d)
    (hb : ∀ k, b (ix4 (0 : Fin 1) (0 : Fin 1) k x) = bias n h q k) (k : Fin 384) :
    scs (dupl i kk) q0 q1 b (ix2 k x) = sc P n h q k := by
  by_cases hi : inside n k = true
  · rw [scs_at, hb]
    refine congrArg (· + bias n h q k) ?_
    have e : ∀ d : Fin 128, dupl i kk (ix2 k d) * qs q0 q1 (ix2 x d)
        = if (d : ℕ) / 64 = (x : ℕ) / 128 % 2 then
            kc P (krow n k) h ⟨(d : ℕ) % 64, by omega⟩ * (qc P (qrow n q) h ⟨(d : ℕ) % 64, by omega⟩ * eighth) else 0 := by
      intro d
      rw [dupl_at, qs_at]
      by_cases hd : (d : ℕ) / 64 = (x : ℕ) / 128 % 2
      · rw [if_pos hd, if_pos hd, ← hk k hi ⟨(d : ℕ) % 64, by omega⟩, ← h0 ⟨(d : ℕ) % 64, by omega⟩]
        refine congrArg _ (congrArg (· * eighth) (congrArg _ (ix2_congr (by first | rfl | (dsimp only; omega)) (by first | rfl | (dsimp only; omega)))))
      · rw [if_neg hd, if_neg hd, mul_zero]
    rw [Finset.sum_congr rfl fun d _ => e d]
    have cut : ∀ G : Fin 128 → EReal, ∑ d, G d = (∑ d : Fin 64, G (Fin.castAdd 64 d)) + ∑ d : Fin 64, G (Fin.natAdd 64 d) := fun G => Fin.sum_univ_add (a := 64) (b := 64) G
    have lo : ∀ d : Fin 64, ((Fin.castAdd 64 d : Fin 128) : ℕ) = d := fun d => rfl
    have hi' : ∀ d : Fin 64, ((Fin.natAdd 64 d : Fin 128) : ℕ) = 64 + (d : ℕ) := fun d => rfl
    refine (cut _).trans ?_
    by_cases hx : (x : ℕ) / 128 % 2 = 0
    · refine (congrArg₂ (· + ·) (Finset.sum_congr rfl fun d _ => ?_) (Finset.sum_eq_zero fun d _ => ?_)).trans (add_zero _)
      · rw [if_pos (by rw [lo, hx]; omega)]
        have ed : (⟨((Fin.castAdd 64 d : Fin 128) : ℕ) % 64, by omega⟩ : Fin 64) = d := Fin.ext (by dsimp only; rw [lo]; omega)
        rw [ed]
      · exact if_neg (by rw [hi', hx]; omega)
    · refine (congrArg₂ (· + ·) (Finset.sum_eq_zero fun d _ => ?_) (Finset.sum_congr rfl fun d _ => ?_)).trans (zero_add _)
      · exact if_neg (by rw [lo]; omega)
      · rw [if_pos (by rw [hi']; omega)]
        have ed : (⟨((Fin.natAdd 64 d : Fin 128) : ℕ) % 64, by omega⟩ : Fin 64) = d := Fin.ext (by dsimp only; rw [hi']; omega)
        rw [ed]
  · have hf : inside n k = false := by simpa using hi
    rw [sc_bot P n h q hf, scs_at, hb]
    unfold bias
    rw [if_neg (by rw [hf]; simp), EReal.add_bot]

variable {s : FVec Ideal S384x512 .f32}

theorem tile_mx (hs : ∀ k, s (ix2 k x) = sc P n h q k) (hr : sr (ix2 (0 : Fin 1) x) = sk (ix1 h)) :
    mxs s sr (ix2 (0 : Fin 1) x) = mx P sk n h q := by
  rw [mxs_at, hr]
  simp only [hs]
  rfl

theorem tile_pr (hs : ∀ k, s (ix2 k x) = sc P n h q k) (hr : sr (ix2 (0 : Fin 1) x) = sk (ix1 h)) (k : Fin 384) :
    prs s sr (ix2 k x) = pr P sk n h q k := by
  rw [prs_at, hs, tile_mx P sk n h q hs hr]
  rfl

theorem tile_iv (hs : ∀ k, s (ix2 k x) = sc P n h q k) (hr : sr (ix2 (0 : Fin 1) x) = sk (ix1 h)) :
    ivs s sr (ix2 (0 : Fin 1) x) = inv P sk n h q := by
  rw [ivs_at, hr, tile_mx P sk n h q hs hr]
  simp only [tile_pr P sk n h q hs hr]
  rfl

theorem tile_ot (hs : ∀ k, s (ix2 k x) = sc P n h q k) (hr : sr (ix2 (0 : Fin 1) x) = sk (ix1 h))
    (hv : ∀ k, inside n k = true → ∀ d : Fin 64, vv (ix2 k (⟨64 * (i : ℕ) + (d : ℕ), by omega⟩ : Fin 256)) = vc P (krow n k) h d) (e : Fin 128) :
    ots (dupl i vv) s sr (ix2 e x) = ov P sk n h q ⟨(e : ℕ) % 64, by omega⟩ := by
  rw [ots_at, tile_iv P sk n h q hs hr]
  refine congrArg (· * inv P sk n h q) (Finset.sum_congr rfl fun k _ => ?_)
  rw [tile_pr P sk n h q hs hr]
  by_cases hi : inside n k = true
  · rw [dupl_at, ← hv k hi ⟨(e : ℕ) % 64, by omega⟩]
  · have hf : inside n k = false := by simpa using hi
    rw [pr_zero P sk n h q hf, mul_zero, mul_zero]
end

end Cert.AttnFwdIdeal.Block

end

end
-- ==== Proof.AttnFwd.Bias.lean ====
module

public import proofs.«01_k».proof.Proof.Gen.AttnFwdIdeal.Frame
public import proofs.«01_k».proof.Proof.AttnFwd.Tile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-!
# The table of biases the attention's forward call keeps between its points

The first point fills it, for a first block, an inner block and a last block, and every point reads it.
-/

namespace Cert.AttnFwdIdeal.Block
open Cert.AttnFwdIdeal Cert.AttnFwdIdeal.Gen

/-- The bias of the table's part `e`. -/
def tab (e : ℕ) (h : Fin 16) (q : Fin 128) (k : Fin 384) : EReal :=
  if near q k = true ∧ (e = 0 → 128 ≤ (k : ℕ)) ∧ (e = 2 → (k : ℕ) < 256) then nslope h * dist q k else ⊥

def tabAt (e : Fin 3) (g : Fin 4) (k : Fin 384) (x : Fin 512) : EReal :=
  tab e ⟨4 * (g : ℕ) + (x : ℕ) / 128, by omega⟩ ⟨(x : ℕ) % 128, Nat.mod_lt _ (by decide)⟩ k

def tabS : FVec Ideal S3x4x384x512 .f32 := fun i => tabAt (i 0) (i 1) (i 2) (i 3)

theorem mask_c : Named.named (F := Ideal) κ "mask" (φ := .f32) 0xF149F2CA#32 = ⊥ :=
  IdealRules.named_const.ideal_named_scalar _ _ _ _ rfl

/-- One head group's part of the table. -/
def bq (mk : IVec S384x128 1) (s0 s1 s2 s3 : BitVec 32) : FVec Ideal S1x1x384x512 .f32 :=
  shapeCast S1x1x384x512 (concatenate S384x512 1 [
    ⟨S384x128, select mk (mulf (broadcast S384x128 (Scalar.ofBits .f32 s0)) (k0_pay3 (F := Ideal))) (broadcast S384x128 (Named.named κ "mask" 0xF149F2CA#32))⟩,
    ⟨S384x128, select mk (mulf (broadcast S384x128 (Scalar.ofBits .f32 s1)) (k0_pay3 (F := Ideal))) (broadcast S384x128 (Named.named κ "mask" 0xF149F2CA#32))⟩,
    ⟨S384x128, select mk (mulf (broadcast S384x128 (Scalar.ofBits .f32 s2)) (k0_pay3 (F := Ideal))) (broadcast S384x128 (Named.named κ "mask" 0xF149F2CA#32))⟩,
    ⟨S384x128, select mk (mulf (broadcast S384x128 (Scalar.ofBits .f32 s3)) (k0_pay3 (F := Ideal))) (broadcast S384x128 (Named.named κ "mask" 0xF149F2CA#32))⟩]
    concatenates_S384x128_S384x128_S384x128_S384x128_S384x512_d1) shapeCasts_S384x512_S1x1x384x512

theorem pay3_at (k : Fin 384) (q : Fin 128) : k0_pay3 (F := Ideal) (ix2 k q) = dist q k := by
  pointwise [k0_pay3, k0_pay2]
  rfl

theorem sel_bit {α : Type} (c : BitVec 1) (a b : α) : Scalar.select c a b = if c = 1#1 then a else b := rfl

theorem bsel (mk : IVec S384x128 1) (k : Fin 384) {s s' : BitVec 32} {q q' : Fin 128} (hs : s = s') (hq : q = q') :
    (if mk (ix2 k q) = 1#1 then Ideal.ofBits .f32 s * dist q k else ⊥) = if mk (ix2 k q') = 1#1 then Ideal.ofBits .f32 s' * dist q' k else ⊥ := by
  subst hs; subst hq; rfl

theorem bq_at (mk : IVec S384x128 1) (s0 s1 s2 s3 : BitVec 32) (k : Fin 384) (x : Fin 512) :
    bq mk s0 s1 s2 s3 (ix4 (0 : Fin 1) (0 : Fin 1) k x) = if mk (ix2 k (⟨(x : ℕ) % 128, Nat.mod_lt _ (by decide)⟩ : Fin 128)) = 1#1 then
      Ideal.ofBits .f32 (![s0, s1, s2, s3] (⟨(x : ℕ) / 128, by omega⟩ : Fin 4)) * dist ⟨(x : ℕ) % 128, Nat.mod_lt _ (by decide)⟩ k else ⊥ := by
  pointwise [bq, pay3_at]
  simp only [sel_bit, mask_c]
  by_cases h1 : (x : ℕ) < 128
  · refine (dif_pos h1).trans ?_
    exact bsel mk k (congrArg ![s0, s1, s2, s3] (Fin.ext (by first | omega | (dsimp only; omega) | (simp; omega)) : (0 : Fin 4) = ⟨(x : ℕ) / 128, by omega⟩)) (Fin.ext (by dsimp only; omega))
  refine (dif_neg h1).trans ?_
  by_cases h2 : (x : ℕ) - 128 < 128
  · refine (dif_pos h2).trans ?_
    exact bsel mk k (congrArg ![s0, s1, s2, s3] (Fin.ext (by first | omega | (dsimp only; omega) | (simp; omega)) : (1 : Fin 4) = ⟨(x : ℕ) / 128, by omega⟩)) (Fin.ext (by dsimp only; omega))
  refine (dif_neg h2).trans ?_
  by_cases h3 : (x : ℕ) - 128 - 128 < 128
  · refine (dif_pos h3).trans ?_
    exact bsel mk k (congrArg ![s0, s1, s2, s3] (Fin.ext (by first | omega | (dsimp only; omega) | (simp; omega)) : (2 : Fin 4) = ⟨(x : ℕ) / 128, by omega⟩)) (Fin.ext (by dsimp only; omega))
  · refine (dif_neg h3).trans ?_
    exact bsel mk k (congrArg ![s0, s1, s2, s3] (Fin.ext (by first | omega | (dsimp only; omega) | (simp; omega)) : (3 : Fin 4) = ⟨(x : ℕ) / 128, by omega⟩)) (Fin.ext (by dsimp only; omega))

theorem bit_and (a b : BitVec 1) : (IntOp.andi a b = 1#1) ↔ (a = 1#1 ∧ b = 1#1) :=
  (by decide : ∀ a b : BitVec 1, (IntOp.andi a b = 1#1) ↔ (a = 1#1 ∧ b = 1#1)) a b

theorem bit_of (b : Bool) : (BitVec.ofBool b = 1#1) ↔ b = true := by cases b <;> decide

theorem bit_near (k : Fin 384) (q : Fin 128) : (IntOp.cmpi CmpIPredicate.sle
    (IntOp.absi (IntOp.subi (IntOp.addi (BitVec.ofNat 32 (q : ℕ)) 128#32) (BitVec.ofNat 32 (k : ℕ)))) 128#32 = 1#1) ↔ near q k = true :=
  bit_of (near q k)

theorem bit_lo (k : Fin 384) : (IntOp.cmpi CmpIPredicate.sge (BitVec.ofNat 32 (k : ℕ)) 128#32 = 1#1) ↔ 128 ≤ (k : ℕ) :=
  (by decide +kernel : ∀ k : Fin 384, (IntOp.cmpi CmpIPredicate.sge (BitVec.ofNat 32 (k : ℕ)) 128#32 = 1#1) ↔ 128 ≤ (k : ℕ)) k

theorem bit_hi (k : Fin 384) : (IntOp.cmpi CmpIPredicate.slt (BitVec.ofNat 32 (k : ℕ)) 256#32 = 1#1) ↔ (k : ℕ) < 256 :=
  (by decide +kernel : ∀ k : Fin 384, (IntOp.cmpi CmpIPredicate.slt (BitVec.ofNat 32 (k : ℕ)) 256#32 = 1#1) ↔ (k : ℕ) < 256) k

theorem m0_at (k : Fin 384) (q : Fin 128) : (k0_pay4 (ix2 k q) = 1#1) ↔ (near q k = true ∧ 128 ≤ (k : ℕ)) := by
  pointwise [k0_pay4, k0_pay2]
  exact (bit_and _ _).trans (and_congr (bit_near k q) (bit_lo k))

theorem m1_at (k : Fin 384) (q : Fin 128) : (k0_pay12 k0_pay2 (ix2 k q) = 1#1) ↔ near q k = true := by
  pointwise [k0_pay12, k0_pay2]
  exact bit_near k q

theorem m2_at (k : Fin 384) (q : Fin 128) :
    (k0_pay22 (iota .tc S384x128 32 [0] iota_S384x128_d0_w32) k0_pay2 (ix2 k q) = 1#1) ↔ (near q k = true ∧ (k : ℕ) < 256) := by
  pointwise [k0_pay22, k0_pay2]
  exact (bit_and _ _).trans (and_congr (bit_near k q) (bit_hi k))

theorem emb_tab (e : ℕ) (he : e < 3) (g : ℕ) (hg : g < 4) (inb) (k : Fin 384) (x : Fin 512) :
    (Rect.unit (s := S3x4x384x512) ![e, g, 0, 0] ![1, 1, 384, 512] inb).emb (ix4 (0 : Fin 1) (0 : Fin 1) k x)
      = ix4 (⟨e, he⟩ : Fin 3) (⟨g, hg⟩ : Fin 4) k x := by
  blk_ext

theorem bq_tab (e : ℕ) (he : e < 3) (g : ℕ) (hg : g < 4) (mk : IVec S384x128 1) (s0 s1 s2 s3 : BitVec 32) (inb)
    (hm : ∀ k q, (mk (ix2 k q) = 1#1) ↔ (near q k = true ∧ (e = 0 → 128 ≤ (k : ℕ)) ∧ (e = 2 → (k : ℕ) < 256)))
    (hs : ∀ j : Fin 4, nslope ⟨4 * g + (j : ℕ), by omega⟩ = Ideal.ofBits .f32 (![s0, s1, s2, s3] j)) (y : S1x1x384x512.Idx) :
    bq mk s0 s1 s2 s3 y = tabS ((Rect.unit (s := S3x4x384x512) ![e, g, 0, 0] ![1, 1, 384, 512] inb).emb y) := by
  idx_vars y
  obtain rfl : y0 = 0 := Subsingleton.elim _ _
  obtain rfl : y1 = 0 := Subsingleton.elim _ _
  refine (bq_at mk s0 s1 s2 s3 y2 y3).trans (Eq.trans ?_ (congrArg tabS (emb_tab e he g hg inb y2 y3)).symm)
  show _ = tab e ⟨4 * g + (y3 : ℕ) / 128, by omega⟩ ⟨(y3 : ℕ) % 128, Nat.mod_lt _ (by decide)⟩ y2
  unfold tab
  simp only [hm]
  rw [hs ⟨(y3 : ℕ) / 128, by omega⟩]

theorem bq0 (e : ℕ) (he : e < 3) (mk : IVec S384x128 1) (inb)
    (hm : ∀ k q, (mk (ix2 k q) = 1#1) ↔ (near q k = true ∧ (e = 0 → 128 ≤ (k : ℕ)) ∧ (e = 2 → (k : ℕ) < 256))) (y : S1x1x384x512.Idx) :
    bq mk 0xBF3504F3#32 0xBF000000#32 0xBEB504F3#32 0xBE800000#32 y
      = tabS ((Rect.unit (s := S3x4x384x512) ![e, 0, 0, 0] ![1, 1, 384, 512] inb).emb y) :=
  bq_tab e he 0 (by omega) mk _ _ _ _ inb hm (fun | 0 => rfl | 1 => rfl | 2 => rfl | 3 => rfl) y

theorem bq1 (e : ℕ) (he : e < 3) (mk : IVec S384x128 1) (inb)
    (hm : ∀ k q, (mk (ix2 k q) = 1#1) ↔ (near q k = true ∧ (e = 0 → 128 ≤ (k : ℕ)) ∧ (e = 2 → (k : ℕ) < 256))) (y : S1x1x384x512.Idx) :
    bq mk 0xBE3504F3#32 0xBE000000#32 0xBDB504F3#32 0xBD800000#32 y
      = tabS ((Rect.unit (s := S3x4x384x512) ![e, 1, 0, 0] ![1, 1, 384, 512] inb).emb y) :=
  bq_tab e he 1 (by omega) mk _ _ _ _ inb hm (fun | 0 => rfl | 1 => rfl | 2 => rfl | 3 => rfl) y

theorem bq2 (e : ℕ) (he : e < 3) (mk : IVec S384x128 1) (inb)
    (hm : ∀ k q, (mk (ix2 k q) = 1#1) ↔ (near q k = true ∧ (e = 0 → 128 ≤ (k : ℕ)) ∧ (e = 2 → (k : ℕ) < 256))) (y : S1x1x384x512.Idx) :
    bq mk 0xBD3504F3#32 0xBD000000#32 0xBCB504F3#32 0xBC800000#32 y
      = tabS ((Rect.unit (s := S3x4x384x512) ![e, 2, 0, 0] ![1, 1, 384, 512] inb).emb y) :=
  bq_tab e he 2 (by omega) mk _ _ _ _ inb hm (fun | 0 => rfl | 1 => rfl | 2 => rfl | 3 => rfl) y

theorem bq3 (e : ℕ) (he : e < 3) (mk : IVec S384x128 1) (inb)
    (hm : ∀ k q, (mk (ix2 k q) = 1#1) ↔ (near q k = true ∧ (e = 0 → 128 ≤ (k : ℕ)) ∧ (e = 2 → (k : ℕ) < 256))) (y : S1x1x384x512.Idx) :
    bq mk 0xBC3504F3#32 0xBC000000#32 0xBBB504F3#32 0xBB800000#32 y
      = tabS ((Rect.unit (s := S3x4x384x512) ![e, 3, 0, 0] ![1, 1, 384, 512] inb).emb y) :=
  bq_tab e he 3 (by omega) mk _ _ _ _ inb hm (fun | 0 => rfl | 1 => rfl | 2 => rfl | 3 => rfl) y

theorem hm0 (k : Fin 384) (q : Fin 128) :
    (k0_pay4 (ix2 k q) = 1#1) ↔ (near q k = true ∧ (0 = 0 → 128 ≤ (k : ℕ)) ∧ (0 = 2 → (k : ℕ) < 256)) := by rw [m0_at]; simp
theorem hm1 (k : Fin 384) (q : Fin 128) :
    (k0_pay12 k0_pay2 (ix2 k q) = 1#1) ↔ (near q k = true ∧ (1 = 0 → 128 ≤ (k : ℕ)) ∧ (1 = 2 → (k : ℕ) < 256)) := by rw [m1_at]; simp
theorem hm2 (k : Fin 384) (q : Fin 128) : (k0_pay22 (iota .tc S384x128 32 [0] iota_S384x128_d0_w32) k0_pay2 (ix2 k q) = 1#1)
    ↔ (near q k = true ∧ (2 = 0 → 128 ≤ (k : ℕ)) ∧ (2 = 2 → (k : ℕ) < 256)) := by rw [m2_at]; simp

theorem canon_of {s : Shape} {e : EltTy} (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

variable (m : (ℓ : Loc nD τ sig) → Buf (Elt Ideal) ℓ) (c : Dev nD)

theorem off1 : ∀ (t : Fin cfg0.N) (s : Fin 4), k0_off1 (grid0.coords t) (BitVec.ofNat 32 s.val) =
    ![if 4 * t.val + s.val = 0 then 0 else if 4 * t.val + s.val = 63 then 2 else 1, 0, 0, 0] :=
  (by decide +kernel : ∀ t : Fin grid0.N, _)
theorem off2 : ∀ (t : Fin cfg0.N) (s : Fin 4), k0_off2 (grid0.coords t) (BitVec.ofNat 32 s.val) =
    ![if 4 * t.val + s.val = 0 then 0 else if 4 * t.val + s.val = 63 then 2 else 1, 1, 0, 0] :=
  (by decide +kernel : ∀ t : Fin grid0.N, _)
theorem off3 : ∀ (t : Fin cfg0.N) (s : Fin 4), k0_off3 (grid0.coords t) (BitVec.ofNat 32 s.val) =
    ![if 4 * t.val + s.val = 0 then 0 else if 4 * t.val + s.val = 63 then 2 else 1, 2, 0, 0] :=
  (by decide +kernel : ∀ t : Fin grid0.N, _)
theorem off4 : ∀ (t : Fin cfg0.N) (s : Fin 4), k0_off4 (grid0.coords t) (BitVec.ofNat 32 s.val) =
    ![if 4 * t.val + s.val = 0 then 0 else if 4 * t.val + s.val = 63 then 2 else 1, 3, 0, 0] :=
  (by decide +kernel : ∀ t : Fin grid0.N, _)

theorem tab_bias (n : Fin 64) (h : Fin 16) (q : Fin 128) (k : Fin 384) :
    tab (if (n : ℕ) = 0 then 0 else if (n : ℕ) = 63 then 2 else 1) h q k = bias n h q k := by
  have e : (near q k = true ∧ ((if (n : ℕ) = 0 then 0 else if (n : ℕ) = 63 then 2 else 1) = 0 → 128 ≤ (k : ℕ))
      ∧ ((if (n : ℕ) = 0 then 0 else if (n : ℕ) = 63 then 2 else 1) = 2 → (k : ℕ) < 256)) = (near q k = true ∧ inside n k = true) := by
    refine propext (and_congr_right fun _ => ?_)
    unfold inside
    rw [decide_eq_true_iff]
    by_cases h0 : (n : ℕ) = 0
    · rw [if_pos h0]; omega
    · rw [if_neg h0]
      by_cases h1 : (n : ℕ) = 63
      · rw [if_pos h1]; omega
      · rw [if_neg h1]; omega
  unfold tab bias
  simp only [e]

theorem ld_tab (n : Fin 64) (g : Fin 4) (k : Fin 384) (x : Fin 512) (off : Fin 4 → ℕ)
    (hoff : off = ![if (n : ℕ) = 0 then 0 else if (n : ℕ) = 63 then 2 else 1, (g : ℕ), 0, 0]) (inb) :
    View.ld (Val := Elt Ideal) (e' := .f32) tabS (Rect.unit (s := S3x4x384x512) off ![1, 1, 384, 512] inb) (ix4 (0 : Fin 1) (0 : Fin 1) k x)
      = bias n ⟨4 * (g : ℕ) + (x : ℕ) / 128, by omega⟩ ⟨(x : ℕ) % 128, Nat.mod_lt _ (by decide)⟩ k := by
  subst hoff
  rw [← tab_bias]
  have h3 : (if (n : ℕ) = 0 then 0 else if (n : ℕ) = 63 then 2 else 1) < 3 := by split_ifs <;> omega
  refine (View.ld_unit_apply_of (Val := Elt Ideal) (e := .f32) tabS _ _ inb (ix4 (0 : Fin 1) (0 : Fin 1) k x)
    (ix4 (⟨_, h3⟩ : Fin 3) g k x) fun a => ?_).trans rfl
  match a with
  | 0 => rfl
  | 1 => rfl
  | 2 => exact (Nat.zero_add _).symm
  | 3 => exact (Nat.zero_add _).symm

set_option maxHeartbeats 1000000 in
theorem tab_A (t : Fin cfg0.N) (h : t.val % 16 = 0) : (outsAt0 m c t.val t.isLt).2.2 = tabS := by
  funext y
  rw [outsAt0_A m c t h]
  dsimp only
  frame_out
  refine canon_of (e := .f32) tabS _ ?_ y ?_
  · refine ⟨?_, ?_, ?_, ?_, ?_, ?_, ?_, ?_, ?_, ?_, ?_, ?_, trivial⟩
    · exact bq3 2 (by omega) _ inb_S3x4x384x512_S1x1x384x512_2_3_0_0 hm2
    · exact bq2 2 (by omega) _ inb_S3x4x384x512_S1x1x384x512_2_2_0_0 hm2
    · exact bq1 2 (by omega) _ inb_S3x4x384x512_S1x1x384x512_2_1_0_0 hm2
    · exact bq0 2 (by omega) _ inb_S3x4x384x512_S1x1x384x512_2_0_0_0 hm2
    · exact bq3 1 (by omega) _ inb_S3x4x384x512_S1x1x384x512_1_3_0_0 hm1
    · exact bq2 1 (by omega) _ inb_S3x4x384x512_S1x1x384x512_1_2_0_0 hm1
    · exact bq1 1 (by omega) _ inb_S3x4x384x512_S1x1x384x512_1_1_0_0 hm1
    · exact bq0 1 (by omega) _ inb_S3x4x384x512_S1x1x384x512_1_0_0_0 hm1
    · exact bq3 0 (by omega) _ inb_S3x4x384x512_S1x1x384x512_0_3_0_0 hm0
    · exact bq2 0 (by omega) _ inb_S3x4x384x512_S1x1x384x512_0_2_0_0 hm0
    · exact bq1 0 (by omega) _ inb_S3x4x384x512_S1x1x384x512_0_1_0_0 hm0
    · exact bq0 0 (by omega) _ inb_S3x4x384x512_S1x1x384x512_0_0_0_0 hm0
  · exact View.cover_of_tiled (s := S3x4x384x512) _ ![1, 1, 384, 512] rfl y

theorem tab_all : ∀ (n : ℕ) (hn : n < cfg0.N), (outsAt0 m c n hn).2.2 = tabS
  | 0, hn => tab_A m c ⟨0, hn⟩ rfl
  | n + 1, hn => by
    by_cases h : (n + 1) % 16 = 0
    · exact tab_A m c ⟨n + 1, hn⟩ h
    · refine (congrArg (fun o => o.2.2) (outsAt0_B m c ⟨n + 1, hn⟩ h)).trans ?_
      exact tab_all n (Nat.lt_of_succ_lt hn)

end Cert.AttnFwdIdeal.Block

end

end
-- ==== Proof.AttnFwd.Reads.lean ====
module

public import proofs.«01_k».proof.Proof.AttnFwd.Bias

@[expose] public section

set_option maxRecDepth 16384

noncomputable section

open Idealize.ShloMosaic Idealize.ShloMosaic.TcCoe Idealize.SL.Sem

/-!
# What the attention's forward call reads

A point of the grid takes four blocks of queries, and of the keys and of the values the same rows, the block before
them and the block after them.
-/

namespace Cert.AttnFwdIdeal.Block
open Cert.AttnFwdIdeal Cert.AttnFwdIdeal.Gen

variable (m : (ℓ : Loc nD τ sig) → Buf (Elt Ideal) ℓ)

theorem idx : ∀ t : Fin cfg0.N, win0_0.index t = ![t.val, 2] ∧ win0_1.index t = ![4 * t.val - 1, 20]
    ∧ win0_2.index t = ![t.val, 20] ∧ win0_3.index t = ![min (4 * t.val + 4) 63, 20] ∧ win0_4.index t = ![4 * t.val - 1, 21]
    ∧ win0_5.index t = ![t.val, 21] ∧ win0_6.index t = ![min (4 * t.val + 4) 63, 21] ∧ win0_7.index t = ![0, 0]
    ∧ win0_8.index t = ![t.val, 0] ∧ win0_9.index t = ![t.val, 0, 0] :=
  (by decide +kernel : ∀ t : Fin grid0.N, _)

variable (c : Dev nD) (t : Fin cfg0.N)

theorem lt16 (t : Fin cfg0.N) : t.val < 16 := lt_of_lt_of_eq t.isLt N_0

/-- The projection, and the sinks. -/
abbrev pj (c : Dev nD) : FVec Ideal S8192x5632 .f32 := m ((c : Thread nD τ).loc main_arg0)
abbrev snks (c : Dev nD) : FVec Ideal S16 .f32 := m ((c : Thread nD τ).loc main_arg1)

/-- The kernel's order of the projection's columns. -/
def cols (p : FVec Ideal S8192x5632 .f32) : FVec Ideal S8192x5632 .bf16 :=
  truncf .bf16 (concatenate S8192x5632 1 [⟨S8192x3072, extractStridedSlice S8192x3072 ![0, 0] p slices_S8192x5632_S8192x3072_0_0⟩,
    ⟨S8192x2048, extractStridedSlice S8192x2048 ![0, 3584] p slices_S8192x5632_S8192x2048_0_3584⟩,
    ⟨S8192x512, extractStridedSlice S8192x512 ![0, 3072] p slices_S8192x5632_S8192x512_0_3072⟩]
    concatenates_S8192x3072_S8192x2048_S8192x512_S8192x5632_d1) bitsLt_bf16_f32

theorem V4 : V m c main_v4 = cols (pj m c) := by
  unfold V
  after_results
  try rfl

theorem cols_q (p : FVec Ideal S8192x5632 .f32) (r : Fin 8192) (j : Fin 1024) :
    cols p (ix2 r (⟨2048 + (j : ℕ), by omega⟩ : Fin 5632)) = p (ix2 r (⟨2048 + (j : ℕ), by omega⟩ : Fin 5632)) := by
  pointwise [cols]
  rw [dif_pos (by omega)]

theorem cols_kv (p : FVec Ideal S8192x5632 .f32) (r : Fin 8192) (k : Fin 512) :
    cols p (ix2 r (⟨5120 + (k : ℕ), by omega⟩ : Fin 5632)) = p (ix2 r (⟨3072 + (k : ℕ), by omega⟩ : Fin 5632)) := by
  pointwise [cols]
  refine (dif_neg (by omega)).trans ((dif_neg (by omega)).trans (congrArg p (ix2_congr rfl (by dsimp only; omega))))

def row (t : Fin cfg0.N) (r : Fin 512) : Fin 8192 := ⟨512 * t.val + (r : ℕ), by have := lt16 t; omega⟩
def rowP (t : Fin cfg0.N) (r : Fin 128) : Fin 8192 := ⟨128 * (4 * t.val - 1) + (r : ℕ), by have := lt16 t; omega⟩
def rowN (t : Fin cfg0.N) (r : Fin 128) : Fin 8192 := ⟨128 * min (4 * t.val + 4) 63 + (r : ℕ), by have := lt16 t; omega⟩

theorem b0_at (r : Fin 512) (j : Fin 1024) : X0_0 m c t (ix2 r j) = pj m c (ix2 (row t r) (⟨2048 + (j : ℕ), by omega⟩ : Fin 5632)) := by
  unfold X0_0 Pipeline.Window.fill
  rw [dif_pos (moved0_0 t _)]
  refine (congrFun (V4 m c) _).trans ?_
  refine Eq.trans (congrArg (cols _) ?_) (cols_q _ (row t r) j)
  blk_ext [idx t, row]

theorem b1_at (r : Fin 128) (j : Fin 256) : iblk m c 1 t (ix2 r j) = pj m c (ix2 (rowP t r) (⟨3072 + (j : ℕ), by omega⟩ : Fin 5632)) := by
  refine (congrFun (V4 m c) _).trans ?_
  refine Eq.trans (congrArg (cols _) ?_) (cols_kv _ (rowP t r) ⟨(j : ℕ), by omega⟩)
  blk_ext [idx t, rowP]

theorem b2_at (r : Fin 512) (j : Fin 256) : iblk m c 2 t (ix2 r j) = pj m c (ix2 (row t r) (⟨3072 + (j : ℕ), by omega⟩ : Fin 5632)) := by
  refine (congrFun (V4 m c) _).trans ?_
  refine Eq.trans (congrArg (cols _) ?_) (cols_kv _ (row t r) ⟨(j : ℕ), by omega⟩)
  blk_ext [idx t, row]

theorem b3_at (r : Fin 128) (j : Fin 256) : iblk m c 3 t (ix2 r j) = pj m c (ix2 (rowN t r) (⟨3072 + (j : ℕ), by omega⟩ : Fin 5632)) := by
  refine (congrFun (V4 m c) _).trans ?_
  refine Eq.trans (congrArg (cols _) ?_) (cols_kv _ (rowN t r) ⟨(j : ℕ), by omega⟩)
  blk_ext [idx t, rowN]

theorem v_ix (r r' : Fin 8192) (hr : (r : ℕ) = r') (j : Fin 256) :
    (ix2 r (⟨3072 + ((⟨256 + (j : ℕ), by omega⟩ : Fin 512) : ℕ), by dsimp only; omega⟩ : Fin 5632)) = ix2 r' (⟨3328 + (j : ℕ), by omega⟩ : Fin 5632) :=
  ix2_congr hr (by dsimp only; omega)

theorem b4_at (r : Fin 128) (j : Fin 256) : iblk m c 4 t (ix2 r j) = pj m c (ix2 (rowP t r) (⟨3328 + (j : ℕ), by omega⟩ : Fin 5632)) := by
  refine (congrFun (V4 m c) _).trans ?_
  refine Eq.trans (congrArg (cols _) ?_) ((cols_kv _ (rowP t r) ⟨256 + (j : ℕ), by omega⟩).trans (congrArg (pj m c) (v_ix _ _ rfl j)))
  blk_ext [idx t, rowP]

theorem b5_at (r : Fin 512) (j : Fin 256) : iblk m c 5 t (ix2 r j) = pj m c (ix2 (row t r) (⟨3328 + (j : ℕ), by omega⟩ : Fin 5632)) := by
  refine (congrFun (V4 m c) _).trans ?_
  refine Eq.trans (congrArg (cols _) ?_) ((cols_kv _ (row t r) ⟨256 + (j : ℕ), by omega⟩).trans (congrArg (pj m c) (v_ix _ _ rfl j)))
  blk_ext [idx t, row]

theorem b6_at (r : Fin 128) (j : Fin 256) : iblk m c 6 t (ix2 r j) = pj m c (ix2 (rowN t r) (⟨3328 + (j : ℕ), by omega⟩ : Fin 5632)) := by
  refine (congrFun (V4 m c) _).trans ?_
  refine Eq.trans (congrArg (cols _) ?_) ((cols_kv _ (rowN t r) ⟨256 + (j : ℕ), by omega⟩).trans (congrArg (pj m c) (v_ix _ _ rfl j)))
  blk_ext [idx t, rowN]

theorem V5 : V m c main_v5 = shapeCast S1x16 (snks m c) shapeCasts_S16_S1x16 := by
  unfold V
  after_results
  try rfl

theorem b7_at (h : Fin 16) : iblk m c 7 t (ix2 (0 : Fin 1) h) = snks m c (ix1 h) := by
  refine (congrFun (V5 m c) _).trans ?_
  refine Eq.trans (congrArg (shapeCast S1x16 (snks m c) shapeCasts_S16_S1x16) (?_ : _ = ix2 (0 : Fin 1) h)) ?_
  · blk_ext [idx t]
  · pointwise

/-! The loads of a point's blocks. -/

section
variable (A0 : FVec Ideal S512x1024 .bf16) (A1 A3 A4 A6 : FVec Ideal S128x256 .bf16) (A2 A5 : FVec Ideal S512x256 .bf16)

theorem ldP (A : FVec Ideal S128x256 .bf16) (inb) (r : Fin 128) (j : Fin 256) :
    View.ld (Val := Elt Ideal) (e' := .bf16) A (Rect.unit (s := S128x256) ![0, 0] ![128, 256] inb) (ix2 r j) = A (ix2 r j) :=
  View.ld_unit_apply_of (Val := Elt Ideal) (e := .bf16) A _ _ inb (ix2 r j) (ix2 r j) fun a => by
    match a with
    | 0 => exact (Nat.zero_add _).symm
    | 1 => exact (Nat.zero_add _).symm

theorem ldC (A : FVec Ideal S512x256 .bf16) (o : ℕ) (ho : o ≤ 384) (inb) (r : Fin 128) (j : Fin 256) :
    View.ld (Val := Elt Ideal) (e' := .bf16) A (Rect.unit (s := S512x256) ![o, 0] ![128, 256] inb) (ix2 r j) = A (ix2 (⟨o + (r : ℕ), by omega⟩ : Fin 512) j) :=
  View.ld_unit_apply_of (Val := Elt Ideal) (e := .bf16) A _ _ inb (ix2 r j) (ix2 (⟨o + (r : ℕ), by omega⟩ : Fin 512) j) fun a => by
    match a with
    | 0 => rfl
    | 1 => exact (Nat.zero_add _).symm

theorem ldQ (A : FVec Ideal S512x1024 .bf16) (o p : ℕ) (ho : o ≤ 384) (hp : p ≤ 896) (inb) (r j : Fin 128) :
    View.ld (Val := Elt Ideal) (e' := .bf16) A (Rect.unit (s := S512x1024) ![o, p] ![128, 128] inb) (ix2 r j)
      = A (ix2 (⟨o + (r : ℕ), by omega⟩ : Fin 512) (⟨p + (j : ℕ), by omega⟩ : Fin 1024)) :=
  View.ld_unit_apply_of (Val := Elt Ideal) (e := .bf16) A _ _ inb (ix2 r j) (ix2 (⟨o + (r : ℕ), by omega⟩ : Fin 512) (⟨p + (j : ℕ), by omega⟩ : Fin 1024)) fun a => by
    match a with
    | 0 => rfl
    | 1 => rfl

theorem ldS (A : FVec Ideal S1x16 .f32) (h : ℕ) (hh : h < 16) (inb) (x : (Rect.unit (s := S1x16) ![0, h] ![1, 1] inb).shape.Idx) :
    View.ld (Val := Elt Ideal) (e' := .f32) A (Rect.unit (s := S1x16) ![0, h] ![1, 1] inb) x = A (ix2 (0 : Fin 1) (⟨h, hh⟩ : Fin 16)) :=
  View.ld_unit_apply_of (Val := Elt Ideal) (e := .f32) A _ _ inb x (ix2 (0 : Fin 1) (⟨h, hh⟩ : Fin 16)) fun a => by
    match a with
    | 0 => have h1 : (x 0 : ℕ) < 1 := (x 0).isLt
           have h0 : (x 0 : ℕ) = 0 := by omega
           exact ((Nat.zero_add _).trans h0).symm
    | 1 => have h1 : (x 1 : ℕ) < 1 := (x 1).isLt
           have h0 : (x 1 : ℕ) = 0 := by omega
           exact (congrArg (h + ·) h0).symm
end

/-- The block of queries that is block `s` of the point's. -/
def nb (t : Fin cfg0.N) (s : Fin 4) : Fin 64 := ⟨4 * t.val + (s : ℕ), by have := lt16 t; omega⟩

/-! The four windows of keys (column offset 3072), or of values (3328). -/

section
variable (P : FVec Ideal S8192x5632 .f32) (w : ℕ) (hw : w ≤ 3328)
variable (A : FVec Ideal S128x256 .bf16) (B : FVec Ideal S512x256 .bf16) (C : FVec Ideal S128x256 .bf16)

/-- The block before, the point's rows, and the block after, in the array. -/
structure Rows : Prop where
  a : ∀ (r : Fin 128) (j : Fin 256), A (ix2 r j) = P (ix2 (rowP t r) (⟨w + (j : ℕ), by omega⟩ : Fin 5632))
  b : ∀ (r : Fin 512) (j : Fin 256), B (ix2 r j) = P (ix2 (row t r) (⟨w + (j : ℕ), by omega⟩ : Fin 5632))
  c : ∀ (r : Fin 128) (j : Fin 256), C (ix2 r j) = P (ix2 (rowN t r) (⟨w + (j : ℕ), by omega⟩ : Fin 5632))

/-- The window holds what block `n` meets, where the key lies in the sequence. -/
def Meets (n : Fin 64) (W : FVec Ideal S384x256 .bf16) : Prop :=
  ∀ k, inside n k = true → ∀ j : Fin 256, W (ix2 k j) = P (ix2 (krow n k) (⟨w + (j : ℕ), by omega⟩ : Fin 5632))

variable {P w hw A B C t}

theorem meets0 (h : Rows t P w hw A B C) (s : Fin 4) (hs : (s : ℕ) = 0) (i0 i1 i2) : Meets P w hw (nb t s) (win
    (View.ld (Val := Elt Ideal) (e' := .bf16) A (Rect.unit (s := S128x256) ![0, 0] ![128, 256] i0))
    (View.ld (Val := Elt Ideal) (e' := .bf16) B (Rect.unit (s := S512x256) ![0, 0] ![128, 256] i1))
    (View.ld (Val := Elt Ideal) (e' := .bf16) B (Rect.unit (s := S512x256) ![128, 0] ![128, 256] i2))) := by
  intro k hk j
  have ht := lt16 t
  have hk' : 128 ≤ 128 * (4 * t.val + (s : ℕ)) + (k : ℕ) ∧ 128 * (4 * t.val + (s : ℕ)) + (k : ℕ) < 8320 := of_decide_eq_true hk
  rw [win_at]
  by_cases h0 : (k : ℕ) < 128
  · refine (dif_pos h0).trans (((ldP A i0 _ _).trans (h.a _ _)).trans (congrArg P (ix2_congr ?_ rfl)))
    simp only [rowP, krow, nb]
    omega
  · refine (dif_neg h0).trans ?_
    by_cases h1 : (k : ℕ) < 256
    · refine (dif_pos h1).trans (((ldC B 0 (by omega) i1 _ _).trans (h.b _ _)).trans (congrArg P (ix2_congr ?_ rfl)))
      simp only [row, krow, nb]
      omega
    · refine (dif_neg h1).trans (((ldC B 128 (by omega) i2 _ _).trans (h.b _ _)).trans (congrArg P (ix2_congr ?_ rfl)))
      simp only [row, krow, nb]
      omega

theorem meets_mid (h : Rows t P w hw A B C) (s : Fin 4) (o0 o1 o2 : ℕ) (h0 : o0 + 128 = 128 * (s : ℕ)) (h1 : o1 = 128 * (s : ℕ)) (h2 : o2 = 128 * (s : ℕ) + 128)
    (h2' : o2 ≤ 384) (i0 i1 i2) : Meets P w hw (nb t s) (win
    (View.ld (Val := Elt Ideal) (e' := .bf16) B (Rect.unit (s := S512x256) ![o0, 0] ![128, 256] i0))
    (View.ld (Val := Elt Ideal) (e' := .bf16) B (Rect.unit (s := S512x256) ![o1, 0] ![128, 256] i1))
    (View.ld (Val := Elt Ideal) (e' := .bf16) B (Rect.unit (s := S512x256) ![o2, 0] ![128, 256] i2))) := by
  intro k hk j
  have ht := lt16 t
  have hk' : 128 ≤ 128 * (4 * t.val + (s : ℕ)) + (k : ℕ) ∧ 128 * (4 * t.val + (s : ℕ)) + (k : ℕ) < 8320 := of_decide_eq_true hk
  rw [win_at]
  by_cases h0 : (k : ℕ) < 128
  · refine (dif_pos h0).trans (((ldC B o0 (by omega) i0 _ _).trans (h.b _ _)).trans (congrArg P (ix2_congr ?_ rfl)))
    simp only [row, krow, nb]
    omega
  · refine (dif_neg h0).trans ?_
    by_cases h1 : (k : ℕ) < 256
    · refine (dif_pos h1).trans (((ldC B o1 (by omega) i1 _ _).trans (h.b _ _)).trans (congrArg P (ix2_congr ?_ rfl)))
      simp only [row, krow, nb]
      omega
    · refine (dif_neg h1).trans (((ldC B o2 h2' i2 _ _).trans (h.b _ _)).trans (congrArg P (ix2_congr ?_ rfl)))
      simp only [row, krow, nb]
      omega

theorem meets3 (h : Rows t P w hw A B C) (s : Fin 4) (hs : (s : ℕ) = 3) (i0 i1 i2) : Meets P w hw (nb t s) (win
    (View.ld (Val := Elt Ideal) (e' := .bf16) B (Rect.unit (s := S512x256) ![256, 0] ![128, 256] i0))
    (View.ld (Val := Elt Ideal) (e' := .bf16) B (Rect.unit (s := S512x256) ![384, 0] ![128, 256] i1))
    (View.ld (Val := Elt Ideal) (e' := .bf16) C (Rect.unit (s := S128x256) ![0, 0] ![128, 256] i2))) := by
  intro k hk j
  have ht := lt16 t
  have hk' : 128 ≤ 128 * (4 * t.val + (s : ℕ)) + (k : ℕ) ∧ 128 * (4 * t.val + (s : ℕ)) + (k : ℕ) < 8320 := of_decide_eq_true hk
  rw [win_at]
  by_cases h0 : (k : ℕ) < 128
  · refine (dif_pos h0).trans (((ldC B 256 (by omega) i0 _ _).trans (h.b _ _)).trans (congrArg P (ix2_congr ?_ rfl)))
    simp only [row, krow, nb]
    omega
  · refine (dif_neg h0).trans ?_
    by_cases h1 : (k : ℕ) < 256
    · refine (dif_pos h1).trans (((ldC B 384 (by omega) i1 _ _).trans (h.b _ _)).trans (congrArg P (ix2_congr ?_ rfl)))
      simp only [row, krow, nb]
      omega
    · refine (dif_neg h1).trans (((ldP C i2 _ _).trans (h.c _ _)).trans (congrArg P (ix2_congr ?_ rfl)))
      simp only [rowN, krow, nb]
      omega
end

end Cert.AttnFwdIdeal.Block

end

end
-- ==== Proof.AttnFwd.Block.lean ====
module

public import proofs.«01_k».proof.Proof.AttnFwd.Reads

@[expose] public section

set_option maxRecDepth 16384

noncomputable section

open Idealize.ShloMosaic Idealize.ShloMosaic.TcCoe Idealize.SL.Sem

/-!
# What a point of the attention's forward call stores

Of each block of queries four groups of four heads: a group's scores, its row maxima, the inverses of its denominators,
and its rows of the result.
-/

namespace Cert.AttnFwdIdeal.Block
open Cert.AttnFwdIdeal Cert.AttnFwdIdeal.Gen

/-- The head and the query of a column of group `g`'s scores. -/
def hd (g : Fin 4) (x : Fin 512) : Fin 16 := ⟨4 * (g : ℕ) + (x : ℕ) / 128, by omega⟩
def qx (x : Fin 512) : Fin 128 := ⟨(x : ℕ) % 128, Nat.mod_lt _ (by decide)⟩

section
variable {P : FVec Ideal S8192x5632 .f32} {sk : FVec Ideal S16 .f32} {t : Fin cfg0.N}

/-- The queries of the point's rows. -/
def Queries (P : FVec Ideal S8192x5632 .f32) (t : Fin cfg0.N) (A : FVec Ideal S512x1024 .bf16) : Prop :=
  ∀ (r : Fin 512) (j : Fin 1024), A (ix2 r j) = P (ix2 (row t r) (⟨2048 + (j : ℕ), by omega⟩ : Fin 5632))

def Sinks (sk : FVec Ideal S16 .f32) (A : FVec Ideal S1x16 .f32) : Prop := ∀ h : Fin 16, A (ix2 (0 : Fin 1) h) = sk (ix1 h)

/-- Group `g`'s scores of block `s`, and its row of sinks. -/
def Scores (P : FVec Ideal S8192x5632 .f32) (t : Fin cfg0.N) (s g : Fin 4) (S : FVec Ideal S384x512 .f32) : Prop :=
  ∀ x k, S (ix2 k x) = sc P (nb t s) (hd g x) (qx x) k

def SinkRow (sk : FVec Ideal S16 .f32) (g : Fin 4) (R : FVec Ideal S1x512 .f32) : Prop :=
  ∀ x, R (ix2 (0 : Fin 1) x) = sk (ix1 (hd g x))

theorem pt_sc (s g : Fin 4) {W : FVec Ideal S384x256 .bf16} (hW : Meets P 3072 (by omega) (nb t s) W)
    {A : FVec Ideal S512x1024 .bf16} (hA : Queries P t A) {S : FVec Ideal S3x4x384x512 .f32} (hS : S = tabS)
    (o p p' : ℕ) (ho : o = 128 * (s : ℕ)) (hp : p = 256 * (g : ℕ)) (hp' : p' = 256 * (g : ℕ) + 128) (i0 i1)
    (off : Fin 4 → ℕ) (hoff : off = ![if 4 * t.val + (s : ℕ) = 0 then 0 else if 4 * t.val + (s : ℕ) = 63 then 2 else 1, (g : ℕ), 0, 0]) (inb) :
    Scores P t s g (scs (dupl g W) (View.ld (Val := Elt Ideal) (e' := .bf16) A (Rect.unit (s := S512x1024) ![o, p] ![128, 128] i0))
      (View.ld (Val := Elt Ideal) (e' := .bf16) A (Rect.unit (s := S512x1024) ![o, p'] ![128, 128] i1))
      (View.ld (Val := Elt Ideal) (e' := .f32) S (Rect.unit (s := S3x4x384x512) off ![1, 1, 384, 512] inb))) := by
  intro x k
  subst hS ho hp hp'
  refine tile_sc P _ _ _ rfl rfl (fun k hk d => ?_) (fun d => ?_) (fun k => ld_tab (nb t s) g k x off hoff inb) k
  · refine (hW k hk _).trans (congrArg P (ix2_congr rfl ?_))
    dsimp only [hd]
    omega
  · by_cases hx : (x : ℕ) < 256
    · refine (congrFun (if_pos hx) _).trans ((ldQ A _ _ (by omega) (by omega) i0 _ _).trans ((hA _ _).trans (congrArg P (ix2_congr ?_ ?_))))
      · dsimp only [row, qrow, nb, qx]
        omega
      · dsimp only [hd]
        omega
    · refine (congrFun (if_neg hx) _).trans ((ldQ A _ _ (by omega) (by omega) i1 _ _).trans ((hA _ _).trans (congrArg P (ix2_congr ?_ ?_))))
      · dsimp only [row, qrow, nb, qx]
        omega
      · dsimp only [hd]
        omega

theorem pt_snk (g : Fin 4) {A : FVec Ideal S1x16 .f32} (hA : Sinks sk A) (c0 c1 c2 c3 : ℕ) (h0 : c0 = 4 * (g : ℕ)) (h1 : c1 = 4 * (g : ℕ) + 1)
    (h2 : c2 = 4 * (g : ℕ) + 2) (h3 : c3 = 4 * (g : ℕ) + 3) (i0 i1 i2 i3 x0 x1 x2 x3) :
    SinkRow sk g (snk (View.ld (Val := Elt Ideal) (e' := .f32) A (Rect.unit (s := S1x16) ![0, c0] ![1, 1] i0) x0)
      (View.ld (Val := Elt Ideal) (e' := .f32) A (Rect.unit (s := S1x16) ![0, c1] ![1, 1] i1) x1)
      (View.ld (Val := Elt Ideal) (e' := .f32) A (Rect.unit (s := S1x16) ![0, c2] ![1, 1] i2) x2)
      (View.ld (Val := Elt Ideal) (e' := .f32) A (Rect.unit (s := S1x16) ![0, c3] ![1, 1] i3) x3)) := by
  intro x
  have e : ∀ j : Fin 4, 4 * (g : ℕ) + (j : ℕ) < 16 := fun j => by omega
  rw [ldS A c0 (by omega) i0 x0, ldS A c1 (by omega) i1 x1, ldS A c2 (by omega) i2 x2, ldS A c3 (by omega) i3 x3]
  subst h0 h1 h2 h3
  refine (snk_at (fun j => A (ix2 (0 : Fin 1) (⟨4 * (g : ℕ) + (j : ℕ), e j⟩ : Fin 16))) x).trans ?_
  exact hA _

/-- What the point leaves of the two results. -/
def stB (P : FVec Ideal S8192x5632 .f32) (sk : FVec Ideal S16 .f32) (t : Fin cfg0.N) : S4x8x512.Idx → EReal :=
  fun y => stAt P sk (nb t (y 0)) (y 1) (y 2)
def oB (P : FVec Ideal S8192x5632 .f32) (sk : FVec Ideal S16 .f32) (t : Fin cfg0.N) : S512x1024.Idx → EReal :=
  fun y => oAt P sk (row t (y 0)) (y 1)

theorem stB_lo (s : Fin 4) (g : Fin 4) (x : Fin 512) : stB P sk t (ix3 s (⟨(g : ℕ), by omega⟩ : Fin 8) x) = mx P sk (nb t s) (hd g x) (qx x) :=
  dif_pos (show ((⟨(g : ℕ), by omega⟩ : Fin 8) : ℕ) < 4 from g.isLt)

theorem inv_congr (n : Fin 64) (h h' : Fin 16) (q : Fin 128) (e : (h : ℕ) = h') : inv P sk n h q = inv P sk n h' q := by
  rw [Fin.ext e]

theorem stB_hi (s : Fin 4) (g : Fin 4) (x : Fin 512) : stB P sk t (ix3 s (⟨4 + (g : ℕ), by omega⟩ : Fin 8) x) = inv P sk (nb t s) (hd g x) (qx x) := by
  refine Eq.trans (dif_neg (show ¬ ((⟨4 + (g : ℕ), by omega⟩ : Fin 8) : ℕ) < 4 by dsimp only; omega)) ?_
  refine inv_congr _ _ _ _ ?_
  show 4 * (4 + (g : ℕ) - 4) + (x : ℕ) / 128 = 4 * (g : ℕ) + (x : ℕ) / 128
  omega

theorem oB_at (r : Fin 512) (j : Fin 1024) : oB P sk t (ix2 r j) = ov P sk ⟨(512 * t.val + (r : ℕ)) / 128, by have := lt16 t; omega⟩ ⟨(j : ℕ) / 64, by omega⟩
    ⟨(512 * t.val + (r : ℕ)) % 128, Nat.mod_lt _ (by decide)⟩ ⟨(j : ℕ) % 64, Nat.mod_lt _ (by decide)⟩ := rfl

theorem cast3 (v : FVec Ideal S1x512 .f32) (x : Fin 512) :
    shapeCast S1x1x512 v shapeCasts_S1x512_S1x1x512 (ix3 (0 : Fin 1) (0 : Fin 1) x) = v (ix2 (0 : Fin 1) x) := by pointwise

theorem ov_congr (n n' : Fin 64) (h h' : Fin 16) (q q' : Fin 128) (d d' : Fin 64) (a : (n : ℕ) = n') (b : (h : ℕ) = h') (c : (q : ℕ) = q') (e : (d : ℕ) = d') :
    ov P sk n h q d = ov P sk n' h' q' d' := by
  rw [Fin.ext a, Fin.ext b, Fin.ext c, Fin.ext e]

theorem embS (s : Fin 4) (e : ℕ) (he : e < 8) (inb) (x : Fin 512) :
    (Rect.unit (s := S4x8x512) ![(s : ℕ), e, 0] ![1, 1, 512] inb).emb (ix3 (0 : Fin 1) (0 : Fin 1) x) = ix3 s (⟨e, he⟩ : Fin 8) x := by
  blk_ext

theorem one3 (y : S1x1x512.Idx) : ∃ x : Fin 512, y = ix3 (0 : Fin 1) (0 : Fin 1) x :=
  ⟨y 2, by
    have h0 : (y 0 : ℕ) < 1 := (y 0).isLt
    have h1 : (y 1 : ℕ) < 1 := (y 1).isLt
    funext a
    match a with
    | 0 => exact Fin.ext (by show (y 0 : ℕ) = 0; omega)
    | 1 => exact Fin.ext (by show (y 1 : ℕ) = 0; omega)
    | 2 => rfl⟩

theorem pc_mx (s g : Fin 4) (sn e : ℕ) (hs : sn = (s : ℕ)) (he : e = (g : ℕ)) {S : FVec Ideal S384x512 .f32} {R : FVec Ideal S1x512 .f32}
    (hS : Scores P t s g S) (hR : SinkRow sk g R) (inb) (y : S1x1x512.Idx) :
    shapeCast S1x1x512 (mxs S R) shapeCasts_S1x512_S1x1x512 y = stB P sk t ((Rect.unit (s := S4x8x512) ![sn, e, 0] ![1, 1, 512] inb).emb y) := by
  subst hs he
  obtain ⟨x, rfl⟩ := one3 y
  refine (cast3 _ x).trans ((tile_mx P sk _ _ _ (hS x) (hR x)).trans ?_)
  exact (stB_lo s g x).symm.trans (congrArg (stB P sk t) (embS s (g : ℕ) (by omega) inb x).symm)

theorem pc_iv (s g : Fin 4) (sn e : ℕ) (hs : sn = (s : ℕ)) (he : e = 4 + (g : ℕ)) {S : FVec Ideal S384x512 .f32} {R : FVec Ideal S1x512 .f32}
    (hS : Scores P t s g S) (hR : SinkRow sk g R) (inb) (y : S1x1x512.Idx) :
    shapeCast S1x1x512 (ivs S R) shapeCasts_S1x512_S1x1x512 y = stB P sk t ((Rect.unit (s := S4x8x512) ![sn, e, 0] ![1, 1, 512] inb).emb y) := by
  subst hs he
  obtain ⟨x, rfl⟩ := one3 y
  refine (cast3 _ x).trans ((tile_iv P sk _ _ _ (hS x) (hR x)).trans ?_)
  exact (stB_hi s g x).symm.trans (congrArg (stB P sk t) (embS s (4 + (g : ℕ)) (by omega) inb x).symm)

theorem pc_o (s : Fin 4) (o : ℕ) (ho : o = 128 * (s : ℕ)) {W : FVec Ideal S384x256 .bf16} (hW : Meets P 3328 (by omega) (nb t s) W)
    {s0 s1 s2 s3 : FVec Ideal S384x512 .f32} {r0 r1 r2 r3 : FVec Ideal S1x512 .f32}
    (h0 : Scores P t s 0 s0) (h1 : Scores P t s 1 s1) (h2 : Scores P t s 2 s2) (h3 : Scores P t s 3 s3)
    (k0 : SinkRow sk 0 r0) (k1 : SinkRow sk 1 r1) (k2 : SinkRow sk 2 r2) (k3 : SinkRow sk 3 r3) (inb) (y : S128x1024.Idx) :
    orow (ots (dupl 0 W) s0 r0) (ots (dupl 1 W) s1 r1) (ots (dupl 2 W) s2 r2) (ots (dupl 3 W) s3 r3) y
      = oB P sk t ((Rect.unit (s := S512x1024) ![o, 0] ![128, 1024] inb).emb y) := by
  subst ho
  idx_vars y
  have em : (Rect.unit (s := S512x1024) ![128 * (s : ℕ), 0] ![128, 1024] inb).emb (ix2 y0 y1) = ix2 (⟨128 * (s : ℕ) + (y0 : ℕ), by omega⟩ : Fin 512) y1 := by
    blk_ext
  have hS : ∀ g : Fin 4, Scores P t s g ((![s0, s1, s2, s3] : Fin 4 → FVec Ideal S384x512 .f32) g) := fun | 0 => h0 | 1 => h1 | 2 => h2 | 3 => h3
  have hR : ∀ g : Fin 4, SinkRow sk g ((![r0, r1, r2, r3] : Fin 4 → FVec Ideal S1x512 .f32) g) := fun | 0 => k0 | 1 => k1 | 2 => k2 | 3 => k3
  refine (orow_at (fun g => ots (dupl g W) ((![s0, s1, s2, s3] : Fin 4 → FVec Ideal S384x512 .f32) g) ((![r0, r1, r2, r3] : Fin 4 → FVec Ideal S1x512 .f32) g)) y0 y1).trans ?_
  refine Eq.trans ?_ (congrArg (oB P sk t) em.symm)
  refine (tile_ot P sk _ _ _ (hS _ _) (hR _ _) (fun k hk d => ?_) _).trans ?_
  · refine (hW k hk _).trans (congrArg P (ix2_congr rfl ?_))
    dsimp only [hd]
    omega
  · refine Eq.trans ?_ (oB_at _ _).symm
    have ht := lt16 t
    refine ov_congr _ _ _ _ _ _ _ _ ?_ ?_ ?_ ?_
    · dsimp only [nb]
      omega
    · dsimp only [hd]
      omega
    · dsimp only [qx]
      omega
    · dsimp only
      omega
end

end Cert.AttnFwdIdeal.Block

end

end
-- ==== Proof.AttnFwd.Final.lean ====
module

public import proofs.«01_k».proof.Proof.AttnFwd.Block

@[expose] public section

set_option maxRecDepth 16384

noncomputable section

open Idealize.ShloMosaic Idealize.ShloMosaic.TcCoe Idealize.SL.Sem

/-!
# What the attention's forward call leaves in its result arrays
-/

namespace Cert.AttnFwdIdeal.Block
open Cert.AttnFwdIdeal Cert.AttnFwdIdeal.Gen

variable (m : (ℓ : Loc nD τ sig) → Buf (Elt Ideal) ℓ) (c : Dev nD) (t : Fin cfg0.N)

theorem rQ : Queries (pj m c) t (View.read (Elt Ideal) (ms0_0 t).view ((hs0_0 t).unread (X0_0 m c t))) := fun r j =>
  (congrFun ((hs0_0 t).read_unread _) _).trans (b0_at m c t r j)

theorem rS : Sinks (snks m c) (View.read (Elt Ideal) (ms0_7 t).view ((hs0_7 t).unread (iblk m c 7 t))) := fun h =>
  (congrFun ((hs0_7 t).read_unread _) _).trans (b7_at m c t h)

theorem rK : Rows t (pj m c) 3072 (by omega) (View.read (Elt Ideal) (ms0_1 t).view ((hs0_1 t).unread (iblk m c 1 t)))
    (View.read (Elt Ideal) (ms0_2 t).view ((hs0_2 t).unread (iblk m c 2 t))) (View.read (Elt Ideal) (ms0_3 t).view ((hs0_3 t).unread (iblk m c 3 t))) where
  a r j := (congrFun ((hs0_1 t).read_unread _) _).trans (b1_at m c t r j)
  b r j := (congrFun ((hs0_2 t).read_unread _) _).trans (b2_at m c t r j)
  c r j := (congrFun ((hs0_3 t).read_unread _) _).trans (b3_at m c t r j)

theorem rV : Rows t (pj m c) 3328 (by omega) (View.read (Elt Ideal) (ms0_4 t).view ((hs0_4 t).unread (iblk m c 4 t)))
    (View.read (Elt Ideal) (ms0_5 t).view ((hs0_5 t).unread (iblk m c 5 t))) (View.read (Elt Ideal) (ms0_6 t).view ((hs0_6 t).unread (iblk m c 6 t))) where
  a r j := (congrFun ((hs0_4 t).read_unread _) _).trans (b4_at m c t r j)
  b r j := (congrFun ((hs0_5 t).read_unread _) _).trans (b5_at m c t r j)
  c r j := (congrFun ((hs0_6 t).read_unread _) _).trans (b6_at m c t r j)

/-! The windows of keys and of values the four blocks of queries meet. -/

abbrev kw0 := meets0 (rK m c t) 0 rfl inb_S128x256_S128x256_0_0 inb_S512x256_S128x256_0_0 inb_S512x256_S128x256_128_0
abbrev kw1 := meets_mid (rK m c t) 1 0 128 256 rfl rfl rfl (by omega) inb_S512x256_S128x256_0_0 inb_S512x256_S128x256_128_0 inb_S512x256_S128x256_256_0
abbrev kw2 := meets_mid (rK m c t) 2 128 256 384 rfl rfl rfl (by omega) inb_S512x256_S128x256_128_0 inb_S512x256_S128x256_256_0 inb_S512x256_S128x256_384_0
abbrev kw3 := meets3 (rK m c t) 3 rfl inb_S512x256_S128x256_256_0 inb_S512x256_S128x256_384_0 inb_S128x256_S128x256_0_0
abbrev vw0 := meets0 (rV m c t) 0 rfl inb_S128x256_S128x256_0_0 inb_S512x256_S128x256_0_0 inb_S512x256_S128x256_128_0
abbrev vw1 := meets_mid (rV m c t) 1 0 128 256 rfl rfl rfl (by omega) inb_S512x256_S128x256_0_0 inb_S512x256_S128x256_128_0 inb_S512x256_S128x256_256_0
abbrev vw2 := meets_mid (rV m c t) 2 128 256 384 rfl rfl rfl (by omega) inb_S512x256_S128x256_128_0 inb_S512x256_S128x256_256_0 inb_S512x256_S128x256_384_0
abbrev vw3 := meets3 (rV m c t) 3 rfl inb_S512x256_S128x256_256_0 inb_S512x256_S128x256_384_0 inb_S128x256_S128x256_0_0

/-! The scores of the sixteen groups, and the sinks of the four. -/

abbrev z00 {S : FVec Ideal S3x4x384x512 .f32} (hS : S = tabS) (inb) := pt_sc 0 0 (kw0 m c t) (rQ m c t) hS 0 0 128 rfl rfl rfl inb_S512x1024_S128x128_0_0 inb_S512x1024_S128x128_0_128 _ (off1 t 0) inb
abbrev z01 {S : FVec Ideal S3x4x384x512 .f32} (hS : S = tabS) (inb) := pt_sc 0 1 (kw0 m c t) (rQ m c t) hS 0 256 384 rfl rfl rfl inb_S512x1024_S128x128_0_256 inb_S512x1024_S128x128_0_384 _ (off2 t 0) inb
abbrev z02 {S : FVec Ideal S3x4x384x512 .f32} (hS : S = tabS) (inb) := pt_sc 0 2 (kw0 m c t) (rQ m c t) hS 0 512 640 rfl rfl rfl inb_S512x1024_S128x128_0_512 inb_S512x1024_S128x128_0_640 _ (off3 t 0) inb
abbrev z03 {S : FVec Ideal S3x4x384x512 .f32} (hS : S = tabS) (inb) := pt_sc 0 3 (kw0 m c t) (rQ m c t) hS 0 768 896 rfl rfl rfl inb_S512x1024_S128x128_0_768 inb_S512x1024_S128x128_0_896 _ (off4 t 0) inb
abbrev z10 {S : FVec Ideal S3x4x384x512 .f32} (hS : S = tabS) (inb) := pt_sc 1 0 (kw1 m c t) (rQ m c t) hS 128 0 128 rfl rfl rfl inb_S512x1024_S128x128_128_0 inb_S512x1024_S128x128_128_128 _ (off1 t 1) inb
abbrev z11 {S : FVec Ideal S3x4x384x512 .f32} (hS : S = tabS) (inb) := pt_sc 1 1 (kw1 m c t) (rQ m c t) hS 128 256 384 rfl rfl rfl inb_S512x1024_S128x128_128_256 inb_S512x1024_S128x128_128_384 _ (off2 t 1) inb
abbrev z12 {S : FVec Ideal S3x4x384x512 .f32} (hS : S = tabS) (inb) := pt_sc 1 2 (kw1 m c t) (rQ m c t) hS 128 512 640 rfl rfl rfl inb_S512x1024_S128x128_128_512 inb_S512x1024_S128x128_128_640 _ (off3 t 1) inb
abbrev z13 {S : FVec Ideal S3x4x384x512 .f32} (hS : S = tabS) (inb) := pt_sc 1 3 (kw1 m c t) (rQ m c t) hS 128 768 896 rfl rfl rfl inb_S512x1024_S128x128_128_768 inb_S512x1024_S128x128_128_896 _ (off4 t 1) inb
abbrev z20 {S : FVec Ideal S3x4x384x512 .f32} (hS : S = tabS) (inb) := pt_sc 2 0 (kw2 m c t) (rQ m c t) hS 256 0 128 rfl rfl rfl inb_S512x1024_S128x128_256_0 inb_S512x1024_S128x128_256_128 _ (off1 t 2) inb
abbrev z21 {S : FVec Ideal S3x4x384x512 .f32} (hS : S = tabS) (inb) := pt_sc 2 1 (kw2 m c t) (rQ m c t) hS 256 256 384 rfl rfl rfl inb_S512x1024_S128x128_256_256 inb_S512x1024_S128x128_256_384 _ (off2 t 2) inb
abbrev z22 {S : FVec Ideal S3x4x384x512 .f32} (hS : S = tabS) (inb) := pt_sc 2 2 (kw2 m c t) (rQ m c t) hS 256 512 640 rfl rfl rfl inb_S512x1024_S128x128_256_512 inb_S512x1024_S128x128_256_640 _ (off3 t 2) inb
abbrev z23 {S : FVec Ideal S3x4x384x512 .f32} (hS : S = tabS) (inb) := pt_sc 2 3 (kw2 m c t) (rQ m c t) hS 256 768 896 rfl rfl rfl inb_S512x1024_S128x128_256_768 inb_S512x1024_S128x128_256_896 _ (off4 t 2) inb
abbrev z30 {S : FVec Ideal S3x4x384x512 .f32} (hS : S = tabS) (inb) := pt_sc 3 0 (kw3 m c t) (rQ m c t) hS 384 0 128 rfl rfl rfl inb_S512x1024_S128x128_384_0 inb_S512x1024_S128x128_384_128 _ (off1 t 3) inb
abbrev z31 {S : FVec Ideal S3x4x384x512 .f32} (hS : S = tabS) (inb) := pt_sc 3 1 (kw3 m c t) (rQ m c t) hS 384 256 384 rfl rfl rfl inb_S512x1024_S128x128_384_256 inb_S512x1024_S128x128_384_384 _ (off2 t 3) inb
abbrev z32 {S : FVec Ideal S3x4x384x512 .f32} (hS : S = tabS) (inb) := pt_sc 3 2 (kw3 m c t) (rQ m c t) hS 384 512 640 rfl rfl rfl inb_S512x1024_S128x128_384_512 inb_S512x1024_S128x128_384_640 _ (off3 t 3) inb
abbrev z33 {S : FVec Ideal S3x4x384x512 .f32} (hS : S = tabS) (inb) := pt_sc 3 3 (kw3 m c t) (rQ m c t) hS 384 768 896 rfl rfl rfl inb_S512x1024_S128x128_384_768 inb_S512x1024_S128x128_384_896 _ (off4 t 3) inb

abbrev u0 (x0 x1 x2 x3) := pt_snk 0 (rS m c t) 0 1 2 3 rfl rfl rfl rfl inb_S1x16_S1x1_0_0 inb_S1x16_S1x1_0_1 inb_S1x16_S1x1_0_2 inb_S1x16_S1x1_0_3 x0 x1 x2 x3
abbrev u1 (x0 x1 x2 x3) := pt_snk 1 (rS m c t) 4 5 6 7 rfl rfl rfl rfl inb_S1x16_S1x1_0_4 inb_S1x16_S1x1_0_5 inb_S1x16_S1x1_0_6 inb_S1x16_S1x1_0_7 x0 x1 x2 x3
abbrev u2 (x0 x1 x2 x3) := pt_snk 2 (rS m c t) 8 9 10 11 rfl rfl rfl rfl inb_S1x16_S1x1_0_8 inb_S1x16_S1x1_0_9 inb_S1x16_S1x1_0_10 inb_S1x16_S1x1_0_11 x0 x1 x2 x3
abbrev u3 (x0 x1 x2 x3) := pt_snk 3 (rS m c t) 12 13 14 15 rfl rfl rfl rfl inb_S1x16_S1x1_0_12 inb_S1x16_S1x1_0_13 inb_S1x16_S1x1_0_14 inb_S1x16_S1x1_0_15 x0 x1 x2 x3

/-! The table, as a point that wrote it carries it and as a point that found it does. -/

theorem carried (n : ℕ) (hn) (h : (Memref.whole cc0_scratch0).IsWhole) :
    View.read (Elt Ideal) (View.whole cc0_scratch0) (h.unread (outsAt0 m c n hn).2.2) = tabS :=
  (read_unread_whole _ _ _).trans (tab_all m c n hn)

/-- The twelve tiles of the table, as the grid's first point stores them. -/
abbrev tiles : List (View.Piece (Elt Ideal) S3x4x384x512 .f32) := [
  ⟨Rect.unit (s := S3x4x384x512) ![2, 3, 0, 0] ![1, 1, 384, 512] inb_S3x4x384x512_S1x1x384x512_2_3_0_0, k0_pay31 (k0_pay3 (F := Ideal)) (k0_pay22 (iota .tc S384x128 32 [0] iota_S384x128_d0_w32) k0_pay2)⟩,
  ⟨Rect.unit (s := S3x4x384x512) ![2, 2, 0, 0] ![1, 1, 384, 512] inb_S3x4x384x512_S1x1x384x512_2_2_0_0, k0_pay30 (k0_pay3 (F := Ideal)) (k0_pay22 (iota .tc S384x128 32 [0] iota_S384x128_d0_w32) k0_pay2) (k0_pay28 (k0_pay3 (F := Ideal))) (k0_pay29 (F := Ideal))⟩,
  ⟨Rect.unit (s := S3x4x384x512) ![2, 1, 0, 0] ![1, 1, 384, 512] inb_S3x4x384x512_S1x1x384x512_2_1_0_0, k0_pay27 (k0_pay3 (F := Ideal)) (k0_pay22 (iota .tc S384x128 32 [0] iota_S384x128_d0_w32) k0_pay2)⟩,
  ⟨Rect.unit (s := S3x4x384x512) ![2, 0, 0, 0] ![1, 1, 384, 512] inb_S3x4x384x512_S1x1x384x512_2_0_0_0, k0_pay26 (k0_pay3 (F := Ideal)) (k0_pay22 (iota .tc S384x128 32 [0] iota_S384x128_d0_w32) k0_pay2) (k0_pay23 (iota .tc S384x128 32 [0] iota_S384x128_d0_w32) k0_pay2 (k0_pay3 (F := Ideal))) (k0_pay24 (k0_pay3 (F := Ideal))) (k0_pay25 (F := Ideal))⟩,
  ⟨Rect.unit (s := S3x4x384x512) ![1, 3, 0, 0] ![1, 1, 384, 512] inb_S3x4x384x512_S1x1x384x512_1_3_0_0, k0_pay21 (k0_pay3 (F := Ideal)) (k0_pay12 k0_pay2)⟩,
  ⟨Rect.unit (s := S3x4x384x512) ![1, 2, 0, 0] ![1, 1, 384, 512] inb_S3x4x384x512_S1x1x384x512_1_2_0_0, k0_pay20 (k0_pay16 (k0_pay3 (F := Ideal)) (k0_pay12 k0_pay2)) (k0_pay17 (k0_pay3 (F := Ideal)) (k0_pay12 k0_pay2)) (k0_pay18 (k0_pay3 (F := Ideal)) (k0_pay12 k0_pay2)) (k0_pay19 (k0_pay3 (F := Ideal)) (k0_pay12 k0_pay2))⟩,
  ⟨Rect.unit (s := S3x4x384x512) ![1, 1, 0, 0] ![1, 1, 384, 512] inb_S3x4x384x512_S1x1x384x512_1_1_0_0, k0_pay15 (k0_pay3 (F := Ideal)) (k0_pay12 k0_pay2)⟩,
  ⟨Rect.unit (s := S3x4x384x512) ![1, 0, 0, 0] ![1, 1, 384, 512] inb_S3x4x384x512_S1x1x384x512_1_0_0_0, k0_pay14 (k0_pay13 k0_pay2 (k0_pay3 (F := Ideal)))⟩,
  ⟨Rect.unit (s := S3x4x384x512) ![0, 3, 0, 0] ![1, 1, 384, 512] inb_S3x4x384x512_S1x1x384x512_0_3_0_0, k0_pay11 (k0_pay3 (F := Ideal)) k0_pay4 (k0_pay10 (k0_pay3 (F := Ideal)) k0_pay4)⟩,
  ⟨Rect.unit (s := S3x4x384x512) ![0, 2, 0, 0] ![1, 1, 384, 512] inb_S3x4x384x512_S1x1x384x512_0_2_0_0, k0_pay9 (k0_pay3 (F := Ideal)) k0_pay4⟩,
  ⟨Rect.unit (s := S3x4x384x512) ![0, 1, 0, 0] ![1, 1, 384, 512] inb_S3x4x384x512_S1x1x384x512_0_1_0_0, k0_pay8 (k0_pay3 (F := Ideal)) k0_pay4 (k0_pay6 (F := Ideal)) (k0_pay7 (F := Ideal))⟩,
  ⟨Rect.unit (s := S3x4x384x512) ![0, 0, 0, 0] ![1, 1, 384, 512] inb_S3x4x384x512_S1x1x384x512_0_0_0_0, (k0_pay5 (F := Ideal))⟩]

theorem tiles_tab : View.PiecesOf tabS tiles := by
  unfold tiles
  refine ⟨?_, ?_, ?_, ?_, ?_, ?_, ?_, ?_, ?_, ?_, ?_, ?_, trivial⟩
  · exact bq3 2 (by omega) _ inb_S3x4x384x512_S1x1x384x512_2_3_0_0 hm2
  · exact bq2 2 (by omega) _ inb_S3x4x384x512_S1x1x384x512_2_2_0_0 hm2
  · exact bq1 2 (by omega) _ inb_S3x4x384x512_S1x1x384x512_2_1_0_0 hm2
  · exact bq0 2 (by omega) _ inb_S3x4x384x512_S1x1x384x512_2_0_0_0 hm2
  · exact bq3 1 (by omega) _ inb_S3x4x384x512_S1x1x384x512_1_3_0_0 hm1
  · exact bq2 1 (by omega) _ inb_S3x4x384x512_S1x1x384x512_1_2_0_0 hm1
  · exact bq1 1 (by omega) _ inb_S3x4x384x512_S1x1x384x512_1_1_0_0 hm1
  · exact bq0 1 (by omega) _ inb_S3x4x384x512_S1x1x384x512_1_0_0_0 hm1
  · exact bq3 0 (by omega) _ inb_S3x4x384x512_S1x1x384x512_0_3_0_0 hm0
  · exact bq2 0 (by omega) _ inb_S3x4x384x512_S1x1x384x512_0_2_0_0 hm0
  · exact bq1 0 (by omega) _ inb_S3x4x384x512_S1x1x384x512_0_1_0_0 hm0
  · exact bq0 0 (by omega) _ inb_S3x4x384x512_S1x1x384x512_0_0_0_0 hm0

theorem laid : View.canon tiles = tabS :=
  funext fun y => canon_of (e := .f32) tabS tiles tiles_tab y (View.cover_of_tiled (s := S3x4x384x512) tiles ![1, 1, 384, 512] rfl y)

theorem written : View.read (Elt Ideal) (View.whole cc0_scratch0) ((View.whole cc0_scratch0).writes (Elt Ideal) (View.whole cc0_scratch0).junk tiles) = tabS :=
  (View.read_writes_junk_eq_canon _ tiles).trans laid

set_option maxHeartbeats 4000000 in
theorem st_B (h : ¬ t.val % 16 = 0) (y : S4x8x512.Idx) : (outsAt0 m c t.val t.isLt).2.1 y = stB (pj m c) (snks m c) t y := by
  rw [outsAt0_B m c t h]
  dsimp only
  frame_out
  refine canon_of (e := .f32) (stB (pj m c) (snks m c) t) _ ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact pc_iv 3 3 3 7 rfl rfl (z33 m c t (carried m c _ _ _) _) (u3 m c t _ _ _ _) inb_S4x8x512_S1x1x512_3_7_0
    · exact pc_mx 3 3 3 3 rfl rfl (z33 m c t (carried m c _ _ _) _) (u3 m c t _ _ _ _) inb_S4x8x512_S1x1x512_3_3_0
    · exact pc_iv 3 2 3 6 rfl rfl (z32 m c t (carried m c _ _ _) _) (u2 m c t _ _ _ _) inb_S4x8x512_S1x1x512_3_6_0
    · exact pc_mx 3 2 3 2 rfl rfl (z32 m c t (carried m c _ _ _) _) (u2 m c t _ _ _ _) inb_S4x8x512_S1x1x512_3_2_0
    · exact pc_iv 3 1 3 5 rfl rfl (z31 m c t (carried m c _ _ _) _) (u1 m c t _ _ _ _) inb_S4x8x512_S1x1x512_3_5_0
    · exact pc_mx 3 1 3 1 rfl rfl (z31 m c t (carried m c _ _ _) _) (u1 m c t _ _ _ _) inb_S4x8x512_S1x1x512_3_1_0
    · exact pc_iv 3 0 3 4 rfl rfl (z30 m c t (carried m c _ _ _) _) (u0 m c t _ _ _ _) inb_S4x8x512_S1x1x512_3_4_0
    · exact pc_mx 3 0 3 0 rfl rfl (z30 m c t (carried m c _ _ _) _) (u0 m c t _ _ _ _) inb_S4x8x512_S1x1x512_3_0_0
    · exact pc_iv 2 3 2 7 rfl rfl (z23 m c t (carried m c _ _ _) _) (u3 m c t _ _ _ _) inb_S4x8x512_S1x1x512_2_7_0
    · exact pc_mx 2 3 2 3 rfl rfl (z23 m c t (carried m c _ _ _) _) (u3 m c t _ _ _ _) inb_S4x8x512_S1x1x512_2_3_0
    · exact pc_iv 2 2 2 6 rfl rfl (z22 m c t (carried m c _ _ _) _) (u2 m c t _ _ _ _) inb_S4x8x512_S1x1x512_2_6_0
    · exact pc_mx 2 2 2 2 rfl rfl (z22 m c t (carried m c _ _ _) _) (u2 m c t _ _ _ _) inb_S4x8x512_S1x1x512_2_2_0
    · exact pc_iv 2 1 2 5 rfl rfl (z21 m c t (carried m c _ _ _) _) (u1 m c t _ _ _ _) inb_S4x8x512_S1x1x512_2_5_0
    · exact pc_mx 2 1 2 1 rfl rfl (z21 m c t (carried m c _ _ _) _) (u1 m c t _ _ _ _) inb_S4x8x512_S1x1x512_2_1_0
    · exact pc_iv 2 0 2 4 rfl rfl (z20 m c t (carried m c _ _ _) _) (u0 m c t _ _ _ _) inb_S4x8x512_S1x1x512_2_4_0
    · exact pc_mx 2 0 2 0 rfl rfl (z20 m c t (carried m c _ _ _) _) (u0 m c t _ _ _ _) inb_S4x8x512_S1x1x512_2_0_0
    · exact pc_iv 1 3 1 7 rfl rfl (z13 m c t (carried m c _ _ _) _) (u3 m c t _ _ _ _) inb_S4x8x512_S1x1x512_1_7_0
    · exact pc_mx 1 3 1 3 rfl rfl (z13 m c t (carried m c _ _ _) _) (u3 m c t _ _ _ _) inb_S4x8x512_S1x1x512_1_3_0
    · exact pc_iv 1 2 1 6 rfl rfl (z12 m c t (carried m c _ _ _) _) (u2 m c t _ _ _ _) inb_S4x8x512_S1x1x512_1_6_0
    · exact pc_mx 1 2 1 2 rfl rfl (z12 m c t (carried m c _ _ _) _) (u2 m c t _ _ _ _) inb_S4x8x512_S1x1x512_1_2_0
    · exact pc_iv 1 1 1 5 rfl rfl (z11 m c t (carried m c _ _ _) _) (u1 m c t _ _ _ _) inb_S4x8x512_S1x1x512_1_5_0
    · exact pc_mx 1 1 1 1 rfl rfl (z11 m c t (carried m c _ _ _) _) (u1 m c t _ _ _ _) inb_S4x8x512_S1x1x512_1_1_0
    · exact pc_iv 1 0 1 4 rfl rfl (z10 m c t (carried m c _ _ _) _) (u0 m c t _ _ _ _) inb_S4x8x512_S1x1x512_1_4_0
    · exact pc_mx 1 0 1 0 rfl rfl (z10 m c t (carried m c _ _ _) _) (u0 m c t _ _ _ _) inb_S4x8x512_S1x1x512_1_0_0
    · exact pc_iv 0 3 0 7 rfl rfl (z03 m c t (carried m c _ _ _) _) (u3 m c t _ _ _ _) inb_S4x8x512_S1x1x512_0_7_0
    · exact pc_mx 0 3 0 3 rfl rfl (z03 m c t (carried m c _ _ _) _) (u3 m c t _ _ _ _) inb_S4x8x512_S1x1x512_0_3_0
    · exact pc_iv 0 2 0 6 rfl rfl (z02 m c t (carried m c _ _ _) _) (u2 m c t _ _ _ _) inb_S4x8x512_S1x1x512_0_6_0
    · exact pc_mx 0 2 0 2 rfl rfl (z02 m c t (carried m c _ _ _) _) (u2 m c t _ _ _ _) inb_S4x8x512_S1x1x512_0_2_0
    · exact pc_iv 0 1 0 5 rfl rfl (z01 m c t (carried m c _ _ _) _) (u1 m c t _ _ _ _) inb_S4x8x512_S1x1x512_0_5_0
    · exact pc_mx 0 1 0 1 rfl rfl (z01 m c t (carried m c _ _ _) _) (u1 m c t _ _ _ _) inb_S4x8x512_S1x1x512_0_1_0
    · exact pc_iv 0 0 0 4 rfl rfl (z00 m c t (carried m c _ _ _) _) (u0 m c t _ _ _ _) inb_S4x8x512_S1x1x512_0_4_0
    · exact pc_mx 0 0 0 0 rfl rfl (z00 m c t (carried m c _ _ _) _) (u0 m c t _ _ _ _) inb_S4x8x512_S1x1x512_0_0_0
  · exact View.cover_of_tiled (s := S4x8x512) _ ![1, 1, 512] rfl y

set_option maxHeartbeats 4000000 in
theorem o_B (h : ¬ t.val % 16 = 0) (y : S512x1024.Idx) : (outsAt0 m c t.val t.isLt).1 y = oB (pj m c) (snks m c) t y := by
  rw [outsAt0_B m c t h]
  dsimp only
  frame_out
  refine canon_of (e := .bf16) (oB (pj m c) (snks m c) t) _ ?_ y ?_
  · refine ⟨?_, ?_, ?_, ?_, trivial⟩
    · exact pc_o 3 384 rfl (vw3 m c t) (z30 m c t (carried m c _ _ _) _) (z31 m c t (carried m c _ _ _) _) (z32 m c t (carried m c _ _ _) _) (z33 m c t (carried m c _ _ _) _) (u0 m c t _ _ _ _) (u1 m c t _ _ _ _) (u2 m c t _ _ _ _) (u3 m c t _ _ _ _) inb_S512x1024_S128x1024_384_0
    · exact pc_o 2 256 rfl (vw2 m c t) (z20 m c t (carried m c _ _ _) _) (z21 m c t (carried m c _ _ _) _) (z22 m c t (carried m c _ _ _) _) (z23 m c t (carried m c _ _ _) _) (u0 m c t _ _ _ _) (u1 m c t _ _ _ _) (u2 m c t _ _ _ _) (u3 m c t _ _ _ _) inb_S512x1024_S128x1024_256_0
    · exact pc_o 1 128 rfl (vw1 m c t) (z10 m c t (carried m c _ _ _) _) (z11 m c t (carried m c _ _ _) _) (z12 m c t (carried m c _ _ _) _) (z13 m c t (carried m c _ _ _) _) (u0 m c t _ _ _ _) (u1 m c t _ _ _ _) (u2 m c t _ _ _ _) (u3 m c t _ _ _ _) inb_S512x1024_S128x1024_128_0
    · exact pc_o 0 0 rfl (vw0 m c t) (z00 m c t (carried m c _ _ _) _) (z01 m c t (carried m c _ _ _) _) (z02 m c t (carried m c _ _ _) _) (z03 m c t (carried m c _ _ _) _) (u0 m c t _ _ _ _) (u1 m c t _ _ _ _) (u2 m c t _ _ _ _) (u3 m c t _ _ _ _) inb_S512x1024_S128x1024_0_0
  · exact View.cover_of_tiled (s := S512x1024) _ ![128, 1024] rfl y

set_option maxHeartbeats 4000000 in
theorem st_A (h : t.val % 16 = 0) (y : S4x8x512.Idx) : (outsAt0 m c t.val t.isLt).2.1 y = stB (pj m c) (snks m c) t y := by
  rw [outsAt0_A m c t h]
  dsimp only
  frame_out
  refine canon_of (e := .f32) (stB (pj m c) (snks m c) t) _ ?_ y ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact pc_iv 3 3 3 7 rfl rfl (z33 m c t (by first | exact laid | exact written) _) (u3 m c t _ _ _ _) inb_S4x8x512_S1x1x512_3_7_0
    · exact pc_mx 3 3 3 3 rfl rfl (z33 m c t (by first | exact laid | exact written) _) (u3 m c t _ _ _ _) inb_S4x8x512_S1x1x512_3_3_0
    · exact pc_iv 3 2 3 6 rfl rfl (z32 m c t (by first | exact laid | exact written) _) (u2 m c t _ _ _ _) inb_S4x8x512_S1x1x512_3_6_0
    · exact pc_mx 3 2 3 2 rfl rfl (z32 m c t (by first | exact laid | exact written) _) (u2 m c t _ _ _ _) inb_S4x8x512_S1x1x512_3_2_0
    · exact pc_iv 3 1 3 5 rfl rfl (z31 m c t (by first | exact laid | exact written) _) (u1 m c t _ _ _ _) inb_S4x8x512_S1x1x512_3_5_0
    · exact pc_mx 3 1 3 1 rfl rfl (z31 m c t (by first | exact laid | exact written) _) (u1 m c t _ _ _ _) inb_S4x8x512_S1x1x512_3_1_0
    · exact pc_iv 3 0 3 4 rfl rfl (z30 m c t (by first | exact laid | exact written) _) (u0 m c t _ _ _ _) inb_S4x8x512_S1x1x512_3_4_0
    · exact pc_mx 3 0 3 0 rfl rfl (z30 m c t (by first | exact laid | exact written) _) (u0 m c t _ _ _ _) inb_S4x8x512_S1x1x512_3_0_0
    · exact pc_iv 2 3 2 7 rfl rfl (z23 m c t (by first | exact laid | exact written) _) (u3 m c t _ _ _ _) inb_S4x8x512_S1x1x512_2_7_0
    · exact pc_mx 2 3 2 3 rfl rfl (z23 m c t (by first | exact laid | exact written) _) (u3 m c t _ _ _ _) inb_S4x8x512_S1x1x512_2_3_0
    · exact pc_iv 2 2 2 6 rfl rfl (z22 m c t (by first | exact laid | exact written) _) (u2 m c t _ _ _ _) inb_S4x8x512_S1x1x512_2_6_0
    · exact pc_mx 2 2 2 2 rfl rfl (z22 m c t (by first | exact laid | exact written) _) (u2 m c t _ _ _ _) inb_S4x8x512_S1x1x512_2_2_0
    · exact pc_iv 2 1 2 5 rfl rfl (z21 m c t (by first | exact laid | exact written) _) (u1 m c t _ _ _ _) inb_S4x8x512_S1x1x512_2_5_0
    · exact pc_mx 2 1 2 1 rfl rfl (z21 m c t (by first | exact laid | exact written) _) (u1 m c t _ _ _ _) inb_S4x8x512_S1x1x512_2_1_0
    · exact pc_iv 2 0 2 4 rfl rfl (z20 m c t (by first | exact laid | exact written) _) (u0 m c t _ _ _ _) inb_S4x8x512_S1x1x512_2_4_0
    · exact pc_mx 2 0 2 0 rfl rfl (z20 m c t (by first | exact laid | exact written) _) (u0 m c t _ _ _ _) inb_S4x8x512_S1x1x512_2_0_0
    · exact pc_iv 1 3 1 7 rfl rfl (z13 m c t (by first | exact laid | exact written) _) (u3 m c t _ _ _ _) inb_S4x8x512_S1x1x512_1_7_0
    · exact pc_mx 1 3 1 3 rfl rfl (z13 m c t (by first | exact laid | exact written) _) (u3 m c t _ _ _ _) inb_S4x8x512_S1x1x512_1_3_0
    · exact pc_iv 1 2 1 6 rfl rfl (z12 m c t (by first | exact laid | exact written) _) (u2 m c t _ _ _ _) inb_S4x8x512_S1x1x512_1_6_0
    · exact pc_mx 1 2 1 2 rfl rfl (z12 m c t (by first | exact laid | exact written) _) (u2 m c t _ _ _ _) inb_S4x8x512_S1x1x512_1_2_0
    · exact pc_iv 1 1 1 5 rfl rfl (z11 m c t (by first | exact laid | exact written) _) (u1 m c t _ _ _ _) inb_S4x8x512_S1x1x512_1_5_0
    · exact pc_mx 1 1 1 1 rfl rfl (z11 m c t (by first | exact laid | exact written) _) (u1 m c t _ _ _ _) inb_S4x8x512_S1x1x512_1_1_0
    · exact pc_iv 1 0 1 4 rfl rfl (z10 m c t (by first | exact laid | exact written) _) (u0 m c t _ _ _ _) inb_S4x8x512_S1x1x512_1_4_0
    · exact pc_mx 1 0 1 0 rfl rfl (z10 m c t (by first | exact laid | exact written) _) (u0 m c t _ _ _ _) inb_S4x8x512_S1x1x512_1_0_0
    · exact pc_iv 0 3 0 7 rfl rfl (z03 m c t (by first | exact laid | exact written) _) (u3 m c t _ _ _ _) inb_S4x8x512_S1x1x512_0_7_0
    · exact pc_mx 0 3 0 3 rfl rfl (z03 m c t (by first | exact laid | exact written) _) (u3 m c t _ _ _ _) inb_S4x8x512_S1x1x512_0_3_0
    · exact pc_iv 0 2 0 6 rfl rfl (z02 m c t (by first | exact laid | exact written) _) (u2 m c t _ _ _ _) inb_S4x8x512_S1x1x512_0_6_0
    · exact pc_mx 0 2 0 2 rfl rfl (z02 m c t (by first | exact laid | exact written) _) (u2 m c t _ _ _ _) inb_S4x8x512_S1x1x512_0_2_0
    · exact pc_iv 0 1 0 5 rfl rfl (z01 m c t (by first | exact laid | exact written) _) (u1 m c t _ _ _ _) inb_S4x8x512_S1x1x512_0_5_0
    · exact pc_mx 0 1 0 1 rfl rfl (z01 m c t (by first | exact laid | exact written) _) (u1 m c t _ _ _ _) inb_S4x8x512_S1x1x512_0_1_0
    · exact pc_iv 0 0 0 4 rfl rfl (z00 m c t (by first | exact laid | exact written) _) (u0 m c t _ _ _ _) inb_S4x8x512_S1x1x512_0_4_0
    · exact pc_mx 0 0 0 0 rfl rfl (z00 m c t (by first | exact laid | exact written) _) (u0 m c t _ _ _ _) inb_S4x8x512_S1x1x512_0_0_0
  · exact View.cover_of_tiled (s := S4x8x512) _ ![1, 1, 512] rfl y

set_option maxHeartbeats 4000000 in
theorem o_A (h : t.val % 16 = 0) (y : S512x1024.Idx) : (outsAt0 m c t.val t.isLt).1 y = oB (pj m c) (snks m c) t y := by
  rw [outsAt0_A m c t h]
  dsimp only
  frame_out
  refine canon_of (e := .bf16) (oB (pj m c) (snks m c) t) _ ?_ y ?_
  · refine ⟨?_, ?_, ?_, ?_, trivial⟩
    · exact pc_o 3 384 rfl (vw3 m c t) (z30 m c t (by first | exact laid | exact written) _) (z31 m c t (by first | exact laid | exact written) _) (z32 m c t (by first | exact laid | exact written) _) (z33 m c t (by first | exact laid | exact written) _) (u0 m c t _ _ _ _) (u1 m c t _ _ _ _) (u2 m c t _ _ _ _) (u3 m c t _ _ _ _) inb_S512x1024_S128x1024_384_0
    · exact pc_o 2 256 rfl (vw2 m c t) (z20 m c t (by first | exact laid | exact written) _) (z21 m c t (by first | exact laid | exact written) _) (z22 m c t (by first | exact laid | exact written) _) (z23 m c t (by first | exact laid | exact written) _) (u0 m c t _ _ _ _) (u1 m c t _ _ _ _) (u2 m c t _ _ _ _) (u3 m c t _ _ _ _) inb_S512x1024_S128x1024_256_0
    · exact pc_o 1 128 rfl (vw1 m c t) (z10 m c t (by first | exact laid | exact written) _) (z11 m c t (by first | exact laid | exact written) _) (z12 m c t (by first | exact laid | exact written) _) (z13 m c t (by first | exact laid | exact written) _) (u0 m c t _ _ _ _) (u1 m c t _ _ _ _) (u2 m c t _ _ _ _) (u3 m c t _ _ _ _) inb_S512x1024_S128x1024_128_0
    · exact pc_o 0 0 rfl (vw0 m c t) (z00 m c t (by first | exact laid | exact written) _) (z01 m c t (by first | exact laid | exact written) _) (z02 m c t (by first | exact laid | exact written) _) (z03 m c t (by first | exact laid | exact written) _) (u0 m c t _ _ _ _) (u1 m c t _ _ _ _) (u2 m c t _ _ _ _) (u3 m c t _ _ _ _) inb_S512x1024_S128x1024_0_0
  · exact View.cover_of_tiled (s := S512x1024) _ ![128, 1024] rfl y

theorem o_all (y : S512x1024.Idx) : (outsAt0 m c t.val t.isLt).1 y = oB (pj m c) (snks m c) t y := by
  by_cases h : t.val % 16 = 0
  · exact o_A m c t h y
  · exact o_B m c t h y

theorem st_all (y : S4x8x512.Idx) : (outsAt0 m c t.val t.isLt).2.1 y = stB (pj m c) (snks m c) t y := by
  by_cases h : t.val % 16 = 0
  · exact st_A m c t h y
  · exact st_B m c t h y

theorem emb8 (r : Fin 512) (j : Fin 1024) : ((cfg0.win 8).blk t).view.emb (ix2 r j) = ix2 (row t r) j := by
  blk_ext [idx t, row]

theorem final8 : (dats m 0 c).arrAt 8 (cfgs 0).N = oOut (pj m c) (snks m c) := by
  refine (dats m 0 c).arrAt_eq_of_covers 8 _ (by decide +kernel) fun t _ y => ?_
  blk_simp
  rw [after0_8]
  refine (o_all m c t y).trans ?_
  idx_vars y
  rw [emb8]
  rfl

theorem emb9 (s : Fin 4) (e : Fin 8) (x : Fin 512) : ((cfg0.win 9).blk t).view.emb (ix3 s e x) = ix3 (nb t s) e x := by
  blk_ext [idx t, nb]

theorem final9 : (dats m 0 c).arrAt 9 (cfgs 0).N = stOut (pj m c) (snks m c) := by
  refine (dats m 0 c).arrAt_eq_of_covers 9 _ (by decide +kernel) fun t _ y => ?_
  blk_simp
  rw [after0_9]
  refine (st_all m c t y).trans ?_
  idx_vars y
  rw [emb9]
  rfl

end Cert.AttnFwdIdeal.Block

end

end
-- ==== Proof.AttnFwd.Scores.lean ====
module

public import proofs.«01_k».proof.Proof.Gen.AttnFwdRefIdeal.Read
public import proofs.«01_k».proof.Proof.Step.Finite
public import proofs.«01_k».proof.Proof.AttnFwd.Form

@[expose] public section

set_option maxRecDepth 16384

noncomputable section

open Idealize.ShloMosaic Idealize.ShloMosaic.TcCoe Idealize.SL.Sem

/-!
# The scores of the attention's reference

The reference pads the keys and values with zeros at both ends of the sequence. Its scores are the kernel's.
-/

namespace Cert.AttnFwdRefIdeal.RefValue
open Cert.AttnFwdRefIdeal Cert.AttnFwdRefIdeal.Gen Cert.AttnFwdRefIdeal.Read
open Cert.AttnFwdIdeal.Block (adist near inside dist nslope bias krow qrow eighth qc kc vc sc)

/-- The head of a group and a place in it. -/
def hh (b g : Fin 4) : Fin 16 := ⟨4 * (b : ℕ) + (g : ℕ), by omega⟩

theorem ix2_eq {a b : ℕ} {i i' : Fin a} {j j' : Fin b} (hi : (i : ℕ) = i') (hj : (j : ℕ) = j') : ix2 i j = ix2 i' j' := by
  rw [Fin.ext hi, Fin.ext hj]

/-- A row's maximum, over the 384 keys. -/
theorem rowmax (y : FVec Ideal S64x4x4x128x384 .f32) (z : FVec Ideal S_ .f32) (n : Fin 64) (b g : Fin 4) (q : Fin 128) :
    Host.reduce (FloatOps.maximumf (F := Ideal) (φ := .f32)) y z reducesTo_S64x4x4x128x384_S64x4x4x128_d4 h_S_ (ix4 n b g q)
      = (Finset.univ : Finset (Fin 384)).fold max (z ix0) fun k : Fin 384 => y (ix5 n b g q k) := by
  have hr : S64x4x4x128x384.Reduces [4] S64x4x4x128 := by decide
  refine (Host.reduce_eq_fold_single _ _ _ _ hr _ _).trans ?_
  refine (congrArg₂ (fun (c : EReal) (f : Fin 384 → EReal) => (Finset.univ : Finset (Fin 384)).fold max c f)
    (congrArg z (funext fun i => i.elim0)) (funext fun k => congrArg y ?_) :)
  refine funext fun a => Fin.ext ?_
  match a with
  | ⟨0, _⟩ => rfl
  | ⟨1, _⟩ => rfl
  | ⟨2, _⟩ => rfl
  | ⟨3, _⟩ => rfl
  | ⟨4, _⟩ => rfl

/-- The two comparisons of a key's position say that it lies in the sequence. -/
theorem lane (n : Fin 64) (k : Fin 384) :
    IntOp.andi (IntOp.cmpi CmpIPredicate.sge (IntOp.addi (IntOp.subi (IntOp.muli (BitVec.ofNat 32 (n : ℕ)) 128#32) 128#32) (BitVec.ofNat 32 (k : ℕ))) 0#32)
      (IntOp.cmpi CmpIPredicate.slt (IntOp.addi (IntOp.subi (IntOp.muli (BitVec.ofNat 32 (n : ℕ)) 128#32) 128#32) (BitVec.ofNat 32 (k : ℕ))) 8192#32)
      = BitVec.ofBool (inside n k) := by
  have h : ∀ (n : Fin 64) (k : Fin 384),
    IntOp.andi (IntOp.cmpi CmpIPredicate.sge (IntOp.addi (IntOp.subi (IntOp.muli (BitVec.ofNat 32 (n : ℕ)) 128#32) 128#32) (BitVec.ofNat 32 (k : ℕ))) 0#32)
      (IntOp.cmpi CmpIPredicate.slt (IntOp.addi (IntOp.subi (IntOp.muli (BitVec.ofNat 32 (n : ℕ)) 128#32) 128#32) (BitVec.ofNat 32 (k : ℕ))) 8192#32)
      = BitVec.ofBool (inside n k) := by decide +kernel
  exact h n k

theorem slopes (h : Fin 16) : -(val_main_v76 (F := Ideal) (ix1 h)) = nslope h := by
  fin_cases h
  all_goals
    pointwise [val_main_v76, val_main_v60, val_main_v61, val_main_v62, val_main_v63, val_main_v64, val_main_v65, val_main_v66, val_main_v67, val_main_v68, val_main_v69, val_main_v70, val_main_v71, val_main_v72, val_main_v73, val_main_v74, val_main_v75, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22]
    simp [nslope, Ideal.ofBits, Ideal.ieee, -EReal.coe_mul]

theorem nslope_real (h : Fin 16) : Step.IsReal (nslope h) := by
  fin_cases h
  all_goals
    simp [nslope, Ideal.ofBits, Ideal.ieee, -EReal.coe_mul]
    exact ⟨_, rfl⟩

theorem eighth_real : Step.IsReal eighth := by
  simp only [eighth, Ideal.ofBits, Ideal.ieee]
  norm_num [-EReal.coe_mul]
  exact ⟨_, rfl⟩

theorem neg_inf : Ideal.ofBits .f32 0xFF800000#32 = ⊥ := by simp [Ideal.ofBits, Ideal.ieee]

section stages
variable (x0 : FVec Ideal S8192x5632 .f32) (x1 : FVec Ideal S16 .f32)

theorem v11_at (n : Fin 64) (q : Fin 128) (b g : Fin 4) (d : Fin 64) :
    val_main_v11 (F := Ideal) x0 (ix5 n q b g d) = qc x0 (qrow n q) (hh b g) d * eighth := by
  pointwise [val_main_v11, val_main_v10, val_main_v6, val_main_v9, val_main_cst, val_main_v2, qc, qrow, hh, eighth]
  exact congrArg (· * _) (congrArg x0 (ix2_eq (by dsimp only <;> omega) (by dsimp only <;> omega)))

theorem v13_at (n : Fin 64) (k : Fin 384) (b g : Fin 4) (d : Fin 64) (r : Fin 8448) (hr : (r : ℕ) = 128 * (n : ℕ) + (k : ℕ)) :
    val_main_v13 (F := Ideal) x0 (ix3 r b d) = if inside n k = true then kc x0 (krow n k) (hh b g) d else 0 := by
  pointwise [val_main_v13, val_main_v12, val_main_cst_0, val_main_v7, val_main_v3, kc, hh]
  by_cases hi : inside n k = true
  · have h := of_decide_eq_true hi
    rw [if_pos hi]
    refine (dif_neg (by omega)).trans ((dif_pos (by omega)).trans (congrArg x0 (ix2_eq ?_ ?_)))
    · dsimp only [krow]; omega
    · dsimp only; omega
  · have h : ¬ (128 ≤ 128 * (n : ℕ) + (k : ℕ) ∧ 128 * (n : ℕ) + (k : ℕ) < 8320) := fun c => hi (decide_eq_true c)
    rw [if_neg hi]
    split_ifs <;> first
      | omega
      | rfl

theorem v18_at (n : Fin 64) (k : Fin 384) (b g : Fin 4) (d : Fin 64) :
    val_main_v18 (F := Ideal) x0 (ix4 n k b d) = if inside n k = true then kc x0 (krow n k) (hh b g) d else 0 := by
  pointwise [val_main_v18, val_main_v15, val_main_v16, val_main_v17, val_main_v14]
  split_ifs
  · exact v13_at x0 n k b g d _ (by dsimp only; omega)
  · exact v13_at x0 n k b g d _ (by dsimp only; omega)
  · exact v13_at x0 n k b g d _ (by dsimp only; omega)
  · exact v13_at x0 n k b g d _ (by dsimp only; omega)
  · exact v13_at x0 n k b g d _ (by dsimp only; omega)
  · exact v13_at x0 n k b g d _ (by dsimp only; omega)

theorem v20_at (n : Fin 64) (k : Fin 384) (b g : Fin 4) (d : Fin 64) (r : Fin 8448) (hr : (r : ℕ) = 128 * (n : ℕ) + (k : ℕ)) :
    val_main_v20 (F := Ideal) x0 (ix3 r b d) = if inside n k = true then vc x0 (krow n k) (hh b g) d else 0 := by
  pointwise [val_main_v20, val_main_v19, val_main_cst_1, val_main_v8, val_main_v4, vc, hh]
  by_cases hi : inside n k = true
  · have h := of_decide_eq_true hi
    rw [if_pos hi]
    refine (dif_neg (by omega)).trans ((dif_pos (by omega)).trans (congrArg x0 (ix2_eq ?_ ?_)))
    · dsimp only [krow]; omega
    · dsimp only; omega
  · have h : ¬ (128 ≤ 128 * (n : ℕ) + (k : ℕ) ∧ 128 * (n : ℕ) + (k : ℕ) < 8320) := fun c => hi (decide_eq_true c)
    rw [if_neg hi]
    split_ifs <;> first
      | omega
      | rfl

theorem v25_at (n : Fin 64) (k : Fin 384) (b g : Fin 4) (d : Fin 64) :
    val_main_v25 (F := Ideal) x0 (ix4 n k b d) = if inside n k = true then vc x0 (krow n k) (hh b g) d else 0 := by
  pointwise [val_main_v25, val_main_v22, val_main_v23, val_main_v24, val_main_v21]
  split_ifs
  all_goals exact v20_at x0 n k b g d _ (by dsimp only; omega)

theorem v27_at (n : Fin 64) (b g : Fin 4) (q : Fin 128) (k : Fin 384) (h : inside n k = true) :
    val_main_v27 (F := Ideal) x0 (ix5 n b g q k)
      = ∑ d : Fin 64, kc x0 (krow n k) (hh b g) d * (qc x0 (qrow n q) (hh b g) d * eighth) := by
  pointwise [val_main_v27, val_main_v26]
  refine Finset.sum_congr rfl fun d _ => ?_
  rw [v18_at x0 n k b g d, v11_at x0 n q b g d, if_pos h]

theorem v47_at (q : Fin 128) (k : Fin 384) : val_main_v47 (F := Ideal) (ix2 q k) = adist q k := by
  pointwise [val_main_v47, val_main_v36, val_main_v35, val_main_v34, val_main_v33, val_main_v32, val_main_v31, val_main_c, val_main_v30, val_main_v29, val_main_v28, adist]
  rfl

theorem v79_at (q : Fin 128) (k : Fin 384) : val_main_v79 (F := Ideal) (ix2 q k) = adist q k := by
  pointwise [val_main_v79, val_main_v36, val_main_v35, val_main_v34, val_main_v33, val_main_v32, val_main_v31, val_main_c, val_main_v30, val_main_v29, val_main_v28, adist]
  rfl

theorem v55_at (n : Fin 64) (k : Fin 384) : val_main_v55 (F := Ideal) (ix2 n k) = BitVec.ofBool (inside n k) := by
  refine Eq.trans ?_ (lane n k)
  pointwise [val_main_v55, val_main_v54, val_main_v53, val_main_v52, val_main_v51, val_main_v50, val_main_c_5, val_main_c_6, val_main_v46, val_main_v45, val_main_v44, val_main_v43, val_main_v42, val_main_v41, val_main_v40, val_main_v39, val_main_v38, val_main_v37, val_main_v29, val_main_c_2, val_main_c_3]

theorem v59_at (n : Fin 64) (q : Fin 128) (k : Fin 384) :
    val_main_v59 (F := Ideal) (ix3 n q k) = BitVec.ofBool (near q k && inside n k) := by
  have e : ∀ a b : Bool, IntOp.andi (BitVec.ofBool a) (BitVec.ofBool b) = BitVec.ofBool (a && b) := by decide
  refine Eq.trans ?_ (e _ _)
  pointwise [val_main_v59, val_main_v58, val_main_v57, val_main_v56, val_main_v50, val_main_v49, val_main_v48, val_main_c_4]
  rw [v55_at, v47_at]
  rfl

theorem v84_at (b g : Fin 4) (q : Fin 128) (k : Fin 384) :
    val_main_v84 (F := Ideal) (ix4 b g q k) = nslope (hh b g) * dist q k := by
  pointwise [val_main_v84, val_main_v83, val_main_v82, val_main_v81, val_main_v80, val_main_v78, val_main_v77]
  rw [v79_at, ← slopes]
  refine congrArg₂ (· * ·) (congrArg (fun z => -(val_main_v76 (F := Ideal) (ix1 z))) (Fin.ext ?_)) rfl
  dsimp only [hh]
  omega

theorem v89_at (n : Fin 64) (b g : Fin 4) (q : Fin 128) (k : Fin 384) :
    val_main_v89 (F := Ideal) x0 (ix5 n b g q k) = sc x0 n (hh b g) q k := by
  pointwise [val_main_v89, val_main_v88, val_main_v87, val_main_v86, val_main_v85, val_main_call0_v0, val_main_call0_v1, val_main_call0_v2, val_main_cst_23]
  rw [v59_at, v84_at]
  unfold sc bias
  by_cases h : near q k = true ∧ inside n k = true
  · rw [if_pos h, h.1, h.2, v27_at x0 n b g q k h.2]
    rfl
  · rw [if_neg h, EReal.add_bot]
    have hb : (near q k && inside n k) = false := by
      rw [← Bool.and_eq_true] at h
      exact Bool.eq_false_iff.2 h
    rw [hb]
    exact neg_inf

end stages

end Cert.AttnFwdRefIdeal.RefValue

end

end
-- ==== Proof.AttnFwd.Ref.lean ====
module

public import proofs.«01_k».proof.Proof.Gen.Pre_attn_finite
public import proofs.«01_k».proof.Proof.AttnFwd.Scores

@[expose] public section

set_option maxRecDepth 16384

noncomputable section

open Idealize.ShloMosaic Idealize.ShloMosaic.TcCoe Idealize.SL.Sem

/-!
# What the reference of the attention's forward call computes

The reference takes the softmax and then the product; the kernel takes the product first and multiplies by the
denominator's inverse. The row maxima and the denominators agree as they stand; the products agree where the queries,
keys, values and sinks are real numbers.
-/

namespace Cert.AttnFwdRefIdeal.RefValue
open Cert.AttnFwdRefIdeal Cert.AttnFwdRefIdeal.Gen Cert.AttnFwdRefIdeal.Read
open Cert.AttnFwdIdeal.Block (adist near inside dist nslope bias krow qrow eighth qc kc vc sc mx pr den ov oAt stAt oOut stOut)

section stages
variable (x0 : FVec Ideal S8192x5632 .f32) (x1 : FVec Ideal S16 .f32)

/-- A row's maximum before the sink. -/
theorem v91_at (n : Fin 64) (b g : Fin 4) (q : Fin 128) :
    val_main_v91 (F := Ideal) x0 (ix4 n b g q) = (Finset.univ : Finset (Fin 384)).fold max ⊥ fun k => sc x0 n (hh b g) q k := by
  unfold val_main_v91
  refine (rowmax _ _ n b g q).trans ?_
  rw [val_main_cst_24_apply]
  simp only [v89_at]
  exact congrArg (fun c : EReal => (Finset.univ : Finset (Fin 384)).fold max c fun k => sc x0 n (hh b g) q k) neg_inf

theorem v94_at (n : Fin 64) (b g : Fin 4) (q : Fin 128) :
    val_main_v94 (F := Ideal) x0 x1 (ix5 n b g q (0 : Fin 1)) = mx x0 x1 n (hh b g) q := by
  have i92 : idx_main_v92 (ix5 n b g q (0 : Fin 1)) = ix4 n b g q := by
    refine funext fun a => ?_
    match a with
    | ⟨0, _⟩ => rfl
    | ⟨1, _⟩ => rfl
    | ⟨2, _⟩ => rfl
    | ⟨3, _⟩ => rfl
  have h93 : val_main_v93 (F := Ideal) x1 (ix5 n b g q (0 : Fin 1)) = x1 (ix1 (hh b g)) := by
    pointwise [val_main_v93, val_main_v90]
    exact congrArg (fun z => x1 (ix1 z)) (Fin.ext (by dsimp only [hh]; omega))
  rw [val_main_v94_apply, val_main_v92_apply, i92, v91_at, h93]
  rfl

theorem v97_at (n : Fin 64) (b g : Fin 4) (q : Fin 128) (k : Fin 384) :
    val_main_v97 (F := Ideal) x0 x1 (ix5 n b g q k) = pr x0 x1 n (hh b g) q k := by
  pointwise [val_main_v97, val_main_v96, val_main_v95]
  rw [v89_at, v94_at]
  rfl

theorem v103_at (n : Fin 64) (b g : Fin 4) (q : Fin 128) :
    val_main_v103 (F := Ideal) x0 x1 (ix5 n b g q (0 : Fin 1)) = den x0 x1 n (hh b g) q := by
  pointwise [val_main_v103, val_main_v102, val_main_v101, val_main_v100, val_main_v99, val_main_v98, val_main_cst_25, val_main_v90]
  rw [v94_at]
  simp only [v97_at]
  unfold den
  exact congrArg (_ + ·) (congrArg (fun z => Ideal.exp (x1 (ix1 z) - _)) (Fin.ext (by dsimp only [hh]; omega)))

theorem v107_at (n : Fin 64) (q : Fin 128) (b g : Fin 4) (d : Fin 64) :
    val_main_v107 (F := Ideal) x0 x1 (ix5 n q b g d)
      = ∑ k : Fin 384, (if inside n k = true then vc x0 (krow n k) (hh b g) d else 0)
          * Ideal.div (pr x0 x1 n (hh b g) q k) (den x0 x1 n (hh b g) q) := by
  pointwise [val_main_v107, val_main_v106, val_main_v105, val_main_v104]
  refine Finset.sum_congr rfl fun k _ => ?_
  rw [v25_at x0 n k b g d, v97_at, v103_at]

theorem v114_at (n : Fin 64) (e : Fin 8) (x : Fin 512) :
    val_main_v114 (F := Ideal) x0 x1 (ix3 n e x) = stAt x0 x1 n e x := by
  pointwise [val_main_v114, val_main_v112, val_main_v111, val_main_v110, val_main_v109, val_main_cst_26]
  unfold stAt
  refine dite_congr rfl (fun h => ?_) (fun h => ?_)
  · exact v94_at x0 x1 n _ _ _
  · exact congrArg (Ideal.div 1) (v103_at x0 x1 n _ _ _)

theorem st_eq : val_main_v114 (F := Ideal) x0 x1 = stOut x0 x1 := by
  funext i
  idx_vars i
  exact v114_at x0 x1 _ _ _

/-- The queries, keys and values, and the sinks, are real numbers. -/
structure Reals (x0 : FVec Ideal S8192x5632 .f32) (x1 : FVec Ideal S16 .f32) : Prop where
  h0 : ∀ (r : Fin 8192) (c : Fin 1536), Step.IsReal (x0 (ix2 r (⟨2048 + (c : ℕ), by omega⟩ : Fin 5632)))
  h1 : ∀ i, Step.IsReal (x1 i)

variable {x0 x1}

theorem qc_real (R : Reals x0 x1) (r : Fin 8192) (h : Fin 16) (d : Fin 64) : Step.IsReal (qc x0 r h d) := by
  have e := R.h0 r ⟨64 * (h : ℕ) + (d : ℕ), by omega⟩
  refine Eq.mp (congrArg Step.IsReal (congrArg x0 (ix2_eq rfl ?_))) e
  dsimp only; omega

theorem kc_real (R : Reals x0 x1) (r : Fin 8192) (h : Fin 16) (d : Fin 64) : Step.IsReal (kc x0 r h d) := by
  have e := R.h0 r ⟨1024 + (64 * ((h : ℕ) / 4) + (d : ℕ)), by omega⟩
  refine Eq.mp (congrArg Step.IsReal (congrArg x0 (ix2_eq rfl ?_))) e
  dsimp only; omega

theorem vc_real (R : Reals x0 x1) (r : Fin 8192) (h : Fin 16) (d : Fin 64) : Step.IsReal (vc x0 r h d) := by
  have e := R.h0 r ⟨1280 + (64 * ((h : ℕ) / 4) + (d : ℕ)), by omega⟩
  refine Eq.mp (congrArg Step.IsReal (congrArg x0 (ix2_eq rfl ?_))) e
  dsimp only; omega

/-- A score is a real number, or masked. -/
theorem sc_cases (R : Reals x0 x1) (n : Fin 64) (h : Fin 16) (q : Fin 128) (k : Fin 384) :
    sc x0 n h q k = ⊥ ∨ inside n k = true ∧ Step.IsReal (sc x0 n h q k) := by
  unfold sc bias
  by_cases hm : near q k = true ∧ inside n k = true
  · rw [if_pos hm]
    exact Or.inr ⟨hm.2, (Step.IsReal.sum fun d => (kc_real R _ _ _).mul ((qc_real R _ _ _).mul eighth_real)).add
      ((nslope_real h).mul ⟨_, rfl⟩)⟩
  · rw [if_neg hm, EReal.add_bot]
    exact Or.inl rfl

theorem mx_real (R : Reals x0 x1) (n : Fin 64) (h : Fin 16) (q : Fin 128) : Step.IsReal (mx x0 x1 n h q) := by
  obtain ⟨s, hs⟩ := R.h1 (ix1 h)
  have lo : (s : EReal) ≤ mx x0 x1 n h q := by
    unfold mx; rw [hs]; exact le_max_right _ _
  have hi : mx x0 x1 n h q < ⊤ := by
    unfold mx
    refine max_lt ((Finset.fold_max_lt _).2 ⟨bot_lt_top, fun k _ => ?_⟩) (by rw [hs]; exact EReal.coe_lt_top s)
    rcases sc_cases R n h q k with e | ⟨_, r, e⟩
    · rw [e]; exact bot_lt_top
    · rw [e]; exact EReal.coe_lt_top r
  refine ⟨(mx x0 x1 n h q).toReal, (EReal.coe_toReal hi.ne ?_).symm⟩
  intro e
  rw [e] at lo
  exact absurd lo (not_le.2 (EReal.bot_lt_coe s))

/-- A weight is a real number at least zero, and zero where the key is outside the sequence. -/
theorem pr_real (R : Reals x0 x1) (n : Fin 64) (h : Fin 16) (q : Fin 128) (k : Fin 384) :
    ∃ p : ℝ, 0 ≤ p ∧ pr x0 x1 n h q k = (p : EReal) ∧ (¬ inside n k = true → p = 0) := by
  obtain ⟨m, hm⟩ := mx_real R n h q
  unfold pr
  rw [hm]
  rcases sc_cases R n h q k with e | ⟨hi, r, e⟩
  · refine ⟨0, le_rfl, ?_, fun _ => rfl⟩
    rw [e, EReal.bot_sub, Ideal.exp_bot]
    rfl
  · refine ⟨Real.exp (r - m), (Real.exp_pos _).le, ?_, fun c => absurd hi c⟩
    rw [e, ← EReal.coe_sub, Ideal.exp_coe]

theorem ov_eq (R : Reals x0 x1) (n : Fin 64) (h : Fin 16) (q : Fin 128) (d : Fin 64) :
    ∑ k : Fin 384, (if inside n k = true then vc x0 (krow n k) h d else 0) * Ideal.div (pr x0 x1 n h q k) (den x0 x1 n h q)
      = ov x0 x1 n h q d := by
  choose p hp0 hp hpz using fun k => pr_real R n h q k
  choose v hv using fun k => vc_real R (krow n k) h d
  obtain ⟨m, hm⟩ := mx_real R n h q
  obtain ⟨s, hs⟩ := R.h1 (ix1 h)
  have hD : den x0 x1 n h q = (((∑ k, p k) + Real.exp (s - m) : ℝ) : EReal) := by
    unfold den
    rw [hm, hs, ← EReal.coe_sub, Ideal.exp_coe, EReal.coe_add, ← Step.coe_sum]
    exact congrArg (· + _) (Finset.sum_congr rfl fun k _ => hp k)
  have hpos : 0 < (∑ k, p k) + Real.exp (s - m) := add_pos_of_nonneg_of_pos (Finset.sum_nonneg fun k _ => hp0 k) (Real.exp_pos _)
  have hz : ∀ k, (if inside n k = true then vc x0 (krow n k) h d else 0) * Ideal.div (pr x0 x1 n h q k) (den x0 x1 n h q)
      = ((v k * p k * (1 / ((∑ k, p k) + Real.exp (s - m))) : ℝ) : EReal) := by
    intro k
    rw [hD, Ideal.div_coe hpos.ne', hp k, hv k]
    split_ifs with hi
    · rw [← EReal.coe_mul, ← EReal.coe_mul, mul_assoc]
    · rw [hpz k hi, zero_mul, mul_zero, zero_mul]
      rfl
  unfold ov Cert.AttnFwdIdeal.Block.inv
  rw [Finset.sum_congr rfl fun k _ => hz k, hD, Ideal.div_coe hpos.ne', Step.coe_sum,
    Finset.sum_congr rfl fun k _ => (by rw [hp k, hv k, ← EReal.coe_mul] : vc x0 (krow n k) h d * pr x0 x1 n h q k = ((v k * p k : ℝ) : EReal)),
    Step.coe_sum, one_mul, ← EReal.coe_mul, Finset.sum_mul]

theorem v113_at (R : Reals x0 x1) (r : Fin 8192) (j : Fin 1024) : val_main_v113 (F := Ideal) x0 x1 (ix2 r j) = oAt x0 x1 r j := by
  pointwise [val_main_v113, val_main_v108]
  refine (v107_at x0 x1 _ _ _ _ _).trans ((ov_eq R _ _ _ _).trans ?_)
  unfold oAt
  refine congrArg (fun z => ov x0 x1 _ z _ _) (Fin.ext ?_)
  dsimp only [hh]
  omega

theorem o_eq (R : Reals x0 x1) : val_main_v113 (F := Ideal) x0 x1 = oOut x0 x1 := by
  funext i
  idx_vars i
  exact v113_at R _ _

end stages

instance : Subsingleton (Cert.Pre_attn_finite.S_).Idx := ⟨fun a b => funext fun i => i.elim0⟩

/-- The precondition says that the arrays the attention reads hold real numbers. -/
theorem reals (x0 : FVec Ideal S8192x5632 .f32) (x1 : FVec Ideal S16 .f32)
    (h : Cert.Pre_attn_finite.fn (F := Ideal) x0 x1 = fun _ => 1#1) : Reals x0 x1 := by
  have e := congrFun h (fun i => i.elim0)
  unfold Cert.Pre_attn_finite.fn at e
  obtain ⟨e0, e1⟩ := Step.andi_one e
  refine ⟨fun r c => ?_, Step.isReal_of_all _ _ _ _ _ _ _ e1⟩
  have hr := Step.isReal_of_all _ _ _ _ _ _ _ e0 (ix2 r c)
  revert hr
  pointwise
  exact id

end Cert.AttnFwdRefIdeal.RefValue

end

end
-- ==== Proof.AttnFwd.Claim.lean ====
module

public import proofs.«01_k».proof.Defs
public import proofs.«01_k».proof.Proof.Gen.AttnFwdIdeal.Frame
public import proofs.«01_k».proof.Proof.Gen.AttnFwdRefIdeal.Run
public import proofs.«01_k».proof.Proof.AttnFwd.Final
public import proofs.«01_k».proof.Proof.AttnFwd.Ref

@[expose] public section

set_option maxRecDepth 16384

noncomputable section

open Idealize.ShloMosaic Idealize.ShloMosaic.TcCoe Idealize.SL.Sem

/-!
# The attention's forward call computes the attention
-/

namespace Cert.AttnFwd.Claims
open Cert.AttnFwdIdeal.Block Cert.AttnFwdRefIdeal.RefValue Cert.AttnFwdRefIdeal.Read

theorem preserves : Cert.preserves_AttnFwd_AttnFwdIdeal :=
  IdealRules.named_const.statement Cert.AttnFwdIdeal.κ "mask" .f32 0xF149F2CA#32 ⊥ rfl

/-- The kernel's run, each output array after it named. -/
theorem run_blocks (m : (ℓ : Loc Cert.AttnFwdIdeal.nD Cert.AttnFwdIdeal.τ Cert.AttnFwdIdeal.sig) → Buf (Elt Ideal) ℓ)
    (ρ : Dev Cert.AttnFwdIdeal.nD → PrngReg) :
    θ_run (Cert.AttnFwdIdeal.defs (F := Ideal)) (onTc (τ := Cert.AttnFwdIdeal.τ) (Cert.AttnFwdIdeal.main (F := Ideal))) ⟨m, fun _ => 0, ρ⟩ fun r => ∀ c : Dev Cert.AttnFwdIdeal.nD,
      r.2.mem ((c : Thread Cert.AttnFwdIdeal.nD Cert.AttnFwdIdeal.τ).loc Cert.AttnFwdIdeal.main_v6_0) = (Cert.AttnFwdIdeal.Gen.dats m 0 c).arrAt 8 (Cert.AttnFwdIdeal.cfgs 0).N
      ∧ r.2.mem ((c : Thread Cert.AttnFwdIdeal.nD Cert.AttnFwdIdeal.τ).loc Cert.AttnFwdIdeal.main_v6_1) = (Cert.AttnFwdIdeal.Gen.dats m 0 c).arrAt 9 (Cert.AttnFwdIdeal.cfgs 0).N
      ∧ r.2.mem ((c : Thread Cert.AttnFwdIdeal.nD Cert.AttnFwdIdeal.τ).loc Cert.AttnFwdIdeal.main_arg0) = m ((c : Thread Cert.AttnFwdIdeal.nD Cert.AttnFwdIdeal.τ).loc Cert.AttnFwdIdeal.main_arg0)
      ∧ r.2.mem ((c : Thread Cert.AttnFwdIdeal.nD Cert.AttnFwdIdeal.τ).loc Cert.AttnFwdIdeal.main_arg1) = m ((c : Thread Cert.AttnFwdIdeal.nD Cert.AttnFwdIdeal.τ).loc Cert.AttnFwdIdeal.main_arg1) :=
  (θ_run Cert.AttnFwdIdeal.defs _ _).mono (fun r h c => ⟨(h c).1 8, (h c).1 9,
      ((h c).2 Cert.AttnFwdIdeal.main_arg0 (Pipeline.mem_restRefs_of Cert.AttnFwdIdeal.main_arg0 (by decide) (by decide))).trans
        (Cert.AttnFwdIdeal.Gen.V_main_arg0 m c),
      ((h c).2 Cert.AttnFwdIdeal.main_arg1 (Pipeline.mem_restRefs_of Cert.AttnFwdIdeal.main_arg1 (by decide) (by decide))).trans
        (Cert.AttnFwdIdeal.Gen.V_main_arg1 m c)⟩)
    (Cert.AttnFwdIdeal.Gen.run_main m ρ)

/-- A function of two arguments at equal arguments. -/
theorem same2 {α0 α1 β : Type} (f : α0 → α1 → β) {x0 y0 : α0} {x1 y1 : α1} (h0 : x0 = y0) (h1 : x1 = y1) : f x0 x1 = f y0 y1 := by
  subst h0 h1; rfl

theorem algebraic : Cert.algebraic_AttnFwdIdeal_AttnFwdRefIdeal_pre_attn_finite
    (hAttnFwdIdeal := Cert.AttnFwdIdeal.Gen.facts) (hAttnFwdRefIdeal := Cert.AttnFwdRefIdeal.Gen.facts)
    (hPre_attn_finite := Cert.Pre_attn_finite.Gen.facts) := by
  intro m g m' g' hpre hag
  refine ⟨fun c => (Cert.AttnFwdIdeal.Gen.dats m 0 c).arrAt 8 (Cert.AttnFwdIdeal.cfgs 0).N,
    fun c => (Cert.AttnFwdIdeal.Gen.dats m 0 c).arrAt 9 (Cert.AttnFwdIdeal.cfgs 0).N,
    run_blocks m g,
    (θ_run _ _ _).mono (fun r h c => ?_) (Cert.AttnFwdRefIdeal.Value.run m' g')⟩
  obtain ⟨h0, h1, hk⟩ := h c
  obtain ⟨a0, a1⟩ := hag c
  have R := reals _ _ (hpre c)
  refine ⟨h0.trans ?_, h1.trans ?_, hk⟩
  · exact (val_main_v113_eq m' c).trans ((same2 (val_main_v113 (F := Ideal)) a0 a1).trans ((o_eq R).trans (final8 m c).symm))
  · exact (val_main_v114_eq m' c).trans ((same2 (val_main_v114 (F := Ideal)) a0 a1).trans ((st_eq _ _).trans (final9 m c).symm))

end Cert.AttnFwd.Claims

end

end
-- ==== Proof.NormX.Block.lean ====
module

public import proofs.«01_k».proof.Proof.Gen.NormXIdeal.Frame
public import proofs.«01_k».proof.Proof.Step.Norm
public import Idealize.ShloMosaic.Lib.Pipeline.ValueKit

@[expose] public section

set_option maxRecDepth 16384

noncomputable section

open Idealize.ShloMosaic Idealize.ShloMosaic.TcCoe Idealize.SL.Sem

/-!
# What the norm's forward call leaves in its result array
-/

namespace Cert.NormXIdeal.Block
open Cert.NormXIdeal Cert.NormXIdeal.Gen

/-- The rows, scaled to unit mean square, times the gain. -/
def normOut (x : FVec Ideal S8192x1024 .f32) (g : FVec Ideal S1024 .f32) : FVec Ideal S8192x1024 .bf16 := fun i =>
  x i * Step.scale (fun k => x (ix2 (i 0) k)) * g (ix1 (i 1))

variable (m : (ℓ : Loc nD τ sig) → Buf (Elt Ideal) ℓ)

/-- The blocks the grid's points read and write. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

theorem lt8 (t : Fin cfg0.N) : t.val < 8 := lt_of_lt_of_eq t.isLt N_0

/-- The array's row that is row `r` of the point's tile. -/
def row (t : Fin cfg0.N) (r : Fin 1024) : Fin 8192 := ⟨1024 * t.val + (r : ℕ), by have := lt8 t; omega⟩

theorem x_at (r j : Fin 1024) : iblk m c 0 t (ix2 r j) = m ((c : Thread nD τ).loc main_arg0) (ix2 (row t r) j) := by
  pointwise [row]
  blk_point [iblk, V, idx t]

theorem g_at (j : Fin 1024) : iblk m c 1 t (ix2 (0 : Fin 1) j) = m ((c : Thread nD τ).loc main_arg1) (ix1 j) := by
  pointwise
  blk_point [iblk, V, idx t]

theorem point (y : S1024x1024.Idx) : k0_pay1 (iblk m c 0 t) (iblk m c 1 t) y
    = normOut (m ((c : Thread nD τ).loc main_arg0)) (m ((c : Thread nD τ).loc main_arg1)) (((cfg0.win 2).blk t).view.emb y) := by
  idx_vars y
  rw [show ((cfg0.win 2).blk t).view.emb (ix2 y0 y1) = ix2 (row t y0) y1 by blk_ext [idx t, row]]
  pointwise [k0_pay1, normOut, Step.scale, Step.meanSq]
  simp only [x_at, g_at]

theorem final2 : (dats m 0 c).arrAt 2 (cfgs 0).N
    = normOut (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormXIdeal.Block

end

end
-- ==== Proof.NormX.Ref.lean ====
module

public import proofs.«01_k».proof.Proof.Gen.NormXRefIdeal.Read
public import proofs.«01_k».proof.Proof.NormX.Block

@[expose] public section

set_option maxRecDepth 16384

noncomputable section

open Idealize.ShloMosaic Idealize.ShloMosaic.TcCoe Idealize.SL.Sem

/-!
# What the reference of the norm computes
-/

namespace Cert.NormXRefIdeal.RefValue
open Cert.NormXRefIdeal Cert.NormXRefIdeal.Gen Cert.NormXRefIdeal.Read
open Cert.NormXIdeal.Block (normOut)

theorem norm_eq (x0 : FVec Ideal S8192x1024 .f32) (x1 : FVec Ideal S1024 .f32) :
    val_main_v13 (F := Ideal) x0 x1 = normOut x0 x1 := by
  funext i
  idx_vars i
  pointwise [val_main_v13, val_main_v12, val_main_v11, val_main_v10, val_main_v9, val_main_v8, val_main_v7, val_main_v6,
    val_main_v5, val_main_cst_1, val_main_v4, val_main_v3, val_main_cst_0, val_main_v2, val_main_v1, val_main_cst, val_main_v0,
    normOut, Step.scale, Step.meanSq]

end Cert.NormXRefIdeal.RefValue

end

end
-- ==== Proof.NormX.Claim.lean ====
module

public import proofs.«01_k».proof.Defs
public import proofs.«01_k».proof.Proof.Gen.NormXIdeal.Value
public import proofs.«01_k».proof.Proof.Gen.NormXRefIdeal.Run
public import proofs.«01_k».proof.Proof.NormX.Ref

@[expose] public section

set_option maxRecDepth 16384

noncomputable section

open Idealize.ShloMosaic Idealize.ShloMosaic.TcCoe Idealize.SL.Sem

/-!
# The norm's forward call computes the norm
-/

namespace Cert.NormX.Claims
open Cert.NormXIdeal.Block Cert.NormXRefIdeal.RefValue Cert.NormXRefIdeal.Read

theorem algebraic : Cert.algebraic_NormXIdeal_NormXRefIdeal
    (hNormXIdeal := Cert.NormXIdeal.Gen.facts) (hNormXRefIdeal := Cert.NormXRefIdeal.Gen.facts) := by
  intro m g m' g' hpre hag
  refine ⟨fun c => (Cert.NormXIdeal.Gen.dats m 0 c).arrAt 2 (Cert.NormXIdeal.cfgs 0).N,
    Cert.NormXIdeal.Value.run_blocks m g,
    (θ_run _ _ _).mono (fun r h c => ?_) (Cert.NormXRefIdeal.Value.run m' g')⟩
  obtain ⟨h0, hk⟩ := h c
  obtain ⟨a0, a1⟩ := hag c
  refine ⟨h0.trans ?_, hk⟩
  exact (val_main_v13_eq _ _).trans ((congrArg₂ (val_main_v13 (F := Ideal)) a0 a1).trans ((norm_eq _ _).trans (final2 m c).symm))

end Cert.NormX.Claims

end

end
-- ==== Proof.NormFfn.Body.lean ====
module

public import proofs.«01_k».proof.Proof.Gen.NormFfnIdeal.Frame
public import proofs.«01_k».proof.Proof.Gen.NormFfnIdeal.Skeleton
public import Idealize.ShloMosaic.Lib.Claim

@[expose] public section

set_option maxRecDepth 16384

noncomputable section

/-!
# The run of the norm with the feed-forward projection

At the even points the body norms a block of rows and multiplies it by the first half of the weight; at the odd
points it multiplies the block it finds in its own output buffer by the second half. The buffer is written back at
the odd points, where the body has stored nothing into it: it holds what the point before left, and the block of
rows, read at the even points only, is the same at both.
-/

namespace Cert.NormFfnIdeal.Body

open Cert.NormFfnIdeal Cert.NormFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole of each staging buffer, as the body's loads and stores name it. -/
abbrev rRows : Rect S1024x1024 := Rect.unit (s := S1024x1024) ![0, 0] S1024x1024.size inb_S1024x1024_S1024x1024_0_0
abbrev rGain : Rect S1x1024 := Rect.unit (s := S1x1024) ![0, 0] S1x1024.size inb_S1x1024_S1x1024_0_0
abbrev rWeight : Rect S2816x1024 := Rect.unit (s := S2816x1024) ![0, 0] S2816x1024.size inb_S2816x1024_S2816x1024_0_0
abbrev rOut : Rect S1024x2816 := Rect.unit (s := S1024x2816) ![0, 0] S1024x2816.size inb_S1024x2816_S1024x2816_0_0

/-- The normed block, as the body stores it. -/
def normed (x : Vec F S1024x1024 .f32) (g : Vec F S1x1024 .f32) : Vec F S1024x1024 .bf16 :=
  View.canon [⟨rRows, k0_pay1 (View.ld x rRows) (View.ld g rGain)⟩]

/-- The product of a normed block and a block of the weight, as the body stores it. -/
def product (y : Vec F S1024x1024 .bf16) (w : Vec F S2816x1024 .bf16) : Vec F S1024x2816 .bf16 :=
  View.canon [⟨rOut, k0_pay2 (View.ld y rRows) (View.ld w rWeight)⟩]

theorem cover_rows (p : Vec F S1024x1024 .bf16) (y : S1024x1024.Idx) :
    ∃ pc ∈ ([⟨rRows, p⟩] : List (View.Piece (Elt F) S1024x1024 .bf16)), y ∈ pc.1.set :=
  View.cover_of_tiled [⟨rRows, p⟩] S1024x1024.size (by rfl) y

theorem cover_out (p : Vec F S1024x2816 .bf16) (y : S1024x2816.Idx) :
    ∃ pc ∈ ([⟨rOut, p⟩] : List (View.Piece (Elt F) S1024x2816 .bf16)), y ∈ pc.1.set :=
  View.cover_of_tiled [⟨rOut, p⟩] S1024x2816.size (by rfl) y

section Triples

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S2816x1024 .bf16) (harg4 : arg4.IsWhole) (arg5 : Memref sig .tc .vmem S1024x1024 .bf16) (harg5 : arg5.IsWhole)
  (arg6 : Memref sig .tc .vmem S1024x2816 .bf16) (harg6 : arg6.IsWhole)
  (x0 : Vec F S1024x1024 .f32) (x1 : Vec F S1x1024 .f32) (x2 : Vec F S2816x1024 .bf16) (y : Vec F S1024x1024 .bf16)

/-- The buffers before a point: the inputs at their blocks, the normed rows as `Y` says, the product's at anything. -/
def buffers (Y : sProp 𝕄) : sProp 𝕄 :=
  iprop(owns (c : Thread nD τ) arg2 fullShare x0 ∗ owns (c : Thread nD τ) arg3 fullShare x1 ∗ owns (c : Thread nD τ) arg4 fullShare x2
    ∗ Y ∗ (∃ d, owns (c : Thread nD τ) arg6 fullShare d))

/-- The buffers after it, the normed rows at `y`. -/
def leaves : sProp 𝕄 :=
  iprop(owns (c : Thread nD τ) arg2 fullShare x0 ∗ owns (c : Thread nD τ) arg3 fullShare x1 ∗ owns (c : Thread nD τ) arg4 fullShare x2
    ∗ owns (c : Thread nD τ) arg5 fullShare y ∗ owns (c : Thread nD τ) arg6 fullShare (product y x2))

/-- An even point. -/
theorem sound_first (h : k0_cond1 i = 1#1) (K : PUnit → sProp 𝕄) :
    iprop(buffers c arg2 arg3 arg4 arg6 x0 x1 x2 iprop(∃ d, owns (c : Thread nD τ) arg5 fullShare d)
        ∗ (leaves c arg2 arg3 arg4 arg5 arg6 x0 x1 x2 (normed x0 x1) -∗ K ⟨⟩))
      ⊢ wp frame (wpE (defs₀ (F := F)) Variants.none c none) Set.univ
          (cc0_norm_ffn_in i arg2 harg2 arg3 harg3 arg4 harg4 arg5 harg5 arg6 harg6) K := by
  simp only [cc0_norm_ffn_in_eq_skeleton]; unfold cc0_norm_ffn_in_skel buffers leaves
  unfold owns
  iintro ⟨⟨⟨%f0, %hf0, H0⟩, ⟨%f1, %hf1, H1⟩, ⟨%f2, %hf2, H2⟩, ⟨%d3, %f3, -, H3⟩, ⟨%d4, %f4, -, H4⟩⟩, Hk⟩
  subst hf0 hf1 hf2
  sl_exec (disch := sl_exact h)
  sl_step
  iapply Hk
  have hn : sound_first.sl.H3_1 c arg2 arg3 f0 f1
      = [⟨rRows, k0_pay1 (View.ld (View.read (Elt F) arg2.view f0) rRows) (View.ld (View.read (Elt F) arg3.view f1) rGain)⟩] := by
    unfold sound_first.sl.H3_1
    rw [View.readAt_eq_ld, View.readAt_eq_ld]
  have hv : sound_first.sl.v3 c arg2 arg3 arg5 f0 f1
      = View.ld (normed (View.read (Elt F) arg2.view f0) (View.read (Elt F) arg3.view f1)) rRows := by
    unfold sound_first.sl.v3 normed
    rw [hn]
    exact View.readCov_eq_canon_ld _ _ rRows (cover_rows _)
  rw [hv, hn]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_rows _)
  iexists _; isplitr
  swap; · iexact H4
  ipureintro
  rw [View.readAt_eq_ld]
  exact View.read_writes_eq_canon _ _ _ (cover_out _)

/-- An odd point. -/
theorem sound_second (h : ¬ k0_cond1 i = 1#1) (K : PUnit → sProp 𝕄) :
    iprop(buffers c arg2 arg3 arg4 arg6 x0 x1 x2 (owns (c : Thread nD τ) arg5 fullShare y)
        ∗ (leaves c arg2 arg3 arg4 arg5 arg6 x0 x1 x2 y -∗ K ⟨⟩))
      ⊢ wp frame (wpE (defs₀ (F := F)) Variants.none c none) Set.univ
          (cc0_norm_ffn_in i arg2 harg2 arg3 harg3 arg4 harg4 arg5 harg5 arg6 harg6) K := by
  simp only [cc0_norm_ffn_in_eq_skeleton]; unfold cc0_norm_ffn_in_skel buffers leaves
  unfold owns
  iintro ⟨⟨⟨%f0, %hf0, H0⟩, ⟨%f1, %hf1, H1⟩, ⟨%f2, %hf2, H2⟩, ⟨%f3, %hf3, H3⟩, ⟨%d4, %f4, -, H4⟩⟩, Hk⟩
  subst hf0 hf1 hf2 hf3
  sl_exec (disch := sl_exact h)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

end Triples

/-! ## The data of the pipeline -/

/-- What each buffer holds after a point: the inputs' blocks, the block's normed rows, their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => normed (iblk m c 0 t) (iblk m c 1 t)
    | ⟨4, _⟩ => product (normed (iblk m c 0 t) (iblk m c 1 t)) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

section Points

variable (c : Dev nD) (t : Fin cfg0.N)

theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = normed (iblk m c 0 t) (iblk m c 1 t) := by dsimp only [dats]
theorem after0_4 : (dats m 0 c).after 4 t = product (normed (iblk m c 0 t) (iblk m c 1 t)) (iblk m c 2 t) := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d

/-- The body norms its rows at the even points. -/
theorem cond_iff : ∀ t : Fin cfg0.N, k0_cond1 (grid0.coords t) = 1#1 ↔ t.val % 2 = 0 :=
  (by decide +kernel : ∀ t : Fin grid0.N, _)

/-- The point before. -/
abbrev prev (t : Fin cfg0.N) : Fin cfg0.N := ⟨t.val - 1, Nat.lt_of_le_of_lt (Nat.sub_le _ _) t.isLt⟩

/-- The rows that an odd point's buffer holds are the even point's before it. -/
theorem rows_prev (ht : t.val % 2 = 1) : iblk m c 0 (prev t) = iblk m c 0 t := by
  have hf : (cfg0.win 0).fetch t = false := by
    rw [Bool.eq_false_iff, ne_eq, fetch0_0]; omega
  have h := (dats m 0 c).before_unfetched_in 0 rfl t hf (fun _ => rfl) (iblk m c 0 t)
  rw [before0_0] at h
  refine Eq.trans ?_ h.symm
  unfold Dat.kept; dsimp only [dats]; rfl

theorem gain_prev (ht : t.val % 2 = 1) : iblk m c 1 (prev t) = iblk m c 1 t := by
  have hf : (cfg0.win 1).fetch t = false := by
    rw [Bool.eq_false_iff, ne_eq, fetch0_1]; omega
  have h := (dats m 0 c).before_unfetched_in 1 rfl t hf (fun _ => rfl) (iblk m c 1 t)
  rw [before0_1] at h
  refine Eq.trans ?_ h.symm
  unfold Dat.kept; dsimp only [dats]; rfl

/-- What an odd point finds in the buffer of the normed rows. -/
theorem before0_3 (ht : t.val % 2 = 1) (d) : (dats m 0 c).before 3 t d = normed (iblk m c 0 t) (iblk m c 1 t) := by
  have hfl : (cfg0.win 3).flush (prev t) = false := by
    rw [Bool.eq_false_iff, ne_eq, flush0_3]; dsimp only [prev]; omega
  have hi : cfg0.idle 3 (cfg0.grid.coords (prev t)) = false := by
    show (!(k0_cond1 (grid0.coords (prev t)) == 1#1)) = false
    rw [(cond_iff (prev t)).mpr (by dsimp only [prev]; omega)]; rfl
  rw [(dats m 0 c).before_of_pos 3 t (by omega) ((cfg0.win 3).fetch_out rfl t)]
  unfold prev at hfl hi
  rw [hfl, if_neg Bool.false_ne_true]
  unfold Dat.left; rw [hi]
  rw [← rows_prev m c t ht, ← gain_prev m c t ht, ← after0_3]
  show (dats m 0 c).kept 3 (prev t) d = _
  unfold Dat.kept
  rw [Pipeline.fill_of_clip_none (cfg := cfg0) 3 _ (fun _ => rfl) d ((dats m 0 c).after 3 (prev t)), Pipeline.Window.fill_cut]

/-- A point either stores the normed rows or writes them back: either way the buffer is left at them. -/
theorem leavesExact_3 : (dats m 0 c).leavesExact 3 t
    = (owns (c : Thread nD τ) (st0_3 t) fullShare ((dats m 0 c).after 3 t) : sProp 𝕄) := by
  unfold Dat.leavesExact
  rcases Nat.mod_two_eq_zero_or_one t.val with ht | ht
  · have hi : cfg0.idle 3 (cfg0.grid.coords t) = false := by
      show (!(k0_cond1 (grid0.coords t) == 1#1)) = false
      rw [(cond_iff t).mpr ht]; rfl
    rw [hi]
  · have hf := (flush0_3 t).mpr ht
    rw [hf]
    cases cfg0.idle 3 (cfg0.grid.coords t) <;> rfl

/-! ## The body at a point -/

/-- What the body is called with, and what it returns. -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t
    ∗ owns (c : Thread nD τ) (st0_4 t) fullShare ((dats m 0 c).after 4 t))

theorem sound_body :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, leavesExact_3, after0_3, after0_4]
  rcases Nat.mod_two_eq_zero_or_one t.val with ht | ht
  · iintro ⟨HΦ, Ho, ⟨%d0, H0⟩, ⟨%d1, H1⟩, ⟨%d2, H2⟩, ⟨%d3, H3⟩, ⟨%d4, H4⟩⟩
    iapply (sound_first c (grid0.coords t) _ _ _ _ _ _ _ _ _ _ (iblk m c 0 t) (iblk m c 1 t) (iblk m c 2 t) ((cond_iff t).mpr ht) _)
    unfold buffers leaves
    isplitl [H0 H1 H2 H3 H4]
    · isplitl [H0]; · iexact H0
      isplitl [H1]; · iexact H1
      isplitl [H2]; · iexact H2
      isplitl [H3]; · iexists _; iexact H3
      iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_3 m c t ht]
    iintro ⟨HΦ, Ho, ⟨%d0, H0⟩, ⟨%d1, H1⟩, ⟨%d2, H2⟩, ⟨%d3, H3⟩, ⟨%d4, H4⟩⟩
    iapply (sound_second c (grid0.coords t) _ _ _ _ _ _ _ _ _ _ (iblk m c 0 t) (iblk m c 1 t) (iblk m c 2 t)
      (normed (iblk m c 0 t) (iblk m c 1 t)) (fun h => by have := (cond_iff t).mp h; omega) _)
    unfold buffers leaves
    isplitl [H0 H1 H2 H3 H4]
    · isplitl [H0]; · iexact H0
      isplitl [H1]; · iexact H1
      isplitl [H2]; · iexact H2
      isplitl [H3]; · iexact H3
      iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row : defs₀ (F := F) .tc cfg0.body (cfg0.bodyArgs t (cfg0.slots t)) = bodyAt0 t := by
  unfold defs₀; rw [Defs.onTc_tc]

end Points

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NormFfnIdeal.Body

end

end
-- ==== Proof.NormFfn.Block.lean ====
module

public import proofs.«01_k».proof.Proof.NormFfn.Body
public import proofs.«01_k».proof.Proof.Step.Norm
public import Idealize.ShloMosaic.Lib.Pipeline.ValueKit

@[expose] public section

set_option maxRecDepth 16384

noncomputable section

open Idealize.ShloMosaic Idealize.ShloMosaic.TcCoe Idealize.SL.Sem

/-!
# What the norm with the feed-forward projection leaves in its result arrays
-/

namespace Cert.NormFfnIdeal.Block
open Cert.NormFfnIdeal Cert.NormFfnIdeal.Gen Cert.NormFfnIdeal.Body

section
variable (x : FVec Ideal S8192x1024 .f32) (g : FVec Ideal S1024 .f32) (w : FVec Ideal S1024x5632 .f32)

/-- A row scaled to unit mean square, times the gain. -/
def nx (r : Fin 8192) (j : Fin 1024) : EReal := x (ix2 r j) * Step.scale (fun k => x (ix2 r k)) * g (ix1 j)

def normOut : FVec Ideal S8192x1024 .bf16 := fun i => nx x g (i 0) (i 1)
/-- The normed rows' projection. -/
def projOut : FVec Ideal S8192x5632 .bf16 := fun i => ∑ k : Fin 1024, nx x g (i 0) k * w (ix2 k (i 1))
end

variable (m : (ℓ : Loc nD τ sig) → Buf (Elt Ideal) ℓ)

/-- The blocks the grid's points read and write. -/
theorem idx : ∀ t : Fin cfg0.N, win0_0.index t = ![t.val / 2, 0] ∧ win0_1.index t = ![0, 0] ∧ win0_2.index t = ![t.val % 2, 0]
    ∧ win0_3.index t = ![t.val / 2, 0] ∧ win0_4.index t = ![t.val / 2, t.val % 2] :=
  (by decide +kernel : ∀ t : Fin grid0.N, _)

variable (c : Dev nD) (t : Fin cfg0.N)

theorem lt16 (t : Fin cfg0.N) : t.val < 16 := lt_of_lt_of_eq t.isLt N_0

/-- The array's row that is row `r` of the point's tile. -/
def row (t : Fin cfg0.N) (r : Fin 1024) : Fin 8192 := ⟨1024 * (t.val / 2) + (r : ℕ), by have := lt16 t; omega⟩

/-- The array's column that is column `j` of the point's half. -/
def col (t : Fin cfg0.N) (j : Fin 2816) : Fin 5632 := ⟨2816 * (t.val % 2) + (j : ℕ), by omega⟩

theorem x_at (r j : Fin 1024) : iblk m c 0 t (ix2 r j) = m ((c : Thread nD τ).loc main_arg0) (ix2 (row t r) j) := by
  pointwise [row]
  blk_point [iblk, V, idx t]

theorem g_at (j : Fin 1024) : iblk m c 1 t (ix2 (0 : Fin 1) j) = m ((c : Thread nD τ).loc main_arg1) (ix1 j) := by
  pointwise
  blk_point [iblk, V, idx t]

theorem w_at (j : Fin 2816) (k : Fin 1024) : iblk m c 2 t (ix2 j k) = m ((c : Thread nD τ).loc main_arg2) (ix2 k (col t j)) := by
  pointwise [col]
  blk_point [iblk, V, idx t]

theorem n_at (r j : Fin 1024) : k0_pay1 (iblk m c 0 t) (iblk m c 1 t) (ix2 r j)
    = nx (m ((c : Thread nD τ).loc main_arg0)) (m ((c : Thread nD τ).loc main_arg1)) (row t r) j := by
  pointwise [k0_pay1, nx, Step.scale, Step.meanSq]
  simp only [x_at, g_at]

/-- The point's normed block. -/
theorem normed_at (r j : Fin 1024) : normed (iblk m c 0 t) (iblk m c 1 t) (ix2 r j)
    = nx (m ((c : Thread nD τ).loc main_arg0)) (m ((c : Thread nD τ).loc main_arg1)) (row t r) j := by
  unfold normed
  frame_out
  exact n_at m c t r j

theorem final3 : (dats m 0 c).arrAt 3 (cfgs 0).N
    = normOut (m ((c : Thread nD τ).loc main_arg0)) (m ((c : Thread nD τ).loc main_arg1)) := by
  refine (dats m 0 c).arrAt_eq_of_covers 3 _ (by decide +kernel) fun t _ y => ?_
  blk_simp
  rw [after0_3]
  idx_vars y
  rw [show ((cfg0.win 3).blk t).view.emb (ix2 y0 y1) = ix2 (row t y0) y1 by blk_ext [idx t, row]]
  exact normed_at m c t y0 y1

theorem product_at (r : Fin 1024) (j : Fin 2816) :
    product (normed (iblk m c 0 t) (iblk m c 1 t)) (iblk m c 2 t) (ix2 r j)
    = projOut (m ((c : Thread nD τ).loc main_arg0)) (m ((c : Thread nD τ).loc main_arg1)) (m ((c : Thread nD τ).loc main_arg2))
      (ix2 (row t r) (col t j)) := by
  unfold product
  frame_out
  pointwise [k0_pay2, projOut]
  simp only [n_at, w_at]

theorem final4 : (dats m 0 c).arrAt 4 (cfgs 0).N
    = projOut (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  rw [show ((cfg0.win 4).blk t).view.emb (ix2 y0 y1) = ix2 (row t y0) (col t y1) by blk_ext [idx t, row, col]]
  exact product_at m c t y0 y1

/-- The run, with the two result arrays named. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4, h.2 c⟩)
    (θ_run_and (run_main m ρ) (frame_of m ρ (dats m) (A_eq m) (run_main m ρ)))

end Cert.NormFfnIdeal.Block

end

end
-- ==== Proof.NormFfn.Ref.lean ====
module

public import proofs.«01_k».proof.Proof.Gen.NormFfnRefIdeal.Read
public import proofs.«01_k».proof.Proof.NormFfn.Block

@[expose] public section

set_option maxRecDepth 16384

noncomputable section

open Idealize.ShloMosaic Idealize.ShloMosaic.TcCoe Idealize.SL.Sem

/-!
# What the reference of the norm with the feed-forward projection computes
-/

namespace Cert.NormFfnRefIdeal.RefValue
open Cert.NormFfnRefIdeal Cert.NormFfnRefIdeal.Gen Cert.NormFfnRefIdeal.Read
open Cert.NormFfnIdeal.Block (nx normOut projOut)

variable (x0 : FVec Ideal S8192x1024 .f32) (x1 : FVec Ideal S1024 .f32) (x2 : FVec Ideal S1024x5632 .f32)

theorem n_at (r : Fin 8192) (j : Fin 1024) : val_main_v12 (F := Ideal) x0 x1 (ix2 r j) = nx x0 x1 r j := by
  pointwise [val_main_v12, val_main_v11, val_main_v10, val_main_v9, val_main_v8, val_main_v7, val_main_v6,
    val_main_v5, val_main_cst_1, val_main_v4, val_main_v3, val_main_cst_0, val_main_v2, val_main_v1, val_main_cst, val_main_v0,
    nx, Step.scale, Step.meanSq]

theorem norm_eq : val_main_v13 (F := Ideal) x0 x1 = normOut x0 x1 := by
  funext i
  idx_vars i
  pointwise [val_main_v13, normOut]
  rw [n_at]

theorem proj_eq : val_main_v15 (F := Ideal) x0 x1 x2 = projOut x0 x1 x2 := by
  funext i
  idx_vars i
  pointwise [val_main_v15, val_main_v14, projOut]
  simp only [n_at]

end Cert.NormFfnRefIdeal.RefValue

end

end
-- ==== Proof.NormFfn.Claim.lean ====
module

public import proofs.«01_k».proof.Defs
public import proofs.«01_k».proof.Proof.Gen.NormFfn
public import proofs.«01_k».proof.Proof.Gen.NormFfnRefIdeal.Run
public import proofs.«01_k».proof.Proof.NormFfn.Ref

@[expose] public section

set_option maxRecDepth 16384

noncomputable section

open Idealize.ShloMosaic Idealize.ShloMosaic.TcCoe Idealize.SL.Sem

/-!
# The norm with the feed-forward projection computes the norm and the projection
-/

namespace Cert.NormFfn.Claims
open Cert.NormFfnIdeal.Block Cert.NormFfnRefIdeal.RefValue Cert.NormFfnRefIdeal.Read

/-- The kernel ends, with its arguments as they were: its text is the idealized one's, no operation rewritten. -/
theorem frame_kernel : Cert.quiescent_NormFfn (hNormFfn := Cert.NormFfn.Gen.facts) := fun m ρ _ => by
  refine Eq.mp ?_ (Cert.NormFfnIdeal.Body.frame (F := Bits) m ρ)
  sl_kernel_rfl

theorem frame_ideal : Cert.quiescent_NormFfnIdeal (hNormFfnIdeal := Cert.NormFfnIdeal.Gen.facts) := fun m ρ _ =>
  Cert.NormFfnIdeal.Body.frame (F := Ideal) m ρ

/-- A function of three arguments at equal arguments. -/
theorem same3 {α0 α1 α2 β : Type} (f : α0 → α1 → α2 → β) {x0 y0 : α0} {x1 y1 : α1} {x2 y2 : α2}
    (h0 : x0 = y0) (h1 : x1 = y1) (h2 : x2 = y2) : f x0 x1 x2 = f y0 y1 y2 := by
  subst h0 h1 h2; rfl

theorem algebraic : Cert.algebraic_NormFfnIdeal_NormFfnRefIdeal
    (hNormFfnIdeal := Cert.NormFfnIdeal.Gen.facts) (hNormFfnRefIdeal := Cert.NormFfnRefIdeal.Gen.facts) := by
  intro m g m' g' hpre hag
  refine ⟨fun c => (Cert.NormFfnIdeal.Body.dats m 0 c).arrAt 3 (Cert.NormFfnIdeal.cfgs 0).N,
    fun c => (Cert.NormFfnIdeal.Body.dats m 0 c).arrAt 4 (Cert.NormFfnIdeal.cfgs 0).N,
    run_blocks m g,
    (θ_run _ _ _).mono (fun r h c => ?_) (Cert.NormFfnRefIdeal.Value.run m' g')⟩
  obtain ⟨h0, h1, hk⟩ := h c
  obtain ⟨a0, a1, a2⟩ := hag c
  refine ⟨h0.trans ?_, h1.trans ?_, hk⟩
  · exact (val_main_v13_eq _ _).trans ((congrArg₂ (val_main_v13 (F := Ideal)) a0 a1).trans ((norm_eq _ _).trans (final3 m c).symm))
  · exact (val_main_v15_eq _ _ _).trans ((same3 (val_main_v15 (F := Ideal)) a0 a1 a2).trans ((proj_eq _ _ _).trans (final4 m c).symm))

end Cert.NormFfn.Claims

end

end
-- ==== Proof.ConvFwd.Block.lean ====
module

public import proofs.«01_k».proof.Proof.Gen.ConvFwdIdeal.Frame
public import proofs.«01_k».proof.Proof.Conv.Form
public import Idealize.ShloMosaic.Lib.Pipeline.ValueKit

@[expose] public section

set_option maxRecDepth 16384

noncomputable section

open Idealize.ShloMosaic Idealize.ShloMosaic.TcCoe Idealize.SL.Sem

/-!
# What the convolution's forward call leaves in its result array
-/

namespace Cert.ConvFwdIdeal.Block
open Cert.ConvFwdIdeal Cert.ConvFwdIdeal.Gen
open Cert.ConvIdeal.Block (ext uu)

/-- The convolution of each column with its four taps, from two rows before to one row after. -/
def convOut (proj : FVec Ideal S8192x5632 .f32) (w : FVec Ideal S4x1024 .f32) (b : FVec Ideal S1024 .f32) : FVec Ideal S8192x1024 .f32 :=
  fun i =>
    ext (uu proj (i 1)) ((i 0 : ℕ) + 14) * w (ix2 0 (i 1)) + ext (uu proj (i 1)) ((i 0 : ℕ) + 15) * w (ix2 1 (i 1))
      + ext (uu proj (i 1)) ((i 0 : ℕ) + 16) * w (ix2 2 (i 1)) + ext (uu proj (i 1)) ((i 0 : ℕ) + 17) * w (ix2 3 (i 1))
      + b (ix1 (i 1))

variable (m : (ℓ : Loc nD τ sig) → Buf (Elt Ideal) ℓ)

/-- The blocks the grid's points read and write. -/
theorem idx : ∀ t : Fin cfg0.N, win0_0.index t = ![t.val, 0] ∧ win0_1.index t = ![64 * t.val - 1, 0]
    ∧ win0_2.index t = ![min (64 * t.val + 64) 511, 0] ∧ win0_3.index t = ![0, 0] ∧ win0_4.index t = ![0, 0]
    ∧ win0_5.index t = ![t.val, 0] :=
  (by decide +kernel : ∀ t : Fin grid0.N, _)

variable (c : Dev nD) (t : Fin cfg0.N)

theorem lt8 (t : Fin cfg0.N) : t.val < 8 := lt_of_lt_of_eq t.isLt N_0

/-- The kernel's order of the projection's columns. -/
def cols (p : FVec Ideal S8192x5632 .f32) : FVec Ideal S8192x5632 .bf16 :=
  truncf .bf16 (concatenate S8192x5632 1 [⟨S8192x3072, extractStridedSlice S8192x3072 ![0, 0] p slices_S8192x5632_S8192x3072_0_0⟩,
    ⟨S8192x2048, extractStridedSlice S8192x2048 ![0, 3584] p slices_S8192x5632_S8192x2048_0_3584⟩,
    ⟨S8192x512, extractStridedSlice S8192x512 ![0, 3072] p slices_S8192x5632_S8192x512_0_3072⟩]
    concatenates_S8192x3072_S8192x2048_S8192x512_S8192x5632_d1) bitsLt_bf16_f32

theorem V4 : V m c main_v4 = cols (m ((c : Thread nD τ).loc main_arg0)) := by
  unfold V
  after_results
  try rfl

/-- Its first 3072 columns are the projection's. -/
theorem cols_at (p : FVec Ideal S8192x5632 .f32) (r : Fin 8192) (j : Fin 5632) (h : (j : ℕ) < 3072) :
    cols p (ix2 r j) = p (ix2 r j) := by
  pointwise [cols]
  rw [dif_pos h]

theorem u0_at (r : Fin 1024) (j : Fin 1024) :
    X0_0 m c t (ix2 r j) = uu (m ((c : Thread nD τ).loc main_arg0)) j (⟨1024 * t.val + (r : ℕ), by have := lt8 t; omega⟩ : Fin 8192) := by
  unfold X0_0 Pipeline.Window.fill
  rw [dif_pos (moved0_0 t _)]
  refine (congrFun (V4 m c) _).trans ?_
  refine Eq.trans (congrArg (cols _) ?_) (cols_at _ (⟨1024 * t.val + (r : ℕ), by have := lt8 t; omega⟩ : Fin 8192) (⟨(j : ℕ), by omega⟩ : Fin 5632) (by dsimp only; omega))
  blk_ext [idx t]

theorem u1_at (r : Fin 16) (j : Fin 1024) (h : 0 < t.val) :
    X0_1 m c t (ix2 r j) = uu (m ((c : Thread nD τ).loc main_arg0)) j (⟨1024 * t.val - 16 + (r : ℕ), by have := lt8 t; omega⟩ : Fin 8192) := by
  unfold X0_1 Pipeline.Window.fill
  rw [dif_pos (moved0_1 t _)]
  refine (congrFun (V4 m c) _).trans ?_
  refine Eq.trans (congrArg (cols _) ?_) (cols_at _ (⟨1024 * t.val - 16 + (r : ℕ), by have := lt8 t; omega⟩ : Fin 8192) (⟨(j : ℕ), by omega⟩ : Fin 5632) (by dsimp only; omega))
  blk_ext [idx t]

theorem u2_at (r : Fin 16) (j : Fin 1024) (h : t.val < 7) :
    X0_2 m c t (ix2 r j) = uu (m ((c : Thread nD τ).loc main_arg0)) j (⟨1024 * t.val + 1024 + (r : ℕ), by omega⟩ : Fin 8192) := by
  unfold X0_2 Pipeline.Window.fill
  rw [dif_pos (moved0_2 t _)]
  refine (congrFun (V4 m c) _).trans ?_
  refine Eq.trans (congrArg (cols _) ?_) (cols_at _ (⟨1024 * t.val + 1024 + (r : ℕ), by omega⟩ : Fin 8192) (⟨(j : ℕ), by omega⟩ : Fin 5632) (by dsimp only; omega))
  blk_ext [idx t]

theorem w_at (k : Fin 4) (j : Fin 1024) : iblk m c 3 t (ix2 k j) = m ((c : Thread nD τ).loc main_arg1) (ix2 k j) := by
  pointwise
  blk_point [iblk, V, idx t]

theorem b_at (j : Fin 1024) : iblk m c 4 t (ix2 (0 : Fin 1) j) = m ((c : Thread nD τ).loc main_arg2) (ix1 j) := by
  pointwise
  blk_point [iblk, V, idx t]

theorem lo : ∀ t : Fin cfg0.N, Scalar.cmpi .sgt (BitVec.ofNat 32 (grid0.coords t 0).val) 0#32 = if 0 < t.val then 1#1 else 0#1 :=
  (by decide +kernel : ∀ t : Fin grid0.N, _)

theorem hi : ∀ t : Fin cfg0.N, Scalar.cmpi .slt (BitVec.ofNat 32 (grid0.coords t 0).val) 7#32 = if t.val < 7 then 1#1 else 0#1 :=
  (by decide +kernel : ∀ t : Fin grid0.N, _)

theorem sel_lo (a b : EReal) :
    Scalar.select (Scalar.cmpi .sgt (BitVec.ofNat 32 (grid0.coords t 0).val) 0#32) a b = if 0 < t.val then a else b := by
  rw [lo]
  split_ifs <;> rfl

theorem sel_hi (a b : EReal) :
    Scalar.select (Scalar.cmpi .slt (BitVec.ofNat 32 (grid0.coords t 0).val) 7#32) a b = if t.val < 7 then a else b := by
  rw [hi]
  split_ifs <;> rfl

/-- Row `e` of the tile with its halos: the halo before, the tile, the halo after. -/
theorem tile_at (e : ℕ) (he : e < 1056) (j : Fin 1024) :
    (if h : e < 16 then (if 0 < t.val then X0_1 m c t (ix2 (⟨e, h⟩ : Fin 16) j) else (0 : EReal))
      else if h' : e - 16 < 1024 then X0_0 m c t (ix2 (⟨e - 16, h'⟩ : Fin 1024) j)
      else if t.val < 7 then X0_2 m c t (ix2 (⟨e - 16 - 1024, by omega⟩ : Fin 16) j) else (0 : EReal))
    = ext (uu (m ((c : Thread nD τ).loc main_arg0)) j) (1024 * t.val + e) := by
  have ht := lt8 t
  unfold ext
  by_cases h1 : e < 16
  · rw [dif_pos h1]
    by_cases h2 : 0 < t.val
    · rw [if_pos h2, u1_at m c t _ _ h2, dif_pos (by omega)]
      exact congrArg _ (Fin.ext (by dsimp only; omega))
    · rw [if_neg h2, dif_neg (by omega)]
  · rw [dif_neg h1]
    by_cases h3 : e - 16 < 1024
    · rw [dif_pos h3, u0_at, dif_pos (by omega)]
      exact congrArg _ (Fin.ext (by dsimp only; omega))
    · rw [dif_neg h3]
      by_cases h2 : t.val < 7
      · rw [if_pos h2, u2_at m c t _ _ h2, dif_pos (by omega)]
        exact congrArg _ (Fin.ext (by dsimp only; omega))
      · rw [if_neg h2, dif_neg (by omega)]

theorem mid_at (r : Fin 1024) (j : Fin 1024) :
    X0_0 m c t (ix2 r j) = ext (uu (m ((c : Thread nD τ).loc main_arg0)) j) (1024 * t.val + (r : ℕ) + 16) := by
  have ht := lt8 t
  rw [u0_at, ext, dif_pos (by omega)]
  exact congrArg _ (Fin.ext (by dsimp only; omega))

theorem point (y : S1024x1024.Idx) :
    k0_pay1 (k0_pay2 (grid0.coords t) (X0_1 m c t) (X0_2 m c t) (X0_0 m c t)
        (View.ld (iblk m c 3 t) (Rect.unit ![0, 0] ![1, 1024] inb_S4x1024_S1x1024_0_0))
        (View.ld (iblk m c 3 t) (Rect.unit ![1, 0] ![1, 1024] inb_S4x1024_S1x1024_1_0))
        (View.ld (iblk m c 3 t) (Rect.unit ![2, 0] ![1, 1024] inb_S4x1024_S1x1024_2_0))
        (View.ld (iblk m c 3 t) (Rect.unit ![3, 0] ![1, 1024] inb_S4x1024_S1x1024_3_0))) (iblk m c 4 t) y
      = convOut (m ((c : Thread nD τ).loc main_arg0)) (m ((c : Thread nD τ).loc main_arg1)) (m ((c : Thread nD τ).loc main_arg2)) (((cfg0.win 5).blk t).view.emb y) := by
  idx_vars y
  rw [show ((cfg0.win 5).blk t).view.emb (ix2 y0 y1) = ix2 (⟨1024 * t.val + (y0 : ℕ), by have := lt8 t; omega⟩ : Fin 8192) y1 by
    blk_ext [idx t]]
  pointwise [k0_pay1, k0_pay2, convOut]
  simp only [sel_lo, sel_hi, w_at, b_at]
  have h0 := y0.isLt
  rw [tile_at m c t _ (Nat.mod_lt _ (by omega)), tile_at m c t _ (Nat.mod_lt _ (by omega)), tile_at m c t _ (Nat.mod_lt _ (by omega)),
    mid_at,
    show 1024 * t.val + (16 + (y0 : ℕ) + 1056 - 2) % 1056 = 1024 * t.val + (y0 : ℕ) + 14 by omega,
    show 1024 * t.val + (16 + (y0 : ℕ) + 1056 - 1) % 1056 = 1024 * t.val + (y0 : ℕ) + 15 by omega,
    show 1024 * t.val + (16 + (y0 : ℕ) + 1056 - 1055) % 1056 = 1024 * t.val + (y0 : ℕ) + 17 by omega]

theorem final5 : (dats m 0 c).arrAt 5 (cfgs 0).N = convOut (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, outsAt0]
  frame_out
  exact point m c t y

end Cert.ConvFwdIdeal.Block

end

end
-- ==== Proof.ConvFwd.Ref.lean ====
module

public import proofs.«01_k».proof.Proof.Gen.ConvFwdRefIdeal.Read
public import proofs.«01_k».proof.Proof.ConvFwd.Block

@[expose] public section

set_option maxRecDepth 16384

noncomputable section

open Idealize.ShloMosaic Idealize.ShloMosaic.TcCoe Idealize.SL.Sem

/-!
# What the reference of the convolution computes
-/

namespace Cert.ConvFwdRefIdeal.RefValue
open Cert.ConvFwdRefIdeal Cert.ConvFwdRefIdeal.Gen Cert.ConvFwdRefIdeal.Read
open Cert.ConvIdeal.Block (ext uu)
open Cert.ConvFwdIdeal.Block (convOut)

theorem up_at (x0 : FVec Ideal S8192x5632 .f32) (n : Fin 8195) (j : Fin 1024) :
    val_main_v8 (F := Ideal) x0 (ix2 n j) = ext (uu x0 j) ((n : ℕ) + 14) := by
  pointwise [val_main_v8, val_main_v7, val_main_cst_0, val_main_v6, val_main_cst, val_main_v0, ext, uu]
  by_cases h : (n : ℕ) < 2
  · rw [dif_pos h, dif_neg (by omega)]
  · have hn := n.isLt
    rw [dif_neg h]
    by_cases h' : (n : ℕ) - 2 < 8192
    · rw [dif_pos h', dif_pos (by omega)]
      congr 1
    · rw [dif_neg h', dif_neg (by omega)]

theorem conv_eq (x0 : FVec Ideal S8192x5632 .f32) (x1 : FVec Ideal S4x1024 .f32) (x2 : FVec Ideal S1024 .f32) :
    val_main_v38 (F := Ideal) x0 x1 x2 = convOut x0 x1 x2 := by
  funext i
  idx_vars i
  pointwise [val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, convOut]
  simp only [up_at]
  simp only [Nat.add_comm _ (i0 : ℕ), Nat.add_assoc, Nat.reduceAdd]

end Cert.ConvFwdRefIdeal.RefValue

end

end
-- ==== Proof.ConvFwd.Claim.lean ====
module

public import proofs.«01_k».proof.Defs
public import proofs.«01_k».proof.Proof.Gen.ConvFwdIdeal.Value
public import proofs.«01_k».proof.Proof.Gen.ConvFwdRefIdeal.Run
public import proofs.«01_k».proof.Proof.ConvFwd.Ref

@[expose] public section

set_option maxRecDepth 16384

noncomputable section

open Idealize.ShloMosaic Idealize.ShloMosaic.TcCoe Idealize.SL.Sem

/-!
# The convolution's forward call computes the convolution
-/

namespace Cert.ConvFwd.Claims
open Cert.ConvFwdIdeal.Block Cert.ConvFwdRefIdeal.RefValue Cert.ConvFwdRefIdeal.Read

/-- A function of three arguments at equal arguments. -/
theorem same {α0 α1 α2 β : Type} (f : α0 → α1 → α2 → β) {x0 y0 : α0} {x1 y1 : α1} {x2 y2 : α2} (h0 : x0 = y0) (h1 : x1 = y1)
    (h2 : x2 = y2) : f x0 x1 x2 = f y0 y1 y2 := by
  subst h0 h1 h2; rfl

theorem algebraic : Cert.algebraic_ConvFwdIdeal_ConvFwdRefIdeal
    (hConvFwdIdeal := Cert.ConvFwdIdeal.Gen.facts) (hConvFwdRefIdeal := Cert.ConvFwdRefIdeal.Gen.facts) := by
  intro m g m' g' hpre hag
  refine ⟨fun c => (Cert.ConvFwdIdeal.Gen.dats m 0 c).arrAt 5 (Cert.ConvFwdIdeal.cfgs 0).N,
    Cert.ConvFwdIdeal.Value.run_blocks m g,
    (θ_run _ _ _).mono (fun r h c => ?_) (Cert.ConvFwdRefIdeal.Value.run m' g')⟩
  obtain ⟨h0, hk⟩ := h c
  obtain ⟨a0, a1, a2⟩ := hag c
  refine ⟨h0.trans ?_, hk⟩
  exact (val_main_v38_eq _ _ _).trans ((same (val_main_v38 (F := Ideal)) a0 a1 a2).trans ((conv_eq _ _ _).trans (final5 m c).symm))

end Cert.ConvFwd.Claims

end

end
-- ==== Proof.MergeFwd.Block.lean ====
module

public import proofs.«01_k».proof.Proof.Gen.MergeFwdIdeal.Frame
public import proofs.«01_k».proof.Proof.Gate.Form
public import Idealize.ShloMosaic.Lib.Pipeline.ValueKit

@[expose] public section

set_option maxRecDepth 16384

noncomputable section

open Idealize.ShloMosaic Idealize.ShloMosaic.TcCoe Idealize.SL.Sem

/-!
# What the merge's forward call leaves in its result arrays
-/

namespace Cert.MergeFwdIdeal.Block
open Cert.MergeFwdIdeal Cert.MergeFwdIdeal.Gen
open Cert.LossIdeal.Block (sg)
open Cert.GateIdeal.Block (rootC cubC halfC th gelu gcol zcol gt gt0 gt1 hsum)

section
variable (x hf hb : FVec Ideal S8192x1024 .f32) (proj : FVec Ideal S8192x5632 .f32) (yb : FVec Ideal S8192x1024 .f32)
  (b : FVec Ideal S2048 .f32) (w : FVec Ideal S1024x1024 .f32)

/-- The two branches, each times its gate. -/
def mg (r : Fin 8192) (j : Fin 1024) : EReal :=
  gt0 proj b r j * (hsum hf hb r j * gelu (gcol proj r j)) + gt1 proj b r j * yb (ix2 r j)

def mgOut : FVec Ideal S8192x1024 .bf16 := fun i => mg hf hb proj yb b (i 0) (i 1)
/-- The residual plus the merged rows' projection. -/
def xOut : FVec Ideal S8192x1024 .f32 := fun i => x i + ∑ k : Fin 1024, mg hf hb proj yb b (i 0) k * w (ix2 k (i 1))
end

variable (m : (ℓ : Loc nD τ sig) → Buf (Elt Ideal) ℓ)

/-- The blocks the grid's points read and write. -/
theorem idx : ∀ t : Fin cfg0.N, win0_0.index t = ![t.val, 0] ∧ win0_1.index t = ![t.val, 0]
    ∧ win0_2.index t = ![t.val, 0] ∧ win0_3.index t = ![t.val, 1] ∧ win0_4.index t = ![t.val, 3]
    ∧ win0_5.index t = ![t.val, 4] ∧ win0_6.index t = ![t.val, 0] ∧ win0_7.index t = ![0, 0]
    ∧ win0_8.index t = ![0, 0] ∧ win0_9.index t = ![t.val, 0] ∧ win0_10.index t = ![t.val, 0] :=
  (by decide +kernel : ∀ t : Fin grid0.N, _)

variable (c : Dev nD) (t : Fin cfg0.N)

theorem lt8 (t : Fin cfg0.N) : t.val < 8 := lt_of_lt_of_eq t.isLt N_0

/-- The array's row that is row `r` of the point's tile. -/
def row (t : Fin cfg0.N) (r : Fin 1024) : Fin 8192 := ⟨1024 * t.val + (r : ℕ), by have := lt8 t; omega⟩

/-! The blocks read. -/

theorem b0_at (r j : Fin 1024) : iblk m c 0 t (ix2 r j) = (m ((c : Thread nD τ).loc main_arg0)) (ix2 (row t r) j) := by
  pointwise [row]
  blk_point [iblk, V, idx t]

theorem b1_at (r j : Fin 1024) : iblk m c 1 t (ix2 r j) = (m ((c : Thread nD τ).loc main_arg1)) (ix2 (row t r) j) := by
  pointwise [row]
  blk_point [iblk, V, idx t]

theorem b2_at (r j : Fin 1024) : iblk m c 2 t (ix2 r j) = (m ((c : Thread nD τ).loc main_arg2)) (ix2 (row t r) j) := by
  pointwise [row]
  blk_point [iblk, V, idx t]

theorem b6_at (r j : Fin 1024) : iblk m c 6 t (ix2 r j) = (m ((c : Thread nD τ).loc main_arg4)) (ix2 (row t r) j) := by
  pointwise [row]
  blk_point [iblk, V, idx t]

theorem b7_at (k : Fin 2048) : iblk m c 7 t (ix2 (0 : Fin 1) k) = (m ((c : Thread nD τ).loc main_arg5)) (ix1 k) := by
  pointwise
  blk_point [iblk, V, idx t]

theorem b8_at (k j : Fin 1024) : iblk m c 8 t (ix2 k j) = (m ((c : Thread nD τ).loc main_arg6)) (ix2 k j) := by
  pointwise
  blk_point [iblk, V, idx t]

/-- The kernel's order of the projection's columns. -/
def cols (p : FVec Ideal S8192x5632 .f32) : FVec Ideal S8192x5632 .bf16 :=
  truncf .bf16 (concatenate S8192x5632 1 [⟨S8192x3072, extractStridedSlice S8192x3072 ![0, 0] p slices_S8192x5632_S8192x3072_0_0⟩,
    ⟨S8192x2048, extractStridedSlice S8192x2048 ![0, 3584] p slices_S8192x5632_S8192x2048_0_3584⟩,
    ⟨S8192x512, extractStridedSlice S8192x512 ![0, 3072] p slices_S8192x5632_S8192x512_0_3072⟩]
    concatenates_S8192x3072_S8192x2048_S8192x512_S8192x5632_d1) bitsLt_bf16_f32

theorem V4 : V m c main_v4 = cols (m ((c : Thread nD τ).loc main_arg3)) := by
  unfold V
  after_results
  try rfl

theorem cols_lo (p : FVec Ideal S8192x5632 .f32) (r : Fin 8192) (j : Fin 1024) :
    cols p (ix2 r (⟨1024 + (j : ℕ), by omega⟩ : Fin 5632)) = gcol p r j := by
  pointwise [cols, gcol]
  rw [dif_pos (by omega)]

theorem cols_hi (p : FVec Ideal S8192x5632 .f32) (r : Fin 8192) (k : Fin 2048) :
    cols p (ix2 r (⟨3072 + (k : ℕ), by omega⟩ : Fin 5632)) = zcol p r k := by
  pointwise [cols, zcol]

theorem b3_at (r j : Fin 1024) : X0_3 m c t (ix2 r j) = gcol (m ((c : Thread nD τ).loc main_arg3)) (row t r) j := by
  unfold X0_3 Pipeline.Window.fill
  rw [dif_pos (moved0_3 t _)]
  refine (congrFun (V4 m c) _).trans ?_
  refine Eq.trans (congrArg (cols _) ?_) (cols_lo _ (row t r) j)
  blk_ext [idx t, row]

theorem b4_at (r j : Fin 1024) : X0_4 m c t (ix2 r j) = zcol (m ((c : Thread nD τ).loc main_arg3)) (row t r) (⟨(j : ℕ), by omega⟩ : Fin 2048) := by
  unfold X0_4 Pipeline.Window.fill
  rw [dif_pos (moved0_4 t _)]
  refine (congrFun (V4 m c) _).trans ?_
  refine Eq.trans (congrArg (cols _) ?_) (cols_hi _ (row t r) (⟨(j : ℕ), by omega⟩ : Fin 2048))
  blk_ext [idx t, row]

theorem b5_at (r j : Fin 1024) : X0_5 m c t (ix2 r j) = zcol (m ((c : Thread nD τ).loc main_arg3)) (row t r) (⟨1024 + (j : ℕ), by omega⟩ : Fin 2048) := by
  unfold X0_5 Pipeline.Window.fill
  rw [dif_pos (moved0_5 t _)]
  refine (congrFun (V4 m c) _).trans ?_
  refine Eq.trans (congrArg (cols _) ?_) (cols_hi _ (row t r) (⟨1024 + (j : ℕ), by omega⟩ : Fin 2048))
  blk_ext [idx t, row]

/-! The named constants. -/

theorem root_c : Named.named (F := Ideal) κ "sqrt_2_over_pi" (φ := .bf16) 16204#16 = rootC :=
  IdealRules.named_const.ideal_named_scalar _ _ _ _ rfl

theorem cub_c : Named.named (F := Ideal) κ "gelu_cubic" (φ := .bf16) 15671#16 = cubC :=
  IdealRules.named_const.ideal_named_scalar _ _ _ _ rfl

/-! The values computed at a point. -/

theorem g0_at (r j : Fin 1024) : k0_pay8 (X0_4 m c t) (iblk m c 7 t) (ix2 r j)
    = gt0 (m ((c : Thread nD τ).loc main_arg3)) (m ((c : Thread nD τ).loc main_arg5)) (row t r) j := by
  pointwise [k0_pay8, k0_pay7, gt0, gt, sg]
  simp only [b4_at, b7_at]

theorem g1_at (r j : Fin 1024) : k0_pay9 (X0_5 m c t) (iblk m c 7 t) (ix2 r j)
    = gt1 (m ((c : Thread nD τ).loc main_arg3)) (m ((c : Thread nD τ).loc main_arg5)) (row t r) j := by
  pointwise [k0_pay9, k0_pay7, gt1, gt, sg]
  simp only [b5_at, b7_at]

/-- The merged rows of the point's tile. -/
def pM : FVec Ideal S1024x1024 .bf16 :=
  k0_pay1 (k0_pay3 (iblk m c 6 t)) (k0_pay4 (iblk m c 1 t)) (k0_pay5 (iblk m c 2 t)) (k0_pay6 (X0_3 m c t))
    (k0_pay8 (X0_4 m c t) (iblk m c 7 t)) (k0_pay9 (X0_5 m c t) (iblk m c 7 t)) (k0_pay10 (X0_3 m c t))
    (Named.named κ "gelu_cubic" 0x3D37#16)

theorem m_at (r j : Fin 1024) : pM m c t (ix2 r j) = mg (m ((c : Thread nD τ).loc main_arg1)) (m ((c : Thread nD τ).loc main_arg2))
    (m ((c : Thread nD τ).loc main_arg3)) (m ((c : Thread nD τ).loc main_arg4)) (m ((c : Thread nD τ).loc main_arg5)) (row t r) j := by
  pointwise [pM, k0_pay1, k0_pay3, k0_pay4, k0_pay5, k0_pay6, k0_pay10, mg, hsum, gelu, th, halfC]
  simp only [g0_at, g1_at, b1_at, b2_at, b3_at, b6_at, root_c, cub_c]

theorem point9 (y : S1024x1024.Idx) : pM m c t y
    = mgOut (m ((c : Thread nD τ).loc main_arg1)) (m ((c : Thread nD τ).loc main_arg2))
      (m ((c : Thread nD τ).loc main_arg3)) (m ((c : Thread nD τ).loc main_arg4)) (m ((c : Thread nD τ).loc main_arg5))
      (((cfg0.win 9).blk t).view.emb y) := by
  idx_vars y
  rw [show ((cfg0.win 9).blk t).view.emb (ix2 y0 y1) = ix2 (row t y0) y1 by blk_ext [idx t, row]]
  rw [m_at]
  rfl

theorem final9 : (dats m 0 c).arrAt 9 (cfgs 0).N
    = mgOut (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9, outsAt0]
  dsimp only
  frame_out
  exact point9 m c t y

theorem point10 (y : S1024x1024.Idx) :
    k0_pay2 (k0_pay3 (iblk m c 6 t)) (k0_pay4 (iblk m c 1 t)) (k0_pay5 (iblk m c 2 t)) (k0_pay6 (X0_3 m c t))
      (k0_pay8 (X0_4 m c t) (iblk m c 7 t)) (k0_pay9 (X0_5 m c t) (iblk m c 7 t)) (k0_pay10 (X0_3 m c t))
      (Named.named κ "gelu_cubic" 0x3D37#16) (iblk m c 0 t) (iblk m c 8 t) y
    = xOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (((cfg0.win 10).blk t).view.emb y) := by
  idx_vars y
  have h := m_at m c t y0
  unfold pM at h
  rw [show ((cfg0.win 10).blk t).view.emb (ix2 y0 y1) = ix2 (row t y0) y1 by blk_ext [idx t, row]]
  pointwise [k0_pay2, xOut]
  simp only [h, b0_at, b8_at]

theorem final10 : (dats m 0 c).arrAt 10 (cfgs 0).N
    = xOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 10 _ (by decide +kernel) fun t _ y => ?_
  blk_simp
  rw [after0_10, outsAt0]
  dsimp only
  frame_out
  exact point10 m c t y

end Cert.MergeFwdIdeal.Block

end

end
-- ==== Proof.MergeFwd.Ref.lean ====
module

public import proofs.«01_k».proof.Proof.Gen.MergeFwdRefIdeal.Read
public import proofs.«01_k».proof.Proof.Gate.Ref
public import proofs.«01_k».proof.Proof.MergeFwd.Block

@[expose] public section

set_option maxRecDepth 16384

noncomputable section

open Idealize.ShloMosaic Idealize.ShloMosaic.TcCoe Idealize.SL.Sem

/-!
# What the reference of the merge computes
-/

namespace Cert.MergeFwdRefIdeal.RefValue
open Cert.MergeFwdRefIdeal Cert.MergeFwdRefIdeal.Gen Cert.MergeFwdRefIdeal.Read
open Cert.LossIdeal.Block (sg)
open Cert.LossRefIdeal.RefValue (half16 half32)
open Cert.GateRefIdeal.RefValue (logistic root_c cub_c)
open Cert.GateIdeal.Block (rootC cubC halfC th gelu gcol zcol gt gt0 gt1 hsum)
open Cert.MergeFwdIdeal.Block (mg mgOut xOut)

variable (x0 x1 x2 : FVec Ideal S8192x1024 .f32) (x3 : FVec Ideal S8192x5632 .f32) (x4 : FVec Ideal S8192x1024 .f32)
  (x5 : FVec Ideal S2048 .f32) (x6 : FVec Ideal S1024x1024 .f32)

theorem g_at (r : Fin 8192) (j : Fin 1024) : val_main_v1 (F := Ideal) x3 (ix2 r j) = gcol x3 r j := by
  pointwise [val_main_v1, gcol]

theorem gelu_at (r : Fin 8192) (j : Fin 1024) : val_main_v19 (F := Ideal) x3 (ix2 r j) = gelu (gcol x3 r j) := by
  pointwise [val_main_v19, val_main_v18, val_main_v17, val_main_cst_2, val_main_v16, val_main_v15, val_main_cst_1, val_main_v14,
    val_main_v13, val_main_v12, val_main_cst_0, val_main_v11, val_main_v10, val_main_v9, val_main_cst, val_main_v8, val_main_v7,
    gelu, th, halfC]
  simp only [g_at, root_c, cub_c, half16, half32]
  ac_rfl

theorem gt_at (r : Fin 8192) (k : Fin 2048) : val_main_v29 (F := Ideal) x3 x5 (ix2 r k) = gt x3 x5 r k := by
  pointwise [val_main_v29, val_main_v28, val_main_cst_4, val_main_v27, val_main_v26, val_main_cst_3, val_main_v25, val_main_v24,
    val_main_v23, val_main_v22, val_main_v21, val_main_v5, gt, zcol]
  exact logistic _

theorem mg_at (r : Fin 8192) (j : Fin 1024) : val_main_v37 (F := Ideal) x1 x2 x3 x4 x5 (ix2 r j) = mg x1 x2 x3 x4 x5 r j := by
  pointwise [val_main_v37, val_main_v36, val_main_v35, val_main_v34, val_main_v33, val_main_v32, val_main_v31, val_main_v30,
    val_main_v20, val_main_v6, mg, hsum, gt0, gt1]
  simp only [gt_at, gelu_at]

theorem mg_eq : val_main_v38 (F := Ideal) x1 x2 x3 x4 x5 = mgOut x1 x2 x3 x4 x5 := by
  funext i
  idx_vars i
  pointwise [val_main_v38, mgOut]
  rw [mg_at]

theorem x_eq : val_main_v40 (F := Ideal) x0 x1 x2 x3 x4 x5 x6 = xOut x0 x1 x2 x3 x4 x5 x6 := by
  funext i
  idx_vars i
  pointwise [val_main_v40, val_main_v39, xOut]
  simp only [mg_at]

end Cert.MergeFwdRefIdeal.RefValue

end

end
-- ==== Proof.MergeFwd.Claim.lean ====
module

public import proofs.«01_k».proof.Defs
public import proofs.«01_k».proof.Proof.Gen.MergeFwdIdeal.Value
public import proofs.«01_k».proof.Proof.Gen.MergeFwdRefIdeal.Run
public import proofs.«01_k».proof.Proof.MergeFwd.Ref

@[expose] public section

set_option maxRecDepth 16384

noncomputable section

open Idealize.ShloMosaic Idealize.ShloMosaic.TcCoe Idealize.SL.Sem

/-!
# The merge's forward call computes the gated merge and its projection
-/

namespace Cert.MergeFwd.Claims
open Cert.MergeFwdIdeal.Block Cert.MergeFwdRefIdeal.RefValue Cert.MergeFwdRefIdeal.Read

theorem preserves : Cert.preserves_MergeFwd_MergeFwdIdeal :=
  ⟨IdealRules.named_const.statement Cert.MergeFwdIdeal.κ "gelu_cubic" .bf16 0x3D37#16 ((12003091 / 268435456 : ℝ) : EReal) rfl,
    IdealRules.named_const.statement Cert.MergeFwdIdeal.κ "sqrt_2_over_pi" .bf16 0x3F4C#16 ((6693141 / 8388608 : ℝ) : EReal) rfl⟩

/-- A function of five arguments at equal arguments. -/
theorem same5 {α0 α1 α2 α3 α4 β : Type} (f : α0 → α1 → α2 → α3 → α4 → β) {x0 y0 : α0} {x1 y1 : α1} {x2 y2 : α2} {x3 y3 : α3}
    {x4 y4 : α4} (h0 : x0 = y0) (h1 : x1 = y1) (h2 : x2 = y2) (h3 : x3 = y3) (h4 : x4 = y4) :
    f x0 x1 x2 x3 x4 = f y0 y1 y2 y3 y4 := by
  subst h0 h1 h2 h3 h4; rfl

/-- A function of seven arguments at equal arguments. -/
theorem same7 {α0 α1 α2 α3 α4 α5 α6 β : Type} (f : α0 → α1 → α2 → α3 → α4 → α5 → α6 → β) {x0 y0 : α0} {x1 y1 : α1} {x2 y2 : α2}
    {x3 y3 : α3} {x4 y4 : α4} {x5 y5 : α5} {x6 y6 : α6} (h0 : x0 = y0) (h1 : x1 = y1) (h2 : x2 = y2) (h3 : x3 = y3) (h4 : x4 = y4)
    (h5 : x5 = y5) (h6 : x6 = y6) : f x0 x1 x2 x3 x4 x5 x6 = f y0 y1 y2 y3 y4 y5 y6 := by
  subst h0 h1 h2 h3 h4 h5 h6; rfl

theorem algebraic : Cert.algebraic_MergeFwdIdeal_MergeFwdRefIdeal
    (hMergeFwdIdeal := Cert.MergeFwdIdeal.Gen.facts) (hMergeFwdRefIdeal := Cert.MergeFwdRefIdeal.Gen.facts) := by
  intro m g m' g' hpre hag
  refine ⟨fun c => (Cert.MergeFwdIdeal.Gen.dats m 0 c).arrAt 9 (Cert.MergeFwdIdeal.cfgs 0).N,
    fun c => (Cert.MergeFwdIdeal.Gen.dats m 0 c).arrAt 10 (Cert.MergeFwdIdeal.cfgs 0).N,
    Cert.MergeFwdIdeal.Value.run_blocks m g,
    (θ_run _ _ _).mono (fun r h c => ?_) (Cert.MergeFwdRefIdeal.Value.run m' g')⟩
  obtain ⟨h0, h1, hk⟩ := h c
  obtain ⟨a0, a1, a2, a3, a4, a5, a6⟩ := hag c
  refine ⟨h0.trans ?_, h1.trans ?_, hk⟩
  · exact (val_main_v38_eq _ _ _ _ _).trans ((same5 (val_main_v38 (F := Ideal)) a1 a2 a3 a4 a5).trans ((mg_eq _ _ _ _ _).trans (final9 m c).symm))
  · exact (val_main_v40_eq _ _ _ _ _ _ _).trans ((same7 (val_main_v40 (F := Ideal)) a0 a1 a2 a3 a4 a5 a6).trans ((x_eq _ _ _ _ _ _ _).trans (final10 m c).symm))

end Cert.MergeFwd.Claims

end

end
-- ==== Proof.InProjFwd.Block.lean ====
module

public import proofs.«01_k».proof.Proof.Gen.InProjFwdIdeal.Frame
public import Idealize.ShloMosaic.Lib.Pipeline.ValueKit

@[expose] public section

set_option maxRecDepth 16384

noncomputable section

open Idealize.ShloMosaic Idealize.ShloMosaic.TcCoe Idealize.SL.Sem

/-!
# What the input projection's forward call leaves in its result array
-/

namespace Cert.InProjFwdIdeal.Block
open Cert.InProjFwdIdeal Cert.InProjFwdIdeal.Gen

/-- The weight's column that the result's column `j` is projected on: the call puts the last 2048 columns before the 512 of
    the keys and values. -/
def col (j : Fin 5632) : Fin 5632 :=
  ⟨if (j : ℕ) < 3072 then j else if (j : ℕ) < 5120 then j + 512 else j - 2048, by have := j.isLt; split_ifs <;> omega⟩

/-- The rows times the weight, its columns in the call's order. -/
def projOut (x : FVec Ideal S8192x1024 .f32) (w : FVec Ideal S1024x5632 .f32) : FVec Ideal S8192x5632 .bf16 := fun i =>
  ∑ k : Fin 1024, x (ix2 (i 0) k) * w (ix2 k (col (i 1)))

variable (m : (ℓ : Loc nD τ sig) → Buf (Elt Ideal) ℓ)

/-- The row block of the weight's transpose that column block `j` of the result is computed from. -/
def wblk (j : ℕ) : ℕ := if j < 6 then j else if j < 10 then j + 1 else 6

/-- The blocks the grid's points read and write. -/
theorem idx : ∀ t : Fin cfg0.N, win0_0.index t = ![t.val / 11, 0] ∧ win0_1.index t = ![wblk (t.val % 11), 0]
    ∧ win0_2.index t = ![t.val / 11, t.val % 11] :=
  (by decide +kernel : ∀ t : Fin grid0.N, _)

variable (c : Dev nD) (t : Fin cfg0.N)

theorem lt22 (t : Fin cfg0.N) : t.val < 22 := lt_of_lt_of_eq t.isLt N_0

/-- The array's row that is row `r` of the point's tile. -/
def row (t : Fin cfg0.N) (r : Fin 4096) : Fin 8192 := ⟨4096 * (t.val / 11) + (r : ℕ), by have := lt22 t; omega⟩

/-- The result's column that is column `j` of the point's tile. -/
def ocol (t : Fin cfg0.N) (j : Fin 512) : Fin 5632 := ⟨512 * (t.val % 11) + (j : ℕ), by have := lt22 t; omega⟩

theorem wcol (t : Fin cfg0.N) (j : Fin 512) : (col (ocol t j) : ℕ) = 512 * wblk (t.val % 11) + (j : ℕ) := by
  have := j.isLt
  unfold col ocol wblk
  dsimp only
  repeat' split
  all_goals omega

theorem x_at (r : Fin 4096) (k : Fin 1024) : iblk m c 0 t (ix2 r k) = m ((c : Thread nD τ).loc main_arg0) (ix2 (row t r) k) := by
  pointwise [row]
  blk_point [iblk, V, idx t]

theorem w_at (j : Fin 512) (k : Fin 1024) :
    iblk m c 1 t (ix2 j k) = m ((c : Thread nD τ).loc main_arg1) (ix2 k (col (ocol t j))) := by
  pointwise
  blk_point [iblk, V, idx t, wcol]

theorem point (y : S4096x512.Idx) : k0_pay1 (iblk m c 0 t) (iblk m c 1 t) y
    = projOut (m ((c : Thread nD τ).loc main_arg0)) (m ((c : Thread nD τ).loc main_arg1)) (((cfg0.win 2).blk t).view.emb y) := by
  idx_vars y
  rw [show ((cfg0.win 2).blk t).view.emb (ix2 y0 y1) = ix2 (row t y0) (ocol t y1) by blk_ext [idx t, row, ocol]]
  pointwise [k0_pay1, projOut]
  simp only [x_at, w_at]

theorem final2 : (dats m 0 c).arrAt 2 (cfgs 0).N
    = projOut (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.InProjFwdIdeal.Block

end

end
-- ==== Proof.InProjFwd.Ref.lean ====
module

public import proofs.«01_k».proof.Proof.Gen.InProjFwdRefIdeal.Read
public import proofs.«01_k».proof.Proof.InProjFwd.Block

@[expose] public section

set_option maxRecDepth 16384

noncomputable section

open Idealize.ShloMosaic Idealize.ShloMosaic.TcCoe Idealize.SL.Sem

/-!
# What the reference of the input projection computes
-/

namespace Cert.InProjFwdRefIdeal.RefValue
open Cert.InProjFwdRefIdeal Cert.InProjFwdRefIdeal.Gen Cert.InProjFwdRefIdeal.Read
open Cert.InProjFwdIdeal.Block (projOut col)

theorem proj_eq (x0 : FVec Ideal S8192x1024 .f32) (x1 : FVec Ideal S1024x5632 .f32) :
    val_main_v8 (F := Ideal) x0 x1 = projOut x0 x1 := by
  funext i
  idx_vars i
  pointwise [val_main_v8, val_main_v7, val_main_v6, val_main_v5, val_main_v4, val_main_v3, val_main_v2, val_main_v1, val_main_v0,
    projOut, col]
  repeat' split
  all_goals refine Finset.sum_congr rfl fun k _ => congrArg _ (congrArg _ (congrArg₂ ix2 rfl (Fin.ext ?_)))
  all_goals dsimp only
  all_goals repeat' split
  all_goals omega

end Cert.InProjFwdRefIdeal.RefValue

end

end
-- ==== Proof.InProjFwd.Claim.lean ====
module

public import proofs.«01_k».proof.Defs
public import proofs.«01_k».proof.Proof.Gen.InProjFwdIdeal.Value
public import proofs.«01_k».proof.Proof.Gen.InProjFwdRefIdeal.Run
public import proofs.«01_k».proof.Proof.InProjFwd.Ref

@[expose] public section

set_option maxRecDepth 16384

noncomputable section

open Idealize.ShloMosaic Idealize.ShloMosaic.TcCoe Idealize.SL.Sem

/-!
# The input projection's forward call computes the projection
-/

namespace Cert.InProjFwd.Claims
open Cert.InProjFwdIdeal.Block Cert.InProjFwdRefIdeal.RefValue Cert.InProjFwdRefIdeal.Read

theorem algebraic : Cert.algebraic_InProjFwdIdeal_InProjFwdRefIdeal
    (hInProjFwdIdeal := Cert.InProjFwdIdeal.Gen.facts) (hInProjFwdRefIdeal := Cert.InProjFwdRefIdeal.Gen.facts) := by
  intro m g m' g' hpre hag
  refine ⟨fun c => (Cert.InProjFwdIdeal.Gen.dats m 0 c).arrAt 2 (Cert.InProjFwdIdeal.cfgs 0).N,
    Cert.InProjFwdIdeal.Value.run_blocks m g,
    (θ_run _ _ _).mono (fun r h c => ?_) (Cert.InProjFwdRefIdeal.Value.run m' g')⟩
  obtain ⟨h0, hk⟩ := h c
  obtain ⟨a0, a1⟩ := hag c
  refine ⟨h0.trans ?_, hk⟩
  exact (val_main_v8_eq _ _).trans ((congrArg₂ (val_main_v8 (F := Ideal)) a0 a1).trans ((proj_eq _ _).trans (final2 m c).symm))

end Cert.InProjFwd.Claims

end

end
-- ==== Proof.DwFfnOut.Block.lean ====
module

public import proofs.«01_k».proof.Proof.Gen.DwFfnOutIdeal.Frame
public import Idealize.ShloMosaic.Lib.Pipeline.ValueKit

@[expose] public section

set_option maxRecDepth 16384

noncomputable section

open Idealize.ShloMosaic Idealize.ShloMosaic.TcCoe Idealize.SL.Sem

/-!
# What the weight gradient's call leaves in its result array
-/

namespace Cert.DwFfnOutIdeal.Block
open Cert.DwFfnOutIdeal Cert.DwFfnOutIdeal.Gen

/-- The transpose of the layer's inputs times the cotangent. -/
def dwOut (x : FVec Ideal S8192x2816 .f32) (d : FVec Ideal S8192x1024 .f32) : FVec Ideal S2816x1024 .bf16 := fun i =>
  ∑ k : Fin 8192, x (ix2 k (i 0)) * d (ix2 k (i 1))

variable (m : (ℓ : Loc nD τ sig) → Buf (Elt Ideal) ℓ)

/-- The blocks the grid's points read and write. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

variable (c : Dev nD) (t : Fin cfg0.N)

theorem lt8 (t : Fin cfg0.N) : t.val < 8 := lt_of_lt_of_eq t.isLt N_0

/-- The weight's row that is row `r` of the point's tile. -/
def row (t : Fin cfg0.N) (r : Fin 1408) : Fin 2816 := ⟨1408 * (t.val / 4) + (r : ℕ), by have := lt8 t; omega⟩

/-- The inputs' row that is row `k` of the point's block. -/
def tok (t : Fin cfg0.N) (k : Fin 2048) : Fin 8192 := ⟨2048 * (t.val % 4) + (k : ℕ), by omega⟩

theorem x_at (k : Fin 2048) (r : Fin 1408) :
    iblk m c 0 t (ix2 k r) = m ((c : Thread nD τ).loc main_arg0) (ix2 (tok t k) (row t r)) := by
  pointwise [row, tok]
  blk_point [iblk, V, idx t]

theorem d_at (k : Fin 2048) (j : Fin 1024) :
    iblk m c 1 t (ix2 k j) = m ((c : Thread nD τ).loc main_arg1) (ix2 (tok t k) j) := by
  pointwise [tok]
  blk_point [iblk, V, idx t]

/-- What a point adds to the accumulator. -/
def part (x : FVec Ideal S8192x2816 .f32) (d : FVec Ideal S8192x1024 .f32) (t : Fin cfg0.N) (j : S1408x1024.Idx) : EReal :=
  ∑ k : Fin 2048, x (ix2 (tok t k) (row t (j 0))) * d (ix2 (tok t k) (j 1))

/-- The same, of the run's arguments. -/
abbrev partOf (t : Fin cfg0.N) : S1408x1024.Idx → EReal :=
  part (m ((c : Thread nD τ).loc main_arg0)) (m ((c : Thread nD τ).loc main_arg1)) t

theorem pay1 (j : S1408x1024.Idx) : k0_pay1 (iblk m c 0 t) (iblk m c 1 t) j = partOf m c t j := by
  idx_vars j
  pointwise [k0_pay1, part]
  simp only [x_at, d_at]

theorem pay2 (j : S1408x1024.Idx) : k0_pay2 (iblk m c 0 t) (iblk m c 1 t) j = 0 + partOf m c t j := by
  rw [zero_add, ← pay1]
  idx_vars j
  pointwise [k0_pay2]

theorem pay3 (a : Vec Ideal S1408x1024 .f32) (j : S1408x1024.Idx) :
    k0_pay3 (iblk m c 0 t) (iblk m c 1 t) a j = a j + partOf m c t j := by
  rw [← pay1]
  idx_vars j
  pointwise [k0_pay3]

/-- The accumulator, read back, is what it was left at. -/
theorem held (a : Vec Ideal S1408x1024 .f32) (j : S1408x1024.Idx) :
    View.read (Elt Ideal) (View.whole cc0_scratch0) ((Memref.isWhole_whole _ : scM0_0.IsWhole).unread a) j = a j :=
  congrFun ((Memref.isWhole_whole _ : scM0_0.IsWhole).read_unread a) j

/-- The accumulator after a row block's last point is the sum of the four blocks' parts. -/
theorem acc (h : t.val % 4 = 4 - 1) (j : S1408x1024.Idx) : (outsAt0 m c t.val t.isLt).2 j
    = ∑ s : Fin 4, partOf m c ⟨4 * (t.val / 4) + s.val, Pipeline.run_point_lt_of_flush t h s⟩ j := by
  rw [Pipeline.eq_sum_fin_of_reset_step_apply_of_flush (fun n h => (outsAt0 m c n h).2) 4 (fun _ => 0) (partOf m c)
    (fun t h j => by rw [outsAt0_A m c t h (by omega) (by omega)]; dsimp only; frame_out; exact pay2 m c t j)
    (fun t h j => by
      by_cases h2 : t.val % 4 = 3
      · rw [outsAt0_C m c t h (by omega) h2]; dsimp only; frame_out
        exact (pay3 m c t _ j).trans (congrArg (· + _) (held _ j))
      · rw [outsAt0_B m c t h (by omega) h2]; dsimp only; frame_out
        exact (pay3 m c t _ j).trans (congrArg (· + _) (held _ j)))
    t h j, zero_add]

/-- What is written back there is the accumulator, rounded to bf16; over the extended reals the same array. -/
theorem out_acc (h : t.val % 4 = 4 - 1) (j : S1408x1024.Idx) :
    (outsAt0 m c t.val t.isLt).1 j = (outsAt0 m c t.val t.isLt).2 j := by
  rw [outsAt0_C m c t (by omega) (by omega) h]
  dsimp only
  frame_out
  idx_vars j
  pointwise [k0_pay4]

theorem final2 : (dats m 0 c).arrAt 2 (cfgs 0).N
    = dwOut (m ((c : Thread nD τ).loc main_arg0)) (m ((c : Thread nD τ).loc main_arg1)) := by
  refine (dats m 0 c).arrAt_eq_of_covers 2 _ (by decide +kernel) fun t hf y => ?_
  blk_simp
  rw [after0_2, out_acc m c t ((flush0_2 t).mp hf), acc m c t ((flush0_2 t).mp hf)]
  idx_vars y
  rw [show ((cfg0.win 2).blk t).view.emb (ix2 y0 y1) = ix2 (row t y0) y1 by blk_ext [idx t, row]]
  have ht := lt8 t
  refine Fin.sum_mul_add_congr fun s r hl => ?_
  have hs := s.isLt
  refine congrArg₂ (· * ·) (congrArg _ (congrArg₂ ix2 (Fin.ext ?_) (Fin.ext ?_))) (congrArg _ (congrArg₂ ix2 (Fin.ext ?_) rfl))
  · show 2048 * ((4 * (t.val / 4) + s.val) % 4) + r.val = s.val * 2048 + r.val
    omega
  · show 1408 * ((4 * (t.val / 4) + s.val) / 4) + y0.val = 1408 * (t.val / 4) + y0.val
    omega
  · show 2048 * ((4 * (t.val / 4) + s.val) % 4) + r.val = s.val * 2048 + r.val
    omega

end Cert.DwFfnOutIdeal.Block

end

end
-- ==== Proof.DwFfnOut.Ref.lean ====
module

public import proofs.«01_k».proof.Proof.Gen.DwFfnOutRefIdeal.Read
public import proofs.«01_k».proof.Proof.DwFfnOut.Block

@[expose] public section

set_option maxRecDepth 16384

noncomputable section

open Idealize.ShloMosaic Idealize.ShloMosaic.TcCoe Idealize.SL.Sem

/-!
# What the reference of the weight gradient computes
-/

namespace Cert.DwFfnOutRefIdeal.RefValue
open Cert.DwFfnOutRefIdeal Cert.DwFfnOutRefIdeal.Gen Cert.DwFfnOutRefIdeal.Read
open Cert.DwFfnOutIdeal.Block (dwOut)

theorem dw_eq (x0 : FVec Ideal S8192x2816 .f32) (x1 : FVec Ideal S8192x1024 .f32) :
    val_main_v4 (F := Ideal) x0 x1 = dwOut x0 x1 := by
  funext i
  idx_vars i
  pointwise [val_main_v4, val_main_v3, val_main_v2, dwOut]
  exact Finset.sum_congr rfl fun k _ => mul_comm _ _

end Cert.DwFfnOutRefIdeal.RefValue

end

end
-- ==== Proof.DwFfnOut.Claim.lean ====
module

public import proofs.«01_k».proof.Defs
public import proofs.«01_k».proof.Proof.Gen.DwFfnOutIdeal.Value
public import proofs.«01_k».proof.Proof.Gen.DwFfnOutRefIdeal.Run
public import proofs.«01_k».proof.Proof.DwFfnOut.Ref

@[expose] public section

set_option maxRecDepth 16384

noncomputable section

open Idealize.ShloMosaic Idealize.ShloMosaic.TcCoe Idealize.SL.Sem

/-!
# The weight gradient's call computes the gradient
-/

namespace Cert.DwFfnOut.Claims
open Cert.DwFfnOutIdeal.Block Cert.DwFfnOutRefIdeal.RefValue Cert.DwFfnOutRefIdeal.Read

theorem algebraic : Cert.algebraic_DwFfnOutIdeal_DwFfnOutRefIdeal
    (hDwFfnOutIdeal := Cert.DwFfnOutIdeal.Gen.facts) (hDwFfnOutRefIdeal := Cert.DwFfnOutRefIdeal.Gen.facts) := by
  intro m g m' g' hpre hag
  refine ⟨fun c => (Cert.DwFfnOutIdeal.Gen.dats m 0 c).arrAt 2 (Cert.DwFfnOutIdeal.cfgs 0).N,
    Cert.DwFfnOutIdeal.Value.run_blocks m g,
    (θ_run _ _ _).mono (fun r h c => ?_) (Cert.DwFfnOutRefIdeal.Value.run m' g')⟩
  obtain ⟨h0, hk⟩ := h c
  obtain ⟨a0, a1⟩ := hag c
  refine ⟨h0.trans ?_, hk⟩
  exact (val_main_v4_eq _ _).trans ((congrArg₂ (val_main_v4 (F := Ideal)) a0 a1).trans ((dw_eq _ _).trans (final2 m c).symm))

end Cert.DwFfnOut.Claims

end

end
-- ==== Proof.Adamw.Block.lean ====
module

public import proofs.«01_k».proof.Proof.Gen.AdamwIdeal.Frame
public import Idealize.ShloMosaic.Lib.Pipeline.ValueKit

@[expose] public section

set_option maxRecDepth 16384

noncomputable section

open Idealize.ShloMosaic Idealize.ShloMosaic.TcCoe Idealize.SL.Sem

/-!
# What the optimiser's call leaves in its four result arrays
-/

namespace Cert.AdamwIdeal.Block
open Cert.AdamwIdeal Cert.AdamwIdeal.Gen

/-- The gradient: the sum of the eight parts. -/
def grad (x : FVec Ideal S8x352x1024 .f32) : FVec Ideal S1x352x1024 .f32 := fun i => ∑ k : Fin 8, x (ix3 k (i 1) (i 2))

/-- The first moment after the step. -/
def mom (x : FVec Ideal S8x352x1024 .f32) (a : FVec Ideal S1x352x1024 .f32) : FVec Ideal S1x352x1024 .f32 := fun i =>
  Ideal.ofBits .f32 0x3F666666#32 * a i + Ideal.ofBits .f32 0x3DCCCCCD#32 * grad x i

/-- The second moment after the step. -/
def sqm (x : FVec Ideal S8x352x1024 .f32) (b : FVec Ideal S1x352x1024 .f32) : FVec Ideal S1x352x1024 .f32 := fun i =>
  Ideal.ofBits .f32 0x3F7FBE77#32 * b i + Ideal.ofBits .f32 0x3A83126F#32 * (grad x i * grad x i)

/-- What the step adds to the weight. -/
def delta (x : FVec Ideal S8x352x1024 .f32) (w a b : FVec Ideal S1x352x1024 .f32) : FVec Ideal S1x352x1024 .f32 := fun i =>
  Ideal.ofBits .f32 0xBA83126F#32 * (Ideal.div (Ideal.div (mom x a i) (Ideal.ofBits .f32 0x3F26BD02#32))
      (Ideal.sqrt (Ideal.div (sqm x b i) (Ideal.ofBits .f32 0x3C231ACC#32)) + Ideal.ofBits .f32 0x322BCC77#32)
    + Ideal.ofBits .f32 0x3C23D70A#32 * w i)

variable (m : (ℓ : Loc nD τ sig) → Buf (Elt Ideal) ℓ)

/-- The blocks the grid's points read and write. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (c : Dev nD) (t : Fin cfg0.N)

theorem lt2 (t : Fin cfg0.N) : t.val < 2 := lt_of_lt_of_eq t.isLt N_0

/-- The array's row that is row `r` of the point's tile. -/
def row (t : Fin cfg0.N) (r : Fin 176) : Fin 352 := ⟨176 * t.val + (r : ℕ), by have := lt2 t; omega⟩

theorem g_at (k : Fin 8) (r : Fin 176) (j : Fin 1024) :
    iblk m c 0 t (ix3 k r j) = m ((c : Thread nD τ).loc main_arg0) (ix3 k (row t r) j) := by
  pointwise [row]
  blk_point [iblk, V, idx t]

theorem w_at (r : Fin 176) (j : Fin 1024) :
    iblk m c 1 t (ix3 (0 : Fin 1) r j) = m ((c : Thread nD τ).loc main_arg1) (ix3 (0 : Fin 1) (row t r) j) := by
  pointwise [row]
  blk_point [iblk, V, idx t]

theorem a_at (r : Fin 176) (j : Fin 1024) :
    iblk m c 2 t (ix3 (0 : Fin 1) r j) = m ((c : Thread nD τ).loc main_arg2) (ix3 (0 : Fin 1) (row t r) j) := by
  pointwise [row]
  blk_point [iblk, V, idx t]

theorem b_at (r : Fin 176) (j : Fin 1024) :
    iblk m c 3 t (ix3 (0 : Fin 1) r j) = m ((c : Thread nD τ).loc main_arg3) (ix3 (0 : Fin 1) (row t r) j) := by
  pointwise [row]
  blk_point [iblk, V, idx t]

/-- The sum of the eight parts, at an index of the tile. -/
theorem sum_at (r : Fin 176) (j : Fin 1024) :
    k0_pay8 (iblk m c 0 t) (iblk m c 1 t) (iblk m c 2 t) (iblk m c 3 t) (ix2 r j)
      = grad (m ((c : Thread nD τ).loc main_arg0)) (ix3 (0 : Fin 1) (row t r) j) := by
  pointwise [k0_pay8, k0_pay3, grad]
  simp only [g_at, Fin.sum_univ_eight]

theorem final4 : (dats m 0 c).arrAt 4 (cfgs 0).N = grad (m ((c : Thread nD τ).loc main_arg0)) := by
  refine (dats m 0 c).arrAt_eq_of_covers 4 _ (by decide +kernel) fun t _ y => ?_
  blk_simp
  rw [after0_4]
  frame_out
  idx_vars y
  rw [show ((cfg0.win 4).blk t).view.emb (ix3 y0 y1 y2) = ix3 (0 : Fin 1) (row t y1) y2 by blk_ext [idx t, row]]
  rw [← sum_at m c t]
  pointwise [k0_pay6]

theorem final6 : (dats m 0 c).arrAt 6 (cfgs 0).N
    = mom (m ((c : Thread nD τ).loc main_arg0)) (m ((c : Thread nD τ).loc main_arg2)) := by
  refine (dats m 0 c).arrAt_eq_of_covers 6 _ (by decide +kernel) fun t _ y => ?_
  blk_simp
  rw [after0_6]
  frame_out
  idx_vars y
  rw [show ((cfg0.win 6).blk t).view.emb (ix3 y0 y1 y2) = ix3 (0 : Fin 1) (row t y1) y2 by blk_ext [idx t, row]]
  pointwise [k0_pay1, k0_pay4, mom]
  simp only [sum_at, a_at]

theorem final7 : (dats m 0 c).arrAt 7 (cfgs 0).N
    = sqm (m ((c : Thread nD τ).loc main_arg0)) (m ((c : Thread nD τ).loc main_arg3)) := by
  refine (dats m 0 c).arrAt_eq_of_covers 7 _ (by decide +kernel) fun t _ y => ?_
  blk_simp
  rw [after0_7]
  frame_out
  idx_vars y
  rw [show ((cfg0.win 7).blk t).view.emb (ix3 y0 y1 y2) = ix3 (0 : Fin 1) (row t y1) y2 by blk_ext [idx t, row]]
  pointwise [k0_pay2, k0_pay5, sqm]
  simp only [sum_at, b_at]

theorem final5 : (dats m 0 c).arrAt 5 (cfgs 0).N
    = delta (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  frame_out
  idx_vars y
  rw [show ((cfg0.win 5).blk t).view.emb (ix3 y0 y1 y2) = ix3 (0 : Fin 1) (row t y1) y2 by blk_ext [idx t, row]]
  pointwise [k0_pay7, k0_pay4, k0_pay5, delta, mom, sqm]
  simp only [sum_at, a_at, b_at, w_at]

end Cert.AdamwIdeal.Block

end

end
-- ==== Proof.Adamw.Ref.lean ====
module

public import proofs.«01_k».proof.Proof.Gen.AdamwRefIdeal.Read
public import proofs.«01_k».proof.Proof.Adamw.Block

@[expose] public section

set_option maxRecDepth 16384

noncomputable section

open Idealize.ShloMosaic Idealize.ShloMosaic.TcCoe Idealize.SL.Sem

/-!
# What the reference of the optimiser's step computes
-/

namespace Cert.AdamwRefIdeal.RefValue
open Cert.AdamwRefIdeal Cert.AdamwRefIdeal.Gen Cert.AdamwRefIdeal.Read
open Cert.AdamwIdeal.Block (grad mom sqm delta)

theorem grad_eq (x0 : FVec Ideal S8x352x1024 .f32) : val_main_v1 (F := Ideal) x0 = grad x0 := by
  funext i
  idx_vars i
  pointwise [val_main_v1, val_main_v0, val_main_cst, grad]

theorem mom_eq (x0 : FVec Ideal S8x352x1024 .f32) (x2 : FVec Ideal S1x352x1024 .f32) :
    val_main_v6 (F := Ideal) x0 x2 = mom x0 x2 := by
  funext i
  rw [mom, ← grad_eq]
  idx_vars i
  pointwise [val_main_v6, val_main_v5, val_main_v4, val_main_cst_1, val_main_v3, val_main_v2, val_main_cst_0]

theorem sqm_eq (x0 : FVec Ideal S8x352x1024 .f32) (x3 : FVec Ideal S1x352x1024 .f32) :
    val_main_v12 (F := Ideal) x0 x3 = sqm x0 x3 := by
  funext i
  rw [sqm, ← grad_eq]
  idx_vars i
  pointwise [val_main_v12, val_main_v11, val_main_v10, val_main_cst_3, val_main_v9, val_main_v8, val_main_v7, val_main_cst_2]

theorem delta_eq (x0 : FVec Ideal S8x352x1024 .f32) (x1 x2 x3 : FVec Ideal S1x352x1024 .f32) :
    val_main_v25 (F := Ideal) x0 x1 x2 x3 = delta x0 x1 x2 x3 := by
  funext i
  rw [delta, ← mom_eq, ← sqm_eq]
  idx_vars i
  pointwise [val_main_v25, val_main_v24, val_main_cst_8, val_main_v23, val_main_v22, val_main_v21, val_main_cst_7, val_main_v20,
    val_main_v19, val_main_v18, val_main_cst_6, val_main_v17, val_main_v16, val_main_v15, val_main_cst_5, val_main_v14,
    val_main_v13, val_main_cst_4]

end Cert.AdamwRefIdeal.RefValue

end

end
-- ==== Proof.Adamw.Claim.lean ====
module

public import proofs.«01_k».proof.Defs
public import proofs.«01_k».proof.Proof.Gen.AdamwIdeal.Value
public import proofs.«01_k».proof.Proof.Gen.AdamwRefIdeal.Run
public import proofs.«01_k».proof.Proof.Adamw.Ref

@[expose] public section

set_option maxRecDepth 16384

noncomputable section

open Idealize.ShloMosaic Idealize.ShloMosaic.TcCoe Idealize.SL.Sem

/-!
# The optimiser's call computes the AdamW step
-/

namespace Cert.Adamw.Claims
open Cert.AdamwIdeal.Block Cert.AdamwRefIdeal.RefValue Cert.AdamwRefIdeal.Read

/-- A function of four arguments at equal arguments. -/
theorem same4 {α0 α1 α2 α3 β : Type} (f : α0 → α1 → α2 → α3 → β) {x0 y0 : α0} {x1 y1 : α1} {x2 y2 : α2} {x3 y3 : α3}
    (h0 : x0 = y0) (h1 : x1 = y1) (h2 : x2 = y2) (h3 : x3 = y3) : f x0 x1 x2 x3 = f y0 y1 y2 y3 := by
  subst h0 h1 h2 h3; rfl

theorem algebraic : Cert.algebraic_AdamwIdeal_AdamwRefIdeal
    (hAdamwIdeal := Cert.AdamwIdeal.Gen.facts) (hAdamwRefIdeal := Cert.AdamwRefIdeal.Gen.facts) := by
  intro m g m' g' hpre hag
  refine ⟨fun c => (Cert.AdamwIdeal.Gen.dats m 0 c).arrAt 4 (Cert.AdamwIdeal.cfgs 0).N,
    fun c => (Cert.AdamwIdeal.Gen.dats m 0 c).arrAt 5 (Cert.AdamwIdeal.cfgs 0).N,
    fun c => (Cert.AdamwIdeal.Gen.dats m 0 c).arrAt 6 (Cert.AdamwIdeal.cfgs 0).N,
    fun c => (Cert.AdamwIdeal.Gen.dats m 0 c).arrAt 7 (Cert.AdamwIdeal.cfgs 0).N,
    Cert.AdamwIdeal.Value.run_blocks m g,
    (θ_run _ _ _).mono (fun r h c => ?_) (Cert.AdamwRefIdeal.Value.run m' g')⟩
  obtain ⟨h0, h1, h2, h3, hk⟩ := h c
  obtain ⟨a0, a1, a2, a3⟩ := hag c
  refine ⟨h0.trans ?_, h1.trans ?_, h2.trans ?_, h3.trans ?_, hk⟩
  · exact (val_main_v1_eq _).trans ((congrArg (val_main_v1 (F := Ideal)) a0).trans ((grad_eq _).trans (final4 m c).symm))
  · exact (val_main_v25_eq _ _ _ _).trans ((same4 (val_main_v25 (F := Ideal)) a0 a1 a2 a3).trans ((delta_eq _ _ _ _).trans (final5 m c).symm))
  · exact (val_main_v6_eq _ _).trans ((congrArg₂ (val_main_v6 (F := Ideal)) a0 a2).trans ((mom_eq _ _).trans (final6 m c).symm))
  · exact (val_main_v12_eq _ _).trans ((congrArg₂ (val_main_v12 (F := Ideal)) a0 a3).trans ((sqm_eq _ _).trans (final7 m c).symm))

end Cert.Adamw.Claims

end

end
-- ==== Proof.SumSmall.Block.lean ====
module

public import proofs.«01_k».proof.Proof.Gen.SumSmallIdeal.Frame
public import Idealize.ShloMosaic.Lib.Pipeline.ValueKit

@[expose] public section

set_option maxRecDepth 16384

noncomputable section

open Idealize.ShloMosaic Idealize.ShloMosaic.TcCoe Idealize.SL.Sem

/-!
# What the sum of the parts leaves in its result array
-/

namespace Cert.SumSmallIdeal.Block
open Cert.SumSmallIdeal Cert.SumSmallIdeal.Gen

/-- The sum of the eight parts. -/
def total (x : FVec Ideal S8x16x1024 .f32) : FVec Ideal S16x1024 .f32 := fun i => ∑ k : Fin 8, x (ix3 k (i 0) (i 1))

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

variable (c : Dev nD) (t : Fin cfg0.N)

theorem x_at (k : Fin 8) (r : Fin 16) (j : Fin 1024) :
    iblk m c 0 t (ix3 k r j) = m ((c : Thread nD τ).loc main_arg0) (ix3 k r j) := by
  pointwise
  blk_point [iblk, V, idx t]

theorem final1 : (dats m 0 c).arrAt 1 (cfgs 0).N = total (m ((c : Thread nD τ).loc main_arg0)) := by
  refine (dats m 0 c).arrAt_eq_of_covers 1 _ (by decide +kernel) fun t _ y => ?_
  blk_simp
  rw [after0_1]
  frame_out
  idx_vars y
  rw [show ((cfg0.win 1).blk t).view.emb (ix2 y0 y1) = ix2 y0 y1 by blk_ext [idx t]]
  pointwise [k0_pay1, total]
  simp only [x_at, Fin.sum_univ_eight]

end Cert.SumSmallIdeal.Block

end

end
-- ==== Proof.SumSmall.Ref.lean ====
module

public import proofs.«01_k».proof.Proof.Gen.SumSmallRefIdeal.Read
public import proofs.«01_k».proof.Proof.SumSmall.Block

@[expose] public section

set_option maxRecDepth 16384

noncomputable section

open Idealize.ShloMosaic Idealize.ShloMosaic.TcCoe Idealize.SL.Sem

/-!
# What the reference of the sum computes
-/

namespace Cert.SumSmallRefIdeal.RefValue
open Cert.SumSmallRefIdeal Cert.SumSmallRefIdeal.Gen Cert.SumSmallRefIdeal.Read
open Cert.SumSmallIdeal.Block (total)

theorem total_eq (x0 : FVec Ideal S8x16x1024 .f32) : val_main_v0 (F := Ideal) x0 = total x0 := by
  funext i
  idx_vars i
  pointwise [val_main_v0, val_main_cst, total]

end Cert.SumSmallRefIdeal.RefValue

end

end
-- ==== Proof.SumSmall.Claim.lean ====
module

public import proofs.«01_k».proof.Defs
public import proofs.«01_k».proof.Proof.Gen.SumSmallIdeal.Value
public import proofs.«01_k».proof.Proof.Gen.SumSmallRefIdeal.Run
public import proofs.«01_k».proof.Proof.SumSmall.Ref

@[expose] public section

set_option maxRecDepth 16384

noncomputable section

open Idealize.ShloMosaic Idealize.ShloMosaic.TcCoe Idealize.SL.Sem

/-!
# The sum of the parts computes the sum
-/

namespace Cert.SumSmall.Claims
open Cert.SumSmallIdeal.Block Cert.SumSmallRefIdeal.RefValue Cert.SumSmallRefIdeal.Read

theorem algebraic : Cert.algebraic_SumSmallIdeal_SumSmallRefIdeal
    (hSumSmallIdeal := Cert.SumSmallIdeal.Gen.facts) (hSumSmallRefIdeal := Cert.SumSmallRefIdeal.Gen.facts) := by
  intro m g m' g' hpre hag
  refine ⟨fun c => (Cert.SumSmallIdeal.Gen.dats m 0 c).arrAt 1 (Cert.SumSmallIdeal.cfgs 0).N,
    Cert.SumSmallIdeal.Value.run_blocks m g,
    (θ_run _ _ _).mono (fun r h c => ?_) (Cert.SumSmallRefIdeal.Value.run m' g')⟩
  obtain ⟨h0, hk⟩ := h c
  obtain a0 := hag c
  refine ⟨h0.trans ?_, hk⟩
  exact (val_main_v0_eq _).trans ((congrArg (val_main_v0 (F := Ideal)) a0).trans ((total_eq _).trans (final1 m c).symm))

end Cert.SumSmall.Claims

end

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.NormX
public import proofs.«01_k».proof.Proof.Gen.NormX.Skeleton
public import proofs.«01_k».proof.Proof.Gen.NormX.Launch
public import proofs.«01_k».proof.Proof.Gen.NormX.Points
public import proofs.«01_k».proof.Proof.Gen.NormX.Frame
public import proofs.«01_k».proof.Proof.Gen.NormXIdeal
public import proofs.«01_k».proof.Proof.Gen.NormXIdeal.Skeleton
public import proofs.«01_k».proof.Proof.Gen.NormXIdeal.Launch
public import proofs.«01_k».proof.Proof.Gen.NormXIdeal.Points
public import proofs.«01_k».proof.Proof.Gen.NormXIdeal.Frame
public import proofs.«01_k».proof.Proof.Gen.NormXRefIdeal
public import proofs.«01_k».proof.Proof.Gen.NormXIdeal.Value
public import proofs.«01_k».proof.Proof.Gen.NormXRefIdeal.Run
public import proofs.«01_k».proof.Proof.Gen.NormXRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.Pre_gate_finite
public import proofs.«01_k».proof.Proof.Gen.Pre_ffn_in_finite
public import proofs.«01_k».proof.Proof.Gen.Pre_loss_finite
public import proofs.«01_k».proof.Proof.Gen.Pre_in_proj_finite
public import proofs.«01_k».proof.Proof.Gen.Pre_attn_finite
public import proofs.«01_k».proof.Proof.Gen.GateIdeal.Value
public import proofs.«01_k».proof.Proof.Gen.GateRefIdeal.Run
public import proofs.«01_k».proof.Proof.Gen.GateRefIdeal.Read
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gate.Claim
public import proofs.«01_k».proof.Proof.Conv.Claim
public import proofs.«01_k».proof.Proof.FfnIn.Claim
public import proofs.«01_k».proof.Proof.Loss.Claim
public import proofs.«01_k».proof.Proof.InProj.Claim
public import proofs.«01_k».proof.Proof.AttnFwd.Claim
public import proofs.«01_k».proof.Proof.NormX.Claim
public import proofs.«01_k».proof.Proof.NormFfn.Claim
public import proofs.«01_k».proof.Proof.Gen.NormFfn
public import proofs.«01_k».proof.Proof.Gen.NormFfn.Frame
public import proofs.«01_k».proof.Proof.Gen.NormFfnIdeal
public import proofs.«01_k».proof.Proof.Gen.NormFfnRefIdeal
public import proofs.«01_k».proof.Proof.ConvFwd.Claim
public import proofs.«01_k».proof.Proof.MergeFwd.Claim
public import proofs.«01_k».proof.Proof.Gen.InProjFwd
public import proofs.«01_k».proof.Proof.Gen.InProjFwd.Skeleton
public import proofs.«01_k».proof.Proof.Gen.InProjFwd.Launch
public import proofs.«01_k».proof.Proof.Gen.InProjFwd.Points
public import proofs.«01_k».proof.Proof.Gen.InProjFwd.Frame
public import proofs.«01_k».proof.Proof.Gen.InProjFwdIdeal
public import proofs.«01_k».proof.Proof.Gen.InProjFwdIdeal.Skeleton
public import proofs.«01_k».proof.Proof.Gen.InProjFwdIdeal.Launch
public import proofs.«01_k».proof.Proof.Gen.InProjFwdIdeal.Points
public import proofs.«01_k».proof.Proof.Gen.InProjFwdIdeal.Frame
public import proofs.«01_k».proof.Proof.Gen.InProjFwdRefIdeal
public import proofs.«01_k».proof.Proof.Gen.InProjFwdIdeal.Value
public import proofs.«01_k».proof.Proof.Gen.InProjFwdRefIdeal.Run
public import proofs.«01_k».proof.Proof.Gen.InProjFwdRefIdeal.Read
public import proofs.«01_k».proof.Proof.Gen.DwFfnOut
public import proofs.«01_k».proof.Proof.Gen.DwFfnOut.Skeleton
public import proofs.«01_k».proof.Proof.Gen.DwFfnOut.Launch
public import proofs.«01_k».proof.Proof.Gen.DwFfnOut.Points
public import proofs.«01_k».proof.Proof.Gen.DwFfnOut.Frame
public import proofs.«01_k».proof.Proof.Gen.DwFfnOutIdeal
public import proofs.«01_k».proof.Proof.Gen.DwFfnOutIdeal.Skeleton
public import proofs.«01_k».proof.Proof.Gen.DwFfnOutIdeal.Launch
public import proofs.«01_k».proof.Proof.Gen.DwFfnOutIdeal.Points
public import proofs.«01_k».proof.Proof.Gen.DwFfnOutIdeal.Frame
public import proofs.«01_k».proof.Proof.Gen.DwFfnOutRefIdeal
public import proofs.«01_k».proof.Proof.Gen.DwFfnOutIdeal.Value
public import proofs.«01_k».proof.Proof.Gen.DwFfnOutRefIdeal.Run
public import proofs.«01_k».proof.Proof.Gen.DwFfnOutRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Quiescent
public import proofs.«01_k».proof.Proof.Gen.AttnFwdRefIdeal.Run
public import proofs.«01_k».proof.Proof.Gen.AttnFwdRefIdeal.Read
public import Idealize.ShloMosaic.Adequacy
public import Idealize.ShloMosaic.Init
public import proofs.«01_k».proof.Proof.InProjFwd.Claim
public import proofs.«01_k».proof.Proof.DwFfnOut.Claim
public import proofs.«01_k».proof.Proof.Adamw.Claim
public import proofs.«01_k».proof.Proof.SumSmall.Claim

@[expose] public section

noncomputable section

namespace Cert.Proof

open Idealize.ShloMosaic Idealize.SL.Sem Cert.Gate

/-- The reference of Gate ends, with its arguments as they were and every counter at zero. -/
theorem frame_GateRef : Cert.quiescent_GateRefIdeal (hGateRefIdeal := Cert.GateRefIdeal.Gen.facts) := fun m ρ _ =>
  (θ_run Cert.GateRefIdeal.defs _ _).mono (fun r h => ⟨fun c => (h c).2.2.2.2.2, sem_eq_zero_of_no_sems (by decide) r.2⟩)
    (Cert.GateRefIdeal.Value.run (F := Ideal) m ρ)

/-- The reference of Conv ends, with its arguments as they were and every counter at zero. -/
theorem frame_ConvRef : Cert.quiescent_ConvRefIdeal (hConvRefIdeal := Cert.ConvRefIdeal.Gen.facts) := fun m ρ _ =>
  (θ_run Cert.ConvRefIdeal.defs _ _).mono (fun r h => ⟨fun c => (h c).2.2.2, sem_eq_zero_of_no_sems (by decide) r.2⟩)
    (Cert.ConvRefIdeal.Value.run (F := Ideal) m ρ)

/-- The reference of FfnIn ends, with its arguments as they were and every counter at zero. -/
theorem frame_FfnInRef : Cert.quiescent_FfnInRefIdeal (hFfnInRefIdeal := Cert.FfnInRefIdeal.Gen.facts) := fun m ρ _ =>
  (θ_run Cert.FfnInRefIdeal.defs _ _).mono (fun r h => ⟨fun c => (h c).2.2.2, sem_eq_zero_of_no_sems (by decide) r.2⟩)
    (Cert.FfnInRefIdeal.Value.run (F := Ideal) m ρ)

/-- The reference of Loss ends, with its arguments as they were and every counter at zero. -/
theorem frame_LossRef : Cert.quiescent_LossRefIdeal (hLossRefIdeal := Cert.LossRefIdeal.Gen.facts) := fun m ρ _ =>
  (θ_run Cert.LossRefIdeal.defs _ _).mono (fun r h => ⟨fun c => (h c).2.2.2.2.2.2.2, sem_eq_zero_of_no_sems (by decide) r.2⟩)
    (Cert.LossRefIdeal.Value.run (F := Ideal) m ρ)

/-- The reference of InProj ends, with its arguments as they were and every counter at zero. -/
theorem frame_InProjRef : Cert.quiescent_InProjRefIdeal (hInProjRefIdeal := Cert.InProjRefIdeal.Gen.facts) := fun m ρ _ =>
  (θ_run Cert.InProjRefIdeal.defs _ _).mono (fun r h => ⟨fun c => (h c).2.2.2, sem_eq_zero_of_no_sems (by decide) r.2⟩)
    (Cert.InProjRefIdeal.Value.run (F := Ideal) m ρ)

/-- The reference of AttnFwd ends, with its arguments as they were and every counter at zero. -/
theorem frame_AttnFwdRef : Cert.quiescent_AttnFwdRefIdeal (hAttnFwdRefIdeal := Cert.AttnFwdRefIdeal.Gen.facts) := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)

/-- The reference of NormX ends, with its arguments as they were and every counter at zero. -/
theorem frame_NormXRef : Cert.quiescent_NormXRefIdeal (hNormXRefIdeal := Cert.NormXRefIdeal.Gen.facts) := fun m ρ _ =>
  (θ_run Cert.NormXRefIdeal.defs _ _).mono (fun r h => ⟨fun c => (h c).2, sem_eq_zero_of_no_sems (by decide) r.2⟩)
    (Cert.NormXRefIdeal.Value.run (F := Ideal) m ρ)

/-- The reference of ConvFwd ends, with its arguments as they were and every counter at zero. -/
theorem frame_ConvFwdRef : Cert.quiescent_ConvFwdRefIdeal (hConvFwdRefIdeal := Cert.ConvFwdRefIdeal.Gen.facts) := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- The reference of MergeFwd ends, with its arguments as they were and every counter at zero. -/
theorem frame_MergeFwdRef : Cert.quiescent_MergeFwdRefIdeal (hMergeFwdRefIdeal := Cert.MergeFwdRefIdeal.Gen.facts) := fun m ρ _ =>
  (θ_run Cert.MergeFwdRefIdeal.defs _ _).mono (fun r h => ⟨fun c => (h c).2.2, sem_eq_zero_of_no_sems (by decide) r.2⟩)
    (Cert.MergeFwdRefIdeal.Value.run (F := Ideal) m ρ)

/-- The reference of NormFfn ends, with its arguments as they were and every counter at zero. -/
theorem frame_NormFfnRef : Cert.quiescent_NormFfnRefIdeal (hNormFfnRefIdeal := Cert.NormFfnRefIdeal.Gen.facts) := fun m ρ _ =>
  (θ_run Cert.NormFfnRefIdeal.defs _ _).mono (fun r h => ⟨fun c => (h c).2.2, sem_eq_zero_of_no_sems (by decide) r.2⟩)
    (Cert.NormFfnRefIdeal.Value.run (F := Ideal) m ρ)

/-- The reference of InProjFwd ends, with its arguments as they were and every counter at zero. -/
theorem frame_InProjFwdRef : Cert.quiescent_InProjFwdRefIdeal (hInProjFwdRefIdeal := Cert.InProjFwdRefIdeal.Gen.facts) := fun m ρ _ =>
  (θ_run Cert.InProjFwdRefIdeal.defs _ _).mono (fun r h => ⟨fun c => (h c).2, sem_eq_zero_of_no_sems (by decide) r.2⟩)
    (Cert.InProjFwdRefIdeal.Value.run (F := Ideal) m ρ)

/-- The reference of DwFfnOut ends, with its arguments as they were and every counter at zero. -/
theorem frame_DwFfnOutRef : Cert.quiescent_DwFfnOutRefIdeal (hDwFfnOutRefIdeal := Cert.DwFfnOutRefIdeal.Gen.facts) := fun m ρ _ =>
  (θ_run Cert.DwFfnOutRefIdeal.defs _ _).mono (fun r h => ⟨fun c => (h c).2, sem_eq_zero_of_no_sems (by decide) r.2⟩)
    (Cert.DwFfnOutRefIdeal.Value.run (F := Ideal) m ρ)

/-- The reference of Adamw ends, with its arguments as they were and every counter at zero. -/
theorem frame_AdamwRef : Cert.quiescent_AdamwRefIdeal (hAdamwRefIdeal := Cert.AdamwRefIdeal.Gen.facts) := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

/-- The reference of SumSmall ends, with its arguments as they were and every counter at zero. -/
theorem frame_SumSmallRef : Cert.quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

theorem claim : Cert.Claim := ⟨Cert.Gate.Gen.facts, Cert.GateIdeal.Gen.facts, Cert.GateRefIdeal.Gen.facts, Cert.Conv.Gen.facts, Cert.ConvIdeal.Gen.facts, Cert.ConvRefIdeal.Gen.facts, Cert.FfnIn.Gen.facts, Cert.FfnInIdeal.Gen.facts, Cert.FfnInRefIdeal.Gen.facts, Cert.Loss.Gen.facts, Cert.LossIdeal.Gen.facts, Cert.LossRefIdeal.Gen.facts, Cert.InProj.Gen.facts, Cert.InProjIdeal.Gen.facts, Cert.InProjRefIdeal.Gen.facts, Cert.AttnFwd.Gen.facts, Cert.AttnFwdIdeal.Gen.facts, Cert.AttnFwdRefIdeal.Gen.facts, Cert.NormX.Gen.facts, Cert.NormXIdeal.Gen.facts, Cert.NormXRefIdeal.Gen.facts, Cert.ConvFwd.Gen.facts, Cert.ConvFwdIdeal.Gen.facts, Cert.ConvFwdRefIdeal.Gen.facts, Cert.MergeFwd.Gen.facts, Cert.MergeFwdIdeal.Gen.facts, Cert.MergeFwdRefIdeal.Gen.facts, Cert.NormFfn.Gen.facts, Cert.NormFfnIdeal.Gen.facts, Cert.NormFfnRefIdeal.Gen.facts, Cert.InProjFwd.Gen.facts, Cert.InProjFwdIdeal.Gen.facts, Cert.InProjFwdRefIdeal.Gen.facts, Cert.DwFfnOut.Gen.facts, Cert.DwFfnOutIdeal.Gen.facts, Cert.DwFfnOutRefIdeal.Gen.facts, Cert.Adamw.Gen.facts, Cert.AdamwIdeal.Gen.facts, Cert.AdamwRefIdeal.Gen.facts, Cert.SumSmall.Gen.facts, Cert.SumSmallIdeal.Gen.facts, Cert.SumSmallRefIdeal.Gen.facts, Cert.Pre_gate_finite.Gen.facts, Cert.Pre_ffn_in_finite.Gen.facts, Cert.Pre_loss_finite.Gen.facts, Cert.Pre_in_proj_finite.Gen.facts, Cert.Pre_attn_finite.Gen.facts,
  fun m ρ _ => Cert.Gate.Gen.frame m ρ,
  fun m ρ _ => Cert.GateIdeal.Gen.frame m ρ,
  fun m ρ _ => Cert.GateIdeal.Gen.frame m ρ,
  frame_GateRef,
  fun m ρ _ => frame_GateRef m ρ trivial,
  fun m ρ _ => Cert.Conv.Gen.frame m ρ,
  fun m ρ _ => Cert.ConvIdeal.Gen.frame m ρ,
  frame_ConvRef,
  fun m ρ _ => Cert.FfnIn.Gen.frame m ρ,
  fun m ρ _ => Cert.FfnInIdeal.Gen.frame m ρ,
  fun m ρ _ => Cert.FfnInIdeal.Gen.frame m ρ,
  frame_FfnInRef,
  fun m ρ _ => frame_FfnInRef m ρ trivial,
  fun m ρ _ => Cert.Loss.Gen.frame m ρ,
  fun m ρ _ => Cert.LossIdeal.Gen.frame m ρ,
  fun m ρ _ => Cert.LossIdeal.Gen.frame m ρ,
  frame_LossRef,
  fun m ρ _ => frame_LossRef m ρ trivial,
  fun m ρ _ => Cert.InProj.Gen.frame m ρ,
  fun m ρ _ => Cert.InProjIdeal.Gen.frame m ρ,
  fun m ρ _ => Cert.InProjIdeal.Gen.frame m ρ,
  frame_InProjRef,
  fun m ρ _ => frame_InProjRef m ρ trivial,
  fun m ρ _ => Cert.AttnFwd.Gen.frame m ρ,
  fun m ρ _ => Cert.AttnFwdIdeal.Gen.frame m ρ,
  fun m ρ _ => Cert.AttnFwdIdeal.Gen.frame m ρ,
  frame_AttnFwdRef,
  fun m ρ _ => frame_AttnFwdRef m ρ trivial,
  fun m ρ _ => Cert.NormX.Gen.frame m ρ,
  fun m ρ _ => Cert.NormXIdeal.Gen.frame m ρ,
  frame_NormXRef,
  fun m ρ _ => Cert.ConvFwd.Gen.frame m ρ,
  fun m ρ _ => Cert.ConvFwdIdeal.Gen.frame m ρ,
  frame_ConvFwdRef,
  fun m ρ _ => Cert.MergeFwd.Gen.frame m ρ,
  fun m ρ _ => Cert.MergeFwdIdeal.Gen.frame m ρ,
  frame_MergeFwdRef,
  Cert.NormFfn.Claims.frame_kernel,
  Cert.NormFfn.Claims.frame_ideal,
  frame_NormFfnRef,
  fun m ρ _ => Cert.InProjFwd.Gen.frame m ρ,
  fun m ρ _ => Cert.InProjFwdIdeal.Gen.frame m ρ,
  frame_InProjFwdRef,
  fun m ρ _ => Cert.DwFfnOut.Gen.frame m ρ,
  fun m ρ _ => Cert.DwFfnOutIdeal.Gen.frame m ρ,
  frame_DwFfnOutRef,
  fun m ρ _ => Cert.Adamw.Gen.frame m ρ,
  fun m ρ _ => Cert.AdamwIdeal.Gen.frame m ρ,
  frame_AdamwRef,
  fun m ρ _ => Cert.SumSmall.Gen.frame m ρ,
  fun m ρ _ => Cert.SumSmallIdeal.Gen.frame m ρ,
  frame_SumSmallRef,
  Cert.Gate.Claims.preserves,
  Cert.Gate.Claims.algebraic,
  trivial,
  Cert.Conv.Claims.algebraic,
  trivial,
  Cert.FfnIn.Claims.algebraic,
  trivial,
  Cert.Loss.Claims.algebraic,
  trivial,
  Cert.InProj.Claims.algebraic,
  Cert.AttnFwd.Claims.preserves,
  Cert.AttnFwd.Claims.algebraic,
  trivial,
  Cert.NormX.Claims.algebraic,
  trivial,
  Cert.ConvFwd.Claims.algebraic,
  Cert.MergeFwd.Claims.preserves,
  Cert.MergeFwd.Claims.algebraic,
  trivial,
  Cert.NormFfn.Claims.algebraic,
  trivial,
  Cert.InProjFwd.Claims.algebraic,
  trivial,
  Cert.DwFfnOut.Claims.algebraic,
  trivial,
  Cert.Adamw.Claims.algebraic,
  trivial,
  Cert.SumSmall.Claims.algebraic⟩

end Cert.Proof

end
